-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def preserves_Kernel_KernelIdeal : Prop :=
  IdealRules.named_const.Statement Cert.KernelIdeal.κ "sb_exit" .f32 0xC2B00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v135)) (v1 : (c : Dev Cert.Kernel2Ideal.nD) → Buf (Elt Ideal) ((c.tc : Thread Cert.Kernel2Ideal.nD Cert.Kernel2Ideal.τ).loc Cert.Kernel2Ideal.main_v136)) (v2 : (c : Dev Cert.Kernel2Ideal.nD) → Buf (Elt Ideal) ((c.tc : Thread Cert.Kernel2Ideal.nD Cert.Kernel2Ideal.τ).loc Cert.Kernel2Ideal.main_v137)) (v3 : (c : Dev Cert.Kernel2Ideal.nD) → Buf (Elt Ideal) ((c.tc : Thread Cert.Kernel2Ideal.nD Cert.Kernel2Ideal.τ).loc Cert.Kernel2Ideal.main_v138)) (v4 : (c : Dev Cert.Kernel2Ideal.nD) → Buf (Elt Ideal) ((c.tc : Thread Cert.Kernel2Ideal.nD Cert.Kernel2Ideal.τ).loc Cert.Kernel2Ideal.main_v130)) (v5 : (c : Dev Cert.Kernel2Ideal.nD) → Buf (Elt Ideal) ((c.tc : Thread Cert.Kernel2Ideal.nD Cert.Kernel2Ideal.τ).loc Cert.Kernel2Ideal.main_v132)) (v6 : (c : Dev Cert.Kernel2Ideal.nD) → Buf (Elt Ideal) ((c.tc : Thread Cert.Kernel2Ideal.nD Cert.Kernel2Ideal.τ).loc Cert.Kernel2Ideal.main_v134)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v135) = v0 c
          ∧ r.2.mem ((c.tc : Thread Cert.Kernel2Ideal.nD Cert.Kernel2Ideal.τ).loc Cert.Kernel2Ideal.main_v136) = v1 c
          ∧ r.2.mem ((c.tc : Thread Cert.Kernel2Ideal.nD Cert.Kernel2Ideal.τ).loc Cert.Kernel2Ideal.main_v137) = v2 c
          ∧ r.2.mem ((c.tc : Thread Cert.Kernel2Ideal.nD Cert.Kernel2Ideal.τ).loc Cert.Kernel2Ideal.main_v138) = v3 c
          ∧ r.2.mem ((c.tc : Thread Cert.Kernel2Ideal.nD Cert.Kernel2Ideal.τ).loc Cert.Kernel2Ideal.main_v130) = v4 c
          ∧ r.2.mem ((c.tc : Thread Cert.Kernel2Ideal.nD Cert.Kernel2Ideal.τ).loc Cert.Kernel2Ideal.main_v132) = v5 c
          ∧ r.2.mem ((c.tc : Thread Cert.Kernel2Ideal.nD Cert.Kernel2Ideal.τ).loc Cert.Kernel2Ideal.main_v134) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v172) = v0 c
          ∧ r.2.mem ((c.tc : Thread Cert.Reference2Ideal.nD Cert.Reference2Ideal.τ).loc Cert.Reference2Ideal.main_v191) = v1 c
          ∧ r.2.mem ((c.tc : Thread Cert.Reference2Ideal.nD Cert.Reference2Ideal.τ).loc Cert.Reference2Ideal.main_v192) = v2 c
          ∧ r.2.mem ((c.tc : Thread Cert.Reference2Ideal.nD Cert.Reference2Ideal.τ).loc Cert.Reference2Ideal.main_v194) = v3 c
          ∧ r.2.mem ((c.tc : Thread Cert.Reference2Ideal.nD Cert.Reference2Ideal.τ).loc Cert.Reference2Ideal.main_v177) = v4 c
          ∧ r.2.mem ((c.tc : Thread Cert.Reference2Ideal.nD Cert.Reference2Ideal.τ).loc Cert.Reference2Ideal.main_v182) = v5 c
          ∧ r.2.mem ((c.tc : Thread Cert.Reference2Ideal.nD Cert.Reference2Ideal.τ).loc Cert.Reference2Ideal.main_v190) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v126)) (v1 : (c : Dev Cert.Kernel3Ideal.nD) → Buf (Elt Ideal) ((c.tc : Thread Cert.Kernel3Ideal.nD Cert.Kernel3Ideal.τ).loc Cert.Kernel3Ideal.main_v127)) (v2 : (c : Dev Cert.Kernel3Ideal.nD) → Buf (Elt Ideal) ((c.tc : Thread Cert.Kernel3Ideal.nD Cert.Kernel3Ideal.τ).loc Cert.Kernel3Ideal.main_v128)) (v3 : (c : Dev Cert.Kernel3Ideal.nD) → Buf (Elt Ideal) ((c.tc : Thread Cert.Kernel3Ideal.nD Cert.Kernel3Ideal.τ).loc Cert.Kernel3Ideal.main_v129)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v126) = v0 c
          ∧ r.2.mem ((c.tc : Thread Cert.Kernel3Ideal.nD Cert.Kernel3Ideal.τ).loc Cert.Kernel3Ideal.main_v127) = v1 c
          ∧ r.2.mem ((c.tc : Thread Cert.Kernel3Ideal.nD Cert.Kernel3Ideal.τ).loc Cert.Kernel3Ideal.main_v128) = v2 c
          ∧ r.2.mem ((c.tc : Thread Cert.Kernel3Ideal.nD Cert.Kernel3Ideal.τ).loc Cert.Kernel3Ideal.main_v129) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v172) = v0 c
          ∧ r.2.mem ((c.tc : Thread Cert.Reference3Ideal.nD Cert.Reference3Ideal.τ).loc Cert.Reference3Ideal.main_v176) = v1 c
          ∧ r.2.mem ((c.tc : Thread Cert.Reference3Ideal.nD Cert.Reference3Ideal.τ).loc Cert.Reference3Ideal.main_v177) = v2 c
          ∧ r.2.mem ((c.tc : Thread Cert.Reference3Ideal.nD Cert.Reference3Ideal.τ).loc Cert.Reference3Ideal.main_v178) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8x4096x8x64 : Shape := ⟨4, ![8, 4096, 8, 64]⟩
abbrev S8x4096x2x8x64 : Shape := ⟨5, ![8, 4096, 2, 8, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x8x64 : S_.BroadcastsInDim S8x4096x2x8x64 (![] : Fin 0 → Fin S8x4096x2x8x64.rank)
  reducesTo_S8x4096x2x8x64_S_d0_1_2_3_4 : S8x4096x2x8x64.ReducesTo [0, 1, 2, 3, 4] S_

variable [Facts]

def fn {F : FTy → Type} [FloatOps F] (main_arg0 : FVec F S8x4096x8x64 .f32) (main_arg1 : FVec F S8x4096x2x8x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x8x64 .f32 := Host.absf main_arg1
  let main_cst_0 : FVec F S_ .f32 := constant S_ .f32 0x7F800000#32
  let main_v5 : FVec F S8x4096x2x8x64 .f32 := broadcastInDim S8x4096x2x8x64 ![] bcast_S_S8x4096x2x8x64 main_cst_0
  let main_v6 : IVec S8x4096x2x8x64 1 := cmpf .olt main_v4 main_v5
  let main_c_1 : IVec S_ 1 := constantI S_ 1 1#1
  let main_v7 : IVec S_ 1 := (fun x v => Host.reduce IntOp.andi x v reducesTo_S8x4096x2x8x64_S_d0_1_2_3_4 h_S_) main_v6 main_c_1
  let main_v8 : IVec S_ 1 := andi main_v3 main_v7
  main_v8
-- ==== Pre_finite2.lean ====
abbrev S8x4096x1024 : Shape := ⟨3, ![8, 4096, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1x1024x9216 : S_.BroadcastsInDim S1x1024x9216 (![] : Fin 0 → Fin S1x1024x9216.rank)
  reducesTo_S1x1024x9216_S_d0_1_2 : S1x1024x9216.ReducesTo [0, 1, 2] S_

variable [Facts]

def fn {F : FTy → Type} [FloatOps F] (main_arg0 : FVec F S8x4096x1024 .f32) (main_arg1 : FVec F S8x4096x1024 .f32) (main_arg2 : FVec F S8x1024 .f32) (main_arg3 : FVec F S128x1024 .f32) (main_arg4 : FVec F S1x1024x9216 .f32) (main_arg5 : FVec F S1x9216 .f32) (main_arg6 : FVec F S1x1024x5632 .f32) (main_arg7 : FVec F S1x2816x1024 .f32) (main_arg8 : FVec F S1x1024x2840 .f32) (main_arg9 : FVec F S1x1024x1024 .f32) (main_arg10 : FVec F S1x1024x5632 .f32) (main_arg11 : FVec F S1x2816x1024 .f32) (main_arg12 : FVec F S1x3x1024 .f32) (main_arg13 : FVec F S1x3x1024 .f32) : IVec S_ 1 :=
  let main_v0 : FVec F S8x1024 .f32 := Host.absf main_arg2
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1x1024x9216 .f32 := Host.absf main_arg4
  let main_cst_0 : FVec F S_ .f32 := constant S_ .f32 0x7F800000#32
  let main_v5 : FVec F S1x1024x9216 .f32 := broadcastInDim S1x1024x9216 ![] bcast_S_S1x1024x9216 main_cst_0
  let main_v6 : IVec S1x1024x9216 1 := cmpf .olt main_v4 main_v5
  let main_c_1 : IVec S_ 1 := constantI S_ 1 1#1
  let main_v7 : IVec S_ 1 := (fun x v => Host.reduce IntOp.andi x v reducesTo_S1x1024x9216_S_d0_1_2 h_S_) main_v6 main_c_1
  let main_v8 : IVec S_ 1 := andi main_v3 main_v7
  main_v8
-- ==== Pre_finite3.lean ====
abbrev S128x4x1024 : Shape := ⟨3, ![128, 4, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S1x128x512x2x2x64 : Shape := ⟨6, ![1, 128, 512, 2, 2, 64]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1x1024x9216 : S_.BroadcastsInDim S1x1024x9216 (![] : Fin 0 → Fin S1x1024x9216.rank)
  reducesTo_S1x1024x9216_S_d0_1_2 : S1x1024x9216.ReducesTo [0, 1, 2] S_

variable [Facts]

def fn {F : FTy → Type} [FloatOps F] (main_arg0 : FVec F S128x4x1024 .f32) (main_arg1 : FVec F S128x4x1024 .f32) (main_arg2 : FVec F S8x1024 .f32) (main_arg3 : FVec F S128x1024 .f32) (main_arg4 : FVec F S1x1024x9216 .f32) (main_arg5 : FVec F S1x9216 .f32) (main_arg6 : FVec F S1x1024x5632 .f32) (main_arg7 : FVec F S1x2816x1024 .f32) (main_arg8 : FVec F S1x1024x2840 .f32) (main_arg9 : FVec F S1x1024x1024 .f32) (main_arg10 : FVec F S1x1024x5632 .f32) (main_arg11 : FVec F S1x2816x1024 .f32) (main_arg12 : FVec F S1x3x1024 .f32) (main_arg13 : FVec F S1x3x1024 .f32) (main_arg14 : FVec F S1x128x512x2x2x64 .f32) : IVec S_ 1 :=
  let main_v0 : FVec F S128x1024 .f32 := Host.absf main_arg3
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1x1024x9216 .f32 := Host.absf main_arg4
  let main_cst_0 : FVec F S_ .f32 := constant S_ .f32 0x7F800000#32
  let main_v5 : FVec F S1x1024x9216 .f32 := broadcastInDim S1x1024x9216 ![] bcast_S_S1x1024x9216 main_cst_0
  let main_v6 : IVec S1x1024x9216 1 := cmpf .olt main_v4 main_v5
  let main_c_1 : IVec S_ 1 := constantI S_ 1 1#1
  let main_v7 : IVec S_ 1 := (fun x v => Host.reduce IntOp.andi x v reducesTo_S1x1024x9216_S_d0_1_2 h_S_) main_v6 main_c_1
  let main_v8 : IVec S_ 1 := andi main_v3 main_v7
  main_v8
-- ==== Kernel.lean ====
abbrev S8x4096x8x64 : Shape := ⟨4, ![8, 4096, 8, 64]⟩
abbrev S8x4096x2x8x64 : Shape := ⟨5, ![8, 4096, 2, 8, 64]⟩
abbrev S_ : Shape := ⟨0, ![]⟩
abbrev S32768x4x2x64 : Shape := ⟨4, ![32768, 4, 2, 64]⟩
abbrev S32768x4x1x64 : Shape := ⟨4, ![32768, 4, 1, 64]⟩
abbrev S32768x4x64 : Shape := ⟨3, ![32768, 4, 64]⟩
abbrev S32768x4x128 : Shape := ⟨3, ![32768, 4, 128]⟩
abbrev S32768x4x1x128 : Shape := ⟨4, ![32768, 4, 1, 128]⟩
abbrev S32768x4x2x128 : Shape := ⟨4, ![32768, 4, 2, 128]⟩
abbrev S32768x1024 : Shape := ⟨2, ![32768, 1024]⟩
abbrev S8x32x128x1024 : Shape := ⟨4, ![8, 32, 128, 1024]⟩
abbrev S8x32x1024x128 : Shape := ⟨4, ![8, 32, 1024, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S32768x512 : Shape := ⟨2, ![32768, 512]⟩
abbrev S128x1024 : Shape := ⟨2, ![128, 1024]⟩
abbrev S1x32x1024x128 : Shape := ⟨4, ![1, 32, 1024, 128]⟩
abbrev S128x512 : Shape := ⟨2, ![128, 512]⟩
abbrev S4x256x128 : Shape := ⟨3, ![4, 256, 128]⟩
abbrev S256x1 : Shape := ⟨2, ![256, 1]⟩
abbrev S1x256x128 : Shape := ⟨3, ![1, 256, 128]⟩
abbrev S1x1x128x128 : Shape := ⟨4, ![1, 1, 128, 128]⟩
abbrev S256 : Shape := ⟨1, ![256]⟩
abbrev S256x256 : Shape := ⟨2, ![256, 256]⟩
abbrev S1 : Shape := ⟨1, ![1]⟩
abbrev S1x1x1 : Shape := ⟨3, ![1, 1, 1]⟩

abbrev nBuf : Space → Nat
  | .hbm => 34
  | .vmem => 9
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x8x64, .f32⟩
  | .hbm, ⟨2, _⟩ => ⟨S_, .f32⟩
  | .hbm, ⟨3, _⟩ => ⟨S8x4096x8x64, .f32⟩
  | .hbm, ⟨4, _⟩ => ⟨S8x4096x8x64, .f32⟩
  | .hbm, ⟨5, _⟩ => ⟨S32768x4x2x64, .f32⟩
  | .hbm, ⟨6, _⟩ => ⟨S32768x4x1x64, .f32⟩
  | .hbm, ⟨7, _⟩ => ⟨S32768x4x64, .f32⟩
  | .hbm, ⟨8, _⟩ => ⟨S_, .i32⟩
  | .hbm, ⟨9, _⟩ => ⟨S_, .f32⟩
  | .hbm, ⟨10, _⟩ => ⟨S32768x4x128, .f32⟩
  | .hbm, ⟨11, _⟩ => ⟨S32768x4x1x64, .f32⟩
  | .hbm, ⟨12, _⟩ => ⟨S32768x4x64, .f32⟩
  | .hbm, ⟨13, _⟩ => ⟨S_, .i32⟩
  | .hbm, ⟨14, _⟩ => ⟨S_, .f32⟩
  | .hbm, ⟨15, _⟩ => ⟨S32768x4x128, .f32⟩
  | .hbm, ⟨16, _⟩ => ⟨S32768x4x1x128, .f32⟩
  | .hbm, ⟨17, _⟩ => ⟨S32768x4x1x128, .f32⟩
  | .hbm, ⟨18, _⟩ => ⟨S32768x4x2x128, .f32⟩
  | .hbm, ⟨19, _⟩ => ⟨S32768x1024, .f32⟩
  | .hbm, ⟨20, _⟩ => ⟨S32768x1024, .bf16⟩
  | .hbm, ⟨21, _⟩ => ⟨S8x32x128x1024, .f32⟩
  | .hbm, ⟨22, _⟩ => ⟨S8x32x1024x128, .f32⟩
  | .hbm, ⟨23, _⟩ => ⟨S8x32x1024x128, .bf16⟩
  | .hbm, ⟨24, _⟩ => ⟨S128, .i32⟩
  | .hbm, ⟨25, _⟩ => ⟨S128x1, .i32⟩
  | .hbm, ⟨26, _⟩ => ⟨S128, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S128x128, .bf16⟩
  | .hbm, ⟨32, _⟩ => ⟨S256x128, .bf16⟩
  | .hbm, ⟨33, _⟩ => ⟨S32768x512, .bf16⟩
  | .local _ .vmem, ⟨0, _⟩ => ⟨S128x1024, .bf16⟩
  | .local _ .vmem, ⟨1, _⟩ => ⟨S128x1024, .bf16⟩
  | .local _ .vmem, ⟨2, _⟩ => ⟨S1x32x1024x128, .bf16⟩
  | .local _ .vmem, ⟨3, _⟩ => ⟨S1x32x1024x128, .bf16⟩
  | .local _ .vmem, ⟨4, _⟩ => ⟨S256x128, .bf16⟩
  | .local _ .vmem, ⟨5, _⟩ => ⟨S128x512, .bf16⟩
  | .local _ .vmem, ⟨6, _⟩ => ⟨S128x512, .bf16⟩
  | .local _ .vmem, ⟨7, _⟩ => ⟨S4x256x128, .f32⟩
  | .local _ .vmem, ⟨8, _⟩ => ⟨S4x256x128, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 32], ![false, false]⟩

def k0_off1 (i : grid0.Coords) (arg8 : BitVec 32) : Fin 4 → Nat :=
  let c0_32 : Index := 0#32
  let arg1 : BitVec 32 := BitVec.ofNat 32 (i 1).val
  let v46 : BitVec 32 := Scalar.subi arg1 arg8
  let v59 : Index := Scalar.indexCast v46
  let c0_33 : Index := 0#32
  let c0_34 : Index := 0#32
  ![0, v59.toNat, 0, 0]

def k0_off2 (i : grid0.Coords) (arg8 : BitVec 32) : Fin 4 → Nat :=
  let c0_35 : Index := 0#32
  let arg1 : BitVec 32 := BitVec.ofNat 32 (i 1).val
  let v46 : BitVec 32 := Scalar.subi arg1 arg8
  let v62 : Index := Scalar.indexCast v46
  let c512 : Index := 512#32
  let c0_36 : Index := 0#32
  ![0, v62.toNat, 512, 0]
def k0_off3 (i : grid0.Coords) (arg8 : BitVec 32) : Fin 4 → Nat :=
  let c0_47 : Index := 0#32
  let arg1 : BitVec 32 := BitVec.ofNat 32 (i 1).val
  let v46 : BitVec 32 := Scalar.subi arg1 arg8
  let v74 : Index := Scalar.indexCast v46
  let c128_48 : Index := 128#32
  let c0_49 : Index := 0#32
  ![0, v74.toNat, 128, 0]
def k0_off4 (i : grid0.Coords) (arg8 : BitVec 32) : Fin 4 → Nat :=
  let c0_50 : Index := 0#32
  let arg1 : BitVec 32 := BitVec.ofNat 32 (i 1).val
  let v46 : BitVec 32 := Scalar.subi arg1 arg8
  let v77 : Index := Scalar.indexCast v46
  let c640 : Index := 640#32
  let c0_51 : Index := 0#32
  ![0, v77.toNat, 640, 0]
def k0_off5 (i : grid0.Coords) (arg8 : BitVec 32) : Fin 4 → Nat :=
  let c0_62 : Index := 0#32
  let arg1 : BitVec 32 := BitVec.ofNat 32 (i 1).val
  let v46 : BitVec 32 := Scalar.subi arg1 arg8
  let v89 : Index := Scalar.indexCast v46
  let c256_63 : Index := 256#32
  let c0_64 : Index := 0#32
  ![0, v89.toNat, 256, 0]
def k0_off6 (i : grid0.Coords) (arg8 : BitVec 32) : Fin 4 → Nat :=
  let c0_65 : Index := 0#32
  let arg1 : BitVec 32 := BitVec.ofNat 32 (i 1).val
  let v46 : BitVec 32 := Scalar.subi arg1 arg8
  let v92 : Index := Scalar.indexCast v46
  let c768 : Index := 768#32
  let c0_66 : Index := 0#32
  ![0, v92.toNat, 768, 0]
def k0_off7 (i : grid0.Coords) (arg8 : BitVec 32) : Fin 4 → Nat :=
  let c0_76 : Index := 0#32
  let arg1 : BitVec 32 := BitVec.ofNat 32 (i 1).val
  let v46 : BitVec 32 := Scalar.subi arg1 arg8
  let v104 : Index := Scalar.indexCast v46
  let c384_77 : Index := 384#32
  let c0_78 : Index := 0#32
  ![0, v104.toNat, 384, 0]
def k0_off8 (i : grid0.Coords) (arg8 : BitVec 32) : Fin 4 → Nat :=
  let c0_79 : Index := 0#32
  let arg1 : BitVec 32 := BitVec.ofNat 32 (i 1).val
  let v46 : BitVec 32 := Scalar.subi arg1 arg8
  let v107 : Index := Scalar.indexCast v46
  let c896_80 : Index := 896#32
  let c0_81 : Index := 0#32
  ![0, v107.toNat, 896, 0]

def k0_chk1 (i : grid0.Coords) (arg8 : BitVec 32) : Prop :=
  (∀ a, (k0_off1 i arg8) a + S1x1x128x128.size a ≤ S1x32x1024x128.size a) ∧
  (∀ a, (k0_off2 i arg8) a + S1x1x128x128.size a ≤ S1x32x1024x128.size a) ∧
  (∀ a, (k0_off3 i arg8) a + S1x1x128x128.size a ≤ S1x32x1024x128.size a) ∧
  (∀ a, (k0_off4 i arg8) a + S1x1x128x128.size a ≤ S1x32x1024x128.size a) ∧
  (∀ a, (k0_off5 i arg8) a + S1x1x128x128.size a ≤ S1x32x1024x128.size a) ∧
  (∀ a, (k0_off6 i arg8) a + S1x1x128x128.size a ≤ S1x32x1024x128.size a) ∧
  (∀ a, (k0_off7 i arg8) a + S1x1x128x128.size a ≤ S1x32x1024x128.size a) ∧
  (∀ a, (k0_off8 i arg8) a + S1x1x128x128.size a ≤ S1x32x1024x128.size a)
theorem k0_off1_inb : ∀ (i : grid0.Coords) (arg8 : BitVec 32) (k0_hw1 : k0_chk1 i arg8), ∀ a, (k0_off1 i arg8) a + S1x1x128x128.size a ≤ S1x32x1024x128.size a := fun i arg8 k0_hw1 => k0_hw1.1
theorem k0_off2_inb : ∀ (i : grid0.Coords) (arg8 : BitVec 32) (k0_hw1 : k0_chk1 i arg8), ∀ a, (k0_off2 i arg8) a + S1x1x128x128.size a ≤ S1x32x1024x128.size a := fun i arg8 k0_hw1 => k0_hw1.2.1
theorem k0_off3_inb : ∀ (i : grid0.Coords) (arg8 : BitVec 32) (k0_hw1 : k0_chk1 i arg8), ∀ a, (k0_off3 i arg8) a + S1x1x128x128.size a ≤ S1x32x1024x128.size a := fun i arg8 k0_hw1 => k0_hw1.2.2.1
theorem k0_off4_inb : ∀ (i : grid0.Coords) (arg8 : BitVec 32) (k0_hw1 : k0_chk1 i arg8), ∀ a, (k0_off4 i arg8) a + S1x1x128x128.size a ≤ S1x32x1024x128.size a := fun i arg8 k0_hw1 => k0_hw1.2.2.2.1
theorem k0_off5_inb : ∀ (i : grid0.Coords) (arg8 : BitVec 32) (k0_hw1 : k0_chk1 i arg8), ∀ a, (k0_off5 i arg8) a + S1x1x128x128.size a ≤ S1x32x1024x128.size a := fun i arg8 k0_hw1 => k0_hw1.2.2.2.2.1
theorem k0_off6_inb : ∀ (i : grid0.Coords) (arg8 : BitVec 32) (k0_hw1 : k0_chk1 i arg8), ∀ a, (k0_off6 i arg8) a + S1x1x128x128.size a ≤ S1x32x1024x128.size a := fun i arg8 k0_hw1 => k0_hw1.2.2.2.2.2.1
theorem k0_off7_inb : ∀ (i : grid0.Coords) (arg8 : BitVec 32) (k0_hw1 : k0_chk1 i arg8), ∀ a, (k0_off7 i arg8) a + S1x1x128x128.size a ≤ S1x32x1024x128.size a := fun i arg8 k0_hw1 => k0_hw1.2.2.2.2.2.2.1
theorem k0_off8_inb : ∀ (i : grid0.Coords) (arg8 : BitVec 32) (k0_hw1 : k0_chk1 i arg8), ∀ a, (k0_off8 i arg8) a + S1x1x128x128.size a ≤ S1x32x1024x128.size a := fun i arg8 k0_hw1 => k0_hw1.2.2.2.2.2.2.2

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "sb_exit" => some ⊥
  | _ => none
-- ==== ReferenceIdeal.lean ====
abbrev S8x4096x8x64 : Shape := ⟨4, ![8, 4096, 8, 64]⟩
abbrev S8x4096x2x8x64 : Shape := ⟨5, ![8, 4096, 2, 8, 64]⟩
abbrev S4096 : Shape := ⟨1, ![4096]⟩
abbrev S8x4096x1x8x64 : Shape := ⟨5, ![8, 4096, 1, 8, 64]⟩
abbrev S8x8x4096x4096 : Shape := ⟨4, ![8, 8, 4096, 4096]⟩
abbrev S_ : Shape := ⟨0, ![]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S8x8x64x4096 : Shape := ⟨4, ![8, 8, 64, 4096]⟩
abbrev S32768x512 : Shape := ⟨2, ![32768, 512]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x8x64, .f32⟩
  | .hbm, ⟨2, _⟩ => ⟨S4096, .i32⟩
  | .hbm, ⟨3, _⟩ => ⟨S4096, .i32⟩
  | .hbm, ⟨4, _⟩ => ⟨S8x4096x1x8x64, .f32⟩
  | .hbm, ⟨5, _⟩ => ⟨S8x4096x8x64, .f32⟩
  | .hbm, ⟨6, _⟩ => ⟨S8x8x4096x4096, .f32⟩
  | .hbm, ⟨7, _⟩ => ⟨S_, .f32⟩
  | .hbm, ⟨8, _⟩ => ⟨S8x8x4096x4096, .f32⟩
  | .hbm, ⟨9, _⟩ => ⟨S8x8x4096x4096, .f32⟩
  | .hbm, ⟨10, _⟩ => ⟨S1x1x1x4096, .i32⟩
  | .hbm, ⟨11, _⟩ => ⟨S1x1x4096x1, .i32⟩
  | .hbm, ⟨12, _⟩ => ⟨S1x1x4096x4096, .i32⟩
  | .hbm, ⟨13, _⟩ => ⟨S1x1x4096x4096, .i32⟩
  | .hbm, ⟨14, _⟩ => ⟨S1x1x4096x4096, .i1⟩
  | .hbm, ⟨15, _⟩ => ⟨S8x8x4096x4096, .f32⟩
  | .hbm, ⟨16, _⟩ => ⟨S8x8x4096x4096, .f32⟩
  | .hbm, ⟨17, _⟩ => ⟨S_, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .f32⟩
  | .hbm, ⟨21, _⟩ => ⟨S8x8x4096x4096, .f32⟩
  | .hbm, ⟨22, _⟩ => ⟨S8x8x4096x4096, .i1⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S_, .f32⟩
  | .hbm, ⟨34, _⟩ => ⟨S8x8x4096x4096, .i1⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .f32⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S8x8x4096x4096, .i1⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S_, .f32⟩
  | .hbm, ⟨60, _⟩ => ⟨S_, .f32⟩
  | .hbm, ⟨61, _⟩ => ⟨S8x8x4096x4096, .i1⟩
  | .hbm, ⟨62, _⟩ => ⟨S8x8x4096x4096, .f32⟩
  | .hbm, ⟨63, _⟩ => ⟨S8x8x4096x4096, .f32⟩
  | .hbm, ⟨64, _⟩ => ⟨S8x4096x1x8x64, .f32⟩
  | .hbm, ⟨65, _⟩ => ⟨S8x4096x8x64, .f32⟩
  | .hbm, ⟨66, _⟩ => ⟨S8x8x64x4096, .f32⟩
  | .hbm, ⟨67, _⟩ => ⟨S8x4096x8x64, .f32⟩
  | .hbm, ⟨68, _⟩ => ⟨S32768x512, .f32⟩
  | .hbm, ⟨69, _⟩ => ⟨S32768x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_call2_cst : Ref sig .tc := ⟨.hbm, 37, rfl⟩
abbrev main_call2_v0 : Ref sig .tc := ⟨.hbm, 38, rfl⟩
abbrev main_v15 : Ref sig .tc := ⟨.hbm, 39, rfl⟩
abbrev main_v16 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S32768x1024 : Shape := ⟨2, ![32768, 1024]⟩
abbrev S136x1024 : Shape := ⟨2, ![136, 1024]⟩
abbrev S1024x9216 : Shape := ⟨2, ![1024, 9216]⟩
abbrev S9216 : Shape := ⟨1, ![9216]⟩
abbrev S136x9216 : Shape := ⟨2, ![136, 9216]⟩
abbrev S1024x1024 : Shape := ⟨2, ![1024, 1024]⟩
abbrev S1x1024 : Shape := ⟨2, ![1, 1024]⟩
abbrev S136x9x1024 : Shape := ⟨3, ![136, 9, 1024]⟩
abbrev S8x9x1024 : Shape := ⟨3, ![8, 9, 1024]⟩
abbrev S9x8x1024 : Shape := ⟨3, ![9, 8, 1024]⟩
abbrev S9x8x1x1024 : Shape := ⟨4, ![9, 8, 1, 1024]⟩
abbrev S1024x5632 : Shape := ⟨2, ![1024, 5632]⟩
abbrev S2816x1024 : Shape := ⟨2, ![2816, 1024]⟩
abbrev S1024x2840 : Shape := ⟨2, ![1024, 2840]⟩
abbrev S1024x512 : Shape := ⟨2, ![1024, 512]⟩
abbrev S_ : Shape := ⟨0, ![]⟩
abbrev S1024x8x64 : Shape := ⟨3, ![1024, 8, 64]⟩
abbrev S1024x8x128 : Shape := ⟨3, ![1024, 8, 128]⟩
abbrev S1024x1x64 : Shape := ⟨3, ![1024, 1, 64]⟩
abbrev S1024x64 : Shape := ⟨2, ![1024, 64]⟩
abbrev S1 : Shape := ⟨1, ![1]⟩
abbrev S2 : Shape := ⟨1, ![2]⟩
abbrev S1024x24 : Shape := ⟨2, ![1024, 24]⟩
abbrev S1024x128 : Shape := ⟨2, ![1024, 128]⟩
abbrev S1024x256 : Shape := ⟨2, ![1024, 256]⟩
abbrev S1024x3968 : Shape := ⟨2, ![1024, 3968]⟩
abbrev S1024x1792 : Shape := ⟨2, ![1024, 1792]⟩
abbrev S1792x1024 : Shape := ⟨2, ![1792, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S3x1024 : Shape := ⟨2, ![3, 1024]⟩
abbrev S9x1x1x1024 : Shape := ⟨4, ![9, 1, 1, 1024]⟩
abbrev S1x1x1x1024 : Shape := ⟨4, ![1, 1, 1, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S32768x128 : Shape := ⟨2, ![32768, 128]⟩
abbrev S32768x256 : Shape := ⟨2, ![32768, 256]⟩
abbrev S8x1024x4096 : Shape := ⟨3, ![8, 1024, 4096]⟩
abbrev S8x512x4096 : Shape := ⟨3, ![8, 512, 4096]⟩
abbrev S8x256x4096 : Shape := ⟨3, ![8, 256, 4096]⟩
abbrev S8x32x1024x128 : Shape := ⟨4, ![8, 32, 1024, 128]⟩
abbrev S8x32x256x128 : Shape := ⟨4, ![8, 32, 256, 128]⟩
abbrev S512x128 : Shape := ⟨2, ![512, 128]⟩
abbrev S1x1024x512 : Shape := ⟨3, ![1, 1024, 512]⟩
abbrev S1x512x512 : Shape := ⟨3, ![1, 512, 512]⟩
abbrev S1x256x512 : Shape := ⟨3, ![1, 256, 512]⟩
abbrev S1x4x1024x128 : Shape := ⟨4, ![1, 4, 1024, 128]⟩
abbrev S1x4x256x128 : Shape := ⟨4, ![1, 4, 256, 128]⟩
abbrev S1792x512 : Shape := ⟨2, ![1792, 512]⟩
abbrev S512x512 : Shape := ⟨2, ![512, 512]⟩
abbrev S256x512 : Shape := ⟨2, ![256, 512]⟩
abbrev S1x1x1024x128 : Shape := ⟨4, ![1, 1, 1024, 128]⟩
abbrev S256x128 : Shape := ⟨2, ![256, 128]⟩
abbrev S1x1x256x128 : Shape := ⟨4, ![1, 1, 256, 128]⟩
abbrev S32768x512 : Shape := ⟨2, ![32768, 512]⟩
abbrev S32768x2x4x64 : Shape := ⟨4, ![32768, 2, 4, 64]⟩
abbrev S32768x4x2x64 : Shape := ⟨4, ![32768, 4, 2, 64]⟩
abbrev S2x1024 : Shape := ⟨2, ![2, 1024]⟩
abbrev S8x2x8x64x4096 : Shape := ⟨5, ![8, 2, 8, 64, 4096]⟩
abbrev S8x4096x2x8x64 : Shape := ⟨5, ![8, 4096, 2, 8, 64]⟩
abbrev S8x4x2x64x4096 : Shape := ⟨5, ![8, 4, 2, 64, 4096]⟩
abbrev S8x4096x4x2x64 : Shape := ⟨5, ![8, 4096, 4, 2, 64]⟩
abbrev S8x256x512 : Shape := ⟨3, ![8, 256, 512]⟩
abbrev S8x2x2x64x512 : Shape := ⟨5, ![8, 2, 2, 64, 512]⟩
abbrev S8x512x2x2x64 : Shape := ⟨5, ![8, 512, 2, 2, 64]⟩
abbrev S8x4096x4x2x128 : Shape := ⟨5, ![8, 4096, 4, 2, 128]⟩
abbrev S8x4096x4x1x64 : Shape := ⟨5, ![8, 4096, 4, 1, 64]⟩
abbrev S8x4096x4x64 : Shape := ⟨4, ![8, 4096, 4, 64]⟩
abbrev S8x4096x8x64 : Shape := ⟨4, ![8, 4096, 8, 64]⟩
abbrev S8x4096x8x128 : Shape := ⟨4, ![8, 4096, 8, 128]⟩
abbrev S32768x24 : Shape := ⟨2, ![32768, 24]⟩
abbrev S8x4096x8x3 : Shape := ⟨4, ![8, 4096, 8, 3]⟩
abbrev S1x8x4096x2x8x64 : Shape := ⟨6, ![1, 8, 4096, 2, 8, 64]⟩
abbrev S1x8x4096x4x2x64 : Shape := ⟨6, ![1, 8, 4096, 4, 2, 64]⟩
abbrev S1x8x512x2x2x64 : Shape := ⟨6, ![1, 8, 512, 2, 2, 64]⟩

abbrev nBuf : Space → Nat
  | .hbm => 185
  | .vmem => 61
  | .smem => 0
  | _ => 0

abbrev hbmTy0_0 (i : Nat) : BufTy := match i % 128 with
  | 0 => ⟨S8x4096x1024, .f32⟩
  | 1 => ⟨S8x4096x1024, .f32⟩
  | 2 => ⟨S8x1024, .f32⟩
  | 3 => ⟨S128x1024, .f32⟩
  | 4 => ⟨S1x1024x9216, .f32⟩
  | 5 => ⟨S1x9216, .f32⟩
  | 6 => ⟨S1x1024x5632, .f32⟩
  | 7 => ⟨S1x2816x1024, .f32⟩
  | 8 => ⟨S1x1024x2840, .f32⟩
  | 9 => ⟨S1x1024x1024, .f32⟩
  | 10 => ⟨S1x1024x5632, .f32⟩
  | 11 => ⟨S1x2816x1024, .f32⟩
  | 12 => ⟨S1x3x1024, .f32⟩
  | 13 => ⟨S1x3x1024, .f32⟩
  | 14 => ⟨S32768x1024, .f32⟩
  | 15 => ⟨S136x1024, .f32⟩
  | 16 => ⟨S1024x9216, .f32⟩
  | 17 => ⟨S9216, .f32⟩
  | 18 => ⟨S1x9216, .f32⟩
  | 19 => ⟨S136x9216, .f32⟩
  | 20 => ⟨S136x9x1024, .f32⟩
  | 21 => ⟨S8x9x1024, .f32⟩
  | 22 => ⟨S9x8x1024, .f32⟩
  | 23 => ⟨S9x8x1x1024, .f32⟩
  | 24 => ⟨S1024x5632, .f32⟩
  | 25 => ⟨S1024x5632, .bf16⟩
  | 26 => ⟨S2816x1024, .f32⟩
  | 27 => ⟨S2816x1024, .bf16⟩
  | 28 => ⟨S1024x5632, .f32⟩
  | 29 => ⟨S1024x5632, .bf16⟩
  | 30 => ⟨S2816x1024, .f32⟩
  | 31 => ⟨S2816x1024, .bf16⟩
  | 32 => ⟨S1024x2840, .f32⟩
  | 33 => ⟨S1024x512, .f32⟩
  | 34 => ⟨S_, .f32⟩
  | 35 => ⟨S1024x512, .f32⟩
  | 36 => ⟨S1024x512, .f32⟩
  | 37 => ⟨S1024x8x64, .f32⟩
  | 38 => ⟨S_, .f32⟩
  | 39 => ⟨S1024x8x128, .f32⟩
  | 40 => ⟨S1024x1x64, .f32⟩
  | 41 => ⟨S1024x64, .f32⟩
  | 42 => ⟨S_, .i32⟩
  | 43 => ⟨S1, .i32⟩
  | 44 => ⟨S_, .i32⟩
  | 45 => ⟨S1, .i32⟩
  | 46 => ⟨S2, .i32⟩
  | 47 => ⟨S1024x8x128, .f32⟩
  | 48 => ⟨S1024x1x64, .f32⟩
  | 49 => ⟨S1024x64, .f32⟩
  | 50 => ⟨S_, .i32⟩
  | 51 => ⟨S1, .i32⟩
  | 52 => ⟨S_, .i32⟩
  | 53 => ⟨S1, .i32⟩
  | 54 => ⟨S2, .i32⟩
  | 55 => ⟨S1024x8x128, .f32⟩
  | 56 => ⟨S1024x1x64, .f32⟩
  | 57 => ⟨S1024x64, .f32⟩
  | 58 => ⟨S_, .i32⟩
  | 59 => ⟨S1, .i32⟩
  | 60 => ⟨S_, .i32⟩
  | 61 => ⟨S1, .i32⟩
  | 62 => ⟨S2, .i32⟩
  | 63 => ⟨S1024x8x128, .f32⟩
  | 64 => ⟨S1024x1x64, .f32⟩
  | 65 => ⟨S1024x64, .f32⟩
  | 66 => ⟨S_, .i32⟩
  | 67 => ⟨S1, .i32⟩
  | 68 => ⟨S_, .i32⟩
  | 69 => ⟨S1, .i32⟩
  | 70 => ⟨S2, .i32⟩
  | 71 => ⟨S1024x8x128, .f32⟩
  | 72 => ⟨S1024x1x64, .f32⟩
  | 73 => ⟨S1024x64, .f32⟩
  | 74 => ⟨S_, .i32⟩
  | 75 => ⟨S1, .i32⟩
  | 76 => ⟨S_, .i32⟩
  | 77 => ⟨S1, .i32⟩
  | 78 => ⟨S2, .i32⟩
  | 79 => ⟨S1024x8x128, .f32⟩
  | 80 => ⟨S1024x1x64, .f32⟩
  | 81 => ⟨S1024x64, .f32⟩
  | 82 => ⟨S_, .i32⟩
  | 83 => ⟨S1, .i32⟩
  | 84 => ⟨S_, .i32⟩
  | 85 => ⟨S1, .i32⟩
  | 86 => ⟨S2, .i32⟩
  | 87 => ⟨S1024x8x128, .f32⟩
  | 88 => ⟨S1024x1x64, .f32⟩
  | 89 => ⟨S1024x64, .f32⟩
  | 90 => ⟨S_, .i32⟩
  | 91 => ⟨S1, .i32⟩
  | 92 => ⟨S_, .i32⟩
  | 93 => ⟨S1, .i32⟩
  | 94 => ⟨S2, .i32⟩
  | 95 => ⟨S1024x8x128, .f32⟩
  | 96 => ⟨S1024x1x64, .f32⟩
  | 97 => ⟨S1024x64, .f32⟩
  | 98 => ⟨S_, .i32⟩
  | 99 => ⟨S1, .i32⟩
  | 100 => ⟨S_, .i32⟩
  | 101 => ⟨S1, .i32⟩
  | 102 => ⟨S2, .i32⟩
  | 103 => ⟨S1024x8x128, .f32⟩
  | 104 => ⟨S1024x512, .f32⟩
  | 105 => ⟨S_, .f32⟩
  | 106 => ⟨S1024x512, .f32⟩
  | 107 => ⟨S1024x512, .f32⟩
  | 108 => ⟨S1024x8x64, .f32⟩
  | 109 => ⟨S_, .f32⟩
  | 110 => ⟨S1024x8x128, .f32⟩
  | 111 => ⟨S_, .i32⟩
  | 112 => ⟨S1, .i32⟩
  | 113 => ⟨S1024x8x128, .f32⟩
  | 114 => ⟨S1024x24, .f32⟩
  | 115 => ⟨S_, .i32⟩
  | 116 => ⟨S_, .f32⟩
  | 117 => ⟨S1024x128, .f32⟩
  | 118 => ⟨S1024x1024, .f32⟩
  | 119 => ⟨S1024x1024, .f32⟩
  | 120 => ⟨S1024x1024, .f32⟩
  | 121 => ⟨S1024x512, .f32⟩
  | 122 => ⟨S1024x256, .f32⟩
  | 123 => ⟨S1024x3968, .f32⟩
  | 124 => ⟨S1024x3968, .bf16⟩
  | 125 => ⟨S1024x1792, .bf16⟩
  | 126 => ⟨S1792x1024, .bf16⟩
  | 127 => ⟨S1024x1024, .f32⟩
  | _ => ⟨S8x4096x1024, .f32⟩

abbrev hbmTy0_1 (i : Nat) : BufTy := match i % 128 with
  | 0 => ⟨S512x1024, .f32⟩
  | 1 => ⟨S512x1024, .bf16⟩
  | 2 => ⟨S512x1024, .f32⟩
  | 3 => ⟨S2x4x64x1024, .f32⟩
  | 4 => ⟨S4x2x64x1024, .f32⟩
  | 5 => ⟨S512x1024, .f32⟩
  | 6 => ⟨S512x1024, .bf16⟩
  | 7 => ⟨S3x1024, .f32⟩
  | 8 => ⟨S3x1024, .f32⟩
  | 9 => ⟨S1x1024, .f32⟩
  | 10 => ⟨S1x1024, .f32⟩
  | 11 => ⟨S32768x1024, .f32⟩
  | 12 => ⟨S32768x1024, .bf16⟩
  | 13 => ⟨S32768x1024, .bf16⟩
  | 14 => ⟨S32768x128, .f32⟩
  | 15 => ⟨S32768x256, .f32⟩
  | 16 => ⟨S8x1024x4096, .f32⟩
  | 17 => ⟨S8x512x4096, .f32⟩
  | 18 => ⟨S8x256x4096, .f32⟩
  | 19 => ⟨S8x32x1024x128, .bf16⟩
  | 20 => ⟨S8x32x256x128, .bf16⟩
  | 21 => ⟨S8x32x256x128, .bf16⟩
  | 22 => ⟨S32768x1024, .f32⟩
  | 23 => ⟨S32768x512, .f32⟩
  | 24 => ⟨S32768x2x4x64, .f32⟩
  | 25 => ⟨S32768x4x2x64, .f32⟩
  | 26 => ⟨S32768x512, .f32⟩
  | 27 => ⟨S32768x512, .f32⟩
  | 28 => ⟨S32768x512, .bf16⟩
  | 29 => ⟨S32768x512, .bf16⟩
  | 30 => ⟨S2x1024, .f32⟩
  | 31 => ⟨S2x1024, .f32⟩
  | 32 => ⟨S32768x1024, .f32⟩
  | 33 => ⟨S8x2x8x64x4096, .f32⟩
  | 34 => ⟨S8x4096x2x8x64, .f32⟩
  | 35 => ⟨S8x4x2x64x4096, .f32⟩
  | 36 => ⟨S8x4096x4x2x64, .f32⟩
  | 37 => ⟨S8x256x512, .f32⟩
  | 38 => ⟨S8x2x2x64x512, .f32⟩
  | 39 => ⟨S8x512x2x2x64, .f32⟩
  | 40 => ⟨S8x4096x4x2x128, .bf16⟩
  | 41 => ⟨S8x4096x4x1x64, .bf16⟩
  | 42 => ⟨S8x4096x4x64, .bf16⟩
  | 43 => ⟨S8x4096x4x1x64, .bf16⟩
  | 44 => ⟨S8x4096x4x64, .bf16⟩
  | 45 => ⟨S8x4096x4x1x64, .bf16⟩
  | 46 => ⟨S8x4096x4x1x64, .bf16⟩
  | 47 => ⟨S8x4096x4x2x64, .bf16⟩
  | 48 => ⟨S8x4096x8x64, .bf16⟩
  | 49 => ⟨S8x4096x8x128, .bf16⟩
  | 50 => ⟨S8x4096x8x64, .bf16⟩
  | 51 => ⟨S32768x24, .f32⟩
  | 52 => ⟨S8x4096x8x3, .f32⟩
  | 53 => ⟨S8x4096x1024, .f32⟩
  | 54 => ⟨S1x8x4096x2x8x64, .f32⟩
  | 55 => ⟨S1x8x4096x4x2x64, .f32⟩
  | 56 => ⟨S1x8x512x2x2x64, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S512x1024, .f32⟩
  | .local _ .vmem, ⟨8, _⟩ => ⟨S512x1024, .f32⟩
  | .local _ .vmem, ⟨9, _⟩ => ⟨S9x1x1x1024, .f32⟩
  | .local _ .vmem, ⟨10, _⟩ => ⟨S9x1x1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S9x1x1x1024, .f32⟩
  | .local _ .vmem, ⟨21, _⟩ => ⟨S9x1x1x1024, .f32⟩
  | .local _ .vmem, ⟨22, _⟩ => ⟨S1024x3968, .bf16⟩
  | .local _ .vmem, ⟨23, _⟩ => ⟨S1792x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | .local _ .vmem, ⟨30, _⟩ => ⟨S512x256, .f32⟩
  | .local _ .vmem, ⟨31, _⟩ => ⟨S512x256, .f32⟩
  | .local _ .vmem, ⟨32, _⟩ => ⟨S1x1024x512, .f32⟩
  | .local _ .vmem, ⟨33, _⟩ => ⟨S1x1024x512, .f32⟩
  | .local _ .vmem, ⟨34, _⟩ => ⟨S1x512x512, .f32⟩
  | .local _ .vmem, ⟨35, _⟩ => ⟨S1x512x512, .f32⟩
  | .local _ .vmem, ⟨36, _⟩ => ⟨S1x256x512, .f32⟩
  | .local _ .vmem, ⟨37, _⟩ => ⟨S1x256x512, .f32⟩
  | .local _ .vmem, ⟨38, _⟩ => ⟨S1x4x1024x128, .bf16⟩
  | .local _ .vmem, ⟨39, _⟩ => ⟨S1x4x1024x128, .bf16⟩
  | .local _ .vmem, ⟨40, _⟩ => ⟨S1x4x256x128, .bf16⟩
  | .local _ .vmem, ⟨41, _⟩ => ⟨S1x4x256x128, .bf16⟩
  | .local _ .vmem, ⟨42, _⟩ => ⟨S1x4x256x128, .bf16⟩
  | .local _ .vmem, ⟨43, _⟩ => ⟨S1x4x256x128, .bf16⟩
  | .local _ .vmem, ⟨44, _⟩ => ⟨S512x1024, .f32⟩
  | .local _ .vmem, ⟨45, _⟩ => ⟨S512x1024, .f32⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x512, .bf16⟩
  | .local _ .vmem, ⟨50, _⟩ => ⟨S9x1x1x1024, .f32⟩
  | .local _ .vmem, ⟨51, _⟩ => ⟨S9x1x1x1024, .f32⟩
  | .local _ .vmem, ⟨52, _⟩ => ⟨S512x1024, .bf16⟩
  | .local _ .vmem, ⟨53, _⟩ => ⟨S512x1024, .bf16⟩
  | .local _ .vmem, ⟨54, _⟩ => ⟨S1024x5632, .bf16⟩
  | .local _ .vmem, ⟨55, _⟩ => ⟨S2816x1024, .bf16⟩
  | .local _ .vmem, ⟨56, _⟩ => ⟨S2x1024, .f32⟩
  | .local _ .vmem, ⟨57, _⟩ => ⟨S2x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_2 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_14 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_call0_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103_0 : Ref sig .tc := ⟨.hbm, 140, rfl⟩
abbrev main_v103_1 : Ref sig .tc := ⟨.hbm, 141, rfl⟩
abbrev main_v103_2 : Ref sig .tc := ⟨.hbm, 142, rfl⟩
abbrev main_v103_3 : Ref sig .tc := ⟨.hbm, 143, rfl⟩
abbrev main_v103_4 : Ref sig .tc := ⟨.hbm, 144, rfl⟩
abbrev main_v103_5 : Ref sig .tc := ⟨.hbm, 145, rfl⟩
abbrev main_v103_6 : Ref sig .tc := ⟨.hbm, 146, rfl⟩
abbrev main_v103_7 : Ref sig .tc := ⟨.hbm, 147, rfl⟩
abbrev main_v103_8 : Ref sig .tc := ⟨.hbm, 148, rfl⟩
abbrev main_v103_9 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc2_stg12_0 : Ref sig .tc := ⟨.vmem, 40, rfl⟩
abbrev cc2_stg12_1 : Ref sig .tc := ⟨.vmem, 41, rfl⟩
abbrev cc2_stg13_0 : Ref sig .tc := ⟨.vmem, 42, rfl⟩
abbrev cc2_stg13_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg9_0 : Ref sig .tc := ⟨.vmem, 57, rfl⟩
abbrev cc3_stg10_0 : Ref sig .tc := ⟨.vmem, 58, rfl⟩
abbrev cc3_stg10_1 : Ref sig .tc := ⟨.vmem, 59, rfl⟩
abbrev cc3_scratch0 : Ref sig .tc := ⟨.vmem, 60, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32
abbrev cc2_sem9_0 : DmaSem sig := 33
abbrev cc2_sem9_1 : DmaSem sig := 34
abbrev cc2_sem10_0 : DmaSem sig := 35
abbrev cc2_sem10_1 : DmaSem sig := 36
abbrev cc2_sem11_0 : DmaSem sig := 37
abbrev cc2_sem11_1 : DmaSem sig := 38
abbrev cc2_sem12_0 : DmaSem sig := 39
abbrev cc2_sem12_1 : DmaSem sig := 40
abbrev cc2_sem13_0 : DmaSem sig := 41
abbrev cc2_sem13_1 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem2_1 : DmaSem sig := 48
abbrev cc3_sem3_0 : DmaSem sig := 49
abbrev cc3_sem3_1 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem10_1 : DmaSem sig := 58

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9x1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x5632 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_9 (i : grid2.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_10 (i : grid2.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_11 (i : grid2.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_12 (i : grid2.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc2_transform_13 (i : grid2.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S9x1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x3968 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1792x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1024x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x512x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x256x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x4x1024x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x4x256x128 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x4x256x128 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S9x1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x5632 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2816x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S512x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== Reference2Ideal.lean ====
abbrev S8x4096x1024 : Shape := ⟨3, ![8, 4096, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S_ : Shape := ⟨0, ![]⟩
abbrev S1024x9216 : Shape := ⟨2, ![1024, 9216]⟩
abbrev S8x9216 : Shape := ⟨2, ![8, 9216]⟩
abbrev S9216 : Shape := ⟨1, ![9216]⟩
abbrev S8x1x9x1024 : Shape := ⟨4, ![8, 1, 9, 1024]⟩
abbrev S8x1x1x1024 : Shape := ⟨4, ![8, 1, 1, 1024]⟩
abbrev S8x1x1024 : Shape := ⟨3, ![8, 1, 1024]⟩
abbrev S1024x5632 : Shape := ⟨2, ![1024, 5632]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1024x2840 : Shape := ⟨2, ![1024, 2840]⟩
abbrev S8x4096x2840 : Shape := ⟨3, ![8, 4096, 2840]⟩
abbrev S8x4096x2x8x64 : Shape := ⟨5, ![8, 4096, 2, 8, 64]⟩
abbrev S8x4096x512 : Shape := ⟨3, ![8, 4096, 512]⟩
abbrev S8x4096x4x2x64 : Shape := ⟨5, ![8, 4096, 4, 2, 64]⟩
abbrev S8x4096x256 : Shape := ⟨3, ![8, 4096, 256]⟩
abbrev S8x4096x2x2x64 : Shape := ⟨5, ![8, 4096, 2, 2, 64]⟩
abbrev S1024x1024 : Shape := ⟨2, ![1024, 1024]⟩
abbrev S8x4096x8x64 : Shape := ⟨4, ![8, 4096, 8, 64]⟩
abbrev S8x4096x24 : Shape := ⟨3, ![8, 4096, 24]⟩
abbrev S8x4096x8x3 : Shape := ⟨4, ![8, 4096, 8, 3]⟩
abbrev S1x8x4096x2x8x64 : Shape := ⟨6, ![1, 8, 4096, 2, 8, 64]⟩
abbrev S1x8x4096x4x2x64 : Shape := ⟨6, ![1, 8, 4096, 4, 2, 64]⟩
abbrev S8x512x2x2x64 : Shape := ⟨5, ![8, 512, 2, 2, 64]⟩
abbrev S1x8x512x2x2x64 : Shape := ⟨6, ![1, 8, 512, 2, 2, 64]⟩

abbrev nBuf : Space → Nat
  | .hbm => 260
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S8x1024, .f32⟩
  | 3 => ⟨S128x1024, .f32⟩
  | 4 => ⟨S1x1024x9216, .f32⟩
  | 5 => ⟨S1x9216, .f32⟩
  | 6 => ⟨S1x1024x5632, .f32⟩
  | 7 => ⟨S1x2816x1024, .f32⟩
  | 8 => ⟨S1x1024x2840, .f32⟩
  | 9 => ⟨S1x1024x1024, .f32⟩
  | 10 => ⟨S1x1024x5632, .f32⟩
  | 11 => ⟨S1x2816x1024, .f32⟩
  | 12 => ⟨S1x3x1024, .f32⟩
  | 13 => ⟨S1x3x1024, .f32⟩
  | 14 => ⟨S8x1024, .f32⟩
  | 15 => ⟨S8x1024, .f32⟩
  | 16 => ⟨S_, .f32⟩
  | 17 => ⟨S8x1024, .f32⟩
  | 18 => ⟨S8x1024, .f32⟩
  | 19 => ⟨S_, .f32⟩
  | 20 => ⟨S8x1024, .f32⟩
  | 21 => ⟨S8x1024, .f32⟩
  | 22 => ⟨S8x1024, .f32⟩
  | 23 => ⟨S1024x9216, .f32⟩
  | 24 => ⟨S8x9216, .f32⟩
  | 25 => ⟨S9216, .f32⟩
  | 26 => ⟨S1x9216, .f32⟩
  | 27 => ⟨S8x9216, .f32⟩
  | 28 => ⟨S8x9216, .f32⟩
  | 29 => ⟨S8x1x9x1024, .f32⟩
  | 30 => ⟨S8x1x1x1024, .f32⟩
  | 31 => ⟨S8x1x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x1x1x1024, .f32⟩
  | 38 => ⟨S8x1x1024, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S8x1x1x1024, .f32⟩
  | 45 => ⟨S8x1x1024, .f32⟩
  | 46 => ⟨S_, .f32⟩
  | 47 => ⟨S8x1x1024, .f32⟩
  | 48 => ⟨S8x1x1024, .f32⟩
  | 49 => ⟨S1024x5632, .f32⟩
  | 50 => ⟨S2816x1024, .f32⟩
  | 51 => ⟨S8x4096x5632, .f32⟩
  | 52 => ⟨S8x4096x2816, .f32⟩
  | 53 => ⟨S8x4096x2816, .f32⟩
  | 54 => ⟨S8x4096x2816, .f32⟩
  | 55 => ⟨S8x4096x2816, .f32⟩
  | 56 => ⟨S_, .f32⟩
  | 57 => ⟨S8x4096x2816, .f32⟩
  | 58 => ⟨S8x4096x2816, .f32⟩
  | 59 => ⟨S_, .f32⟩
  | 60 => ⟨S8x4096x2816, .f32⟩
  | 61 => ⟨S8x4096x2816, .f32⟩
  | 62 => ⟨S8x4096x2816, .f32⟩
  | 63 => ⟨S8x4096x2816, .f32⟩
  | 64 => ⟨S8x4096x1024, .f32⟩
  | 65 => ⟨S8x4096x1024, .f32⟩
  | 66 => ⟨S8x4096x1024, .f32⟩
  | 67 => ⟨S8x4096x1024, .f32⟩
  | 68 => ⟨S1x1x1024, .f32⟩
  | 69 => ⟨S1024, .f32⟩
  | 70 => ⟨S1x1x1024, .f32⟩
  | 71 => ⟨S1024, .f32⟩
  | 72 => ⟨S_, .f32⟩
  | 73 => ⟨S8x4096, .f32⟩
  | 74 => ⟨S8x4096x1, .f32⟩
  | 75 => ⟨S_, .f32⟩
  | 76 => ⟨S8x4096x1, .f32⟩
  | 77 => ⟨S8x4096x1, .f32⟩
  | 78 => ⟨S8x4096x1024, .f32⟩
  | 79 => ⟨S8x4096x1024, .f32⟩
  | 80 => ⟨S8x4096x1024, .f32⟩
  | 81 => ⟨S_, .f32⟩
  | 82 => ⟨S8x4096, .f32⟩
  | 83 => ⟨S8x4096x1, .f32⟩
  | 84 => ⟨S_, .f32⟩
  | 85 => ⟨S8x4096x1, .f32⟩
  | 86 => ⟨S8x4096x1, .f32⟩
  | 87 => ⟨S8x4096x1024, .f32⟩
  | 88 => ⟨S8x4096x1024, .f32⟩
  | 89 => ⟨S_, .f32⟩
  | 90 => ⟨S8x4096x1, .f32⟩
  | 91 => ⟨S8x4096x1, .f32⟩
  | 92 => ⟨S8x4096x1, .f32⟩
  | 93 => ⟨S8x4096x1024, .f32⟩
  | 94 => ⟨S8x4096x1024, .f32⟩
  | 95 => ⟨S1x1x1024, .f32⟩
  | 96 => ⟨S8x4096x1024, .f32⟩
  | 97 => ⟨S8x4096x1024, .f32⟩
  | 98 => ⟨S1x1x1024, .f32⟩
  | 99 => ⟨S8x4096x1024, .f32⟩
  | 100 => ⟨S8x4096x1024, .f32⟩
  | 101 => ⟨S8x1x1x1024, .f32⟩
  | 102 => ⟨S8x1x1024, .f32⟩
  | 103 => ⟨S_, .f32⟩
  | 104 => ⟨S8x1x1024, .f32⟩
  | 105 => ⟨S8x1x1024, .f32⟩
  | 106 => ⟨S8x4096x1024, .f32⟩
  | 107 => ⟨S8x4096x1024, .f32⟩
  | 108 => ⟨S8x1x1x1024, .f32⟩
  | 109 => ⟨S8x1x1024, .f32⟩
  | 110 => ⟨S8x4096x1024, .f32⟩
  | 111 => ⟨S8x4096x1024, .f32⟩
  | 112 => ⟨S1024x2840, .f32⟩
  | 113 => ⟨S8x4096x2840, .f32⟩
  | 114 => ⟨S8x4096x1024, .f32⟩
  | 115 => ⟨S8x4096x2x8x64, .f32⟩
  | 116 => ⟨S8x4096x512, .f32⟩
  | 117 => ⟨S8x4096x4x2x64, .f32⟩
  | 118 => ⟨S8x4096x256, .f32⟩
  | 119 => ⟨S8x4096x2x2x64, .f32⟩
  | 120 => ⟨S_, .f32⟩
  | 121 => ⟨S8x4096x1024, .f32⟩
  | 122 => ⟨S8x4096x1024, .f32⟩
  | 123 => ⟨S8x1x1x1024, .f32⟩
  | 124 => ⟨S8x1x1024, .f32⟩
  | 125 => ⟨S1024x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S1024, .f32⟩
  | 4 => ⟨S1x1x1024, .f32⟩
  | 5 => ⟨S1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S8x4096x1024, .f32⟩
  | 13 => ⟨S8x4096x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S8x4096x1024, .f32⟩
  | 22 => ⟨S8x4096x1024, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S8x1x1x1024, .f32⟩
  | 36 => ⟨S8x1x1024, .f32⟩
  | 37 => ⟨S_, .f32⟩
  | 38 => ⟨S8x1x1024, .f32⟩
  | 39 => ⟨S8x1x1024, .f32⟩
  | 40 => ⟨S8x4096x1024, .f32⟩
  | 41 => ⟨S8x4096x1024, .f32⟩
  | 42 => ⟨S8x1x1x1024, .f32⟩
  | 43 => ⟨S8x1x1024, .f32⟩
  | 44 => ⟨S8x4096x1024, .f32⟩
  | 45 => ⟨S8x4096x1024, .f32⟩
  | 46 => ⟨S_, .f32⟩
  | 47 => ⟨S8x4096x1024, .f32⟩
  | 48 => ⟨S8x4096x1024, .f32⟩
  | 49 => ⟨S8x1x1x1024, .f32⟩
  | 50 => ⟨S8x1x1024, .f32⟩
  | 51 => ⟨S_, .f32⟩
  | 52 => ⟨S8x1x1024, .f32⟩
  | 53 => ⟨S8x1x1024, .f32⟩
  | 54 => ⟨S1024x5632, .f32⟩
  | 55 => ⟨S2816x1024, .f32⟩
  | 56 => ⟨S8x4096x5632, .f32⟩
  | 57 => ⟨S8x4096x2816, .f32⟩
  | 58 => ⟨S8x4096x2816, .f32⟩
  | 59 => ⟨S8x4096x2816, .f32⟩
  | 60 => ⟨S8x4096x2816, .f32⟩
  | 61 => ⟨S_, .f32⟩
  | 62 => ⟨S8x4096x2816, .f32⟩
  | 63 => ⟨S8x4096x2816, .f32⟩
  | 64 => ⟨S_, .f32⟩
  | 65 => ⟨S8x4096x2816, .f32⟩
  | 66 => ⟨S8x4096x2816, .f32⟩
  | 67 => ⟨S8x4096x2816, .f32⟩
  | 68 => ⟨S8x4096x2816, .f32⟩
  | 69 => ⟨S8x4096x1024, .f32⟩
  | 70 => ⟨S8x4096x1024, .f32⟩
  | 71 => ⟨S8x4096x1024, .f32⟩
  | 72 => ⟨S8x4096x1024, .f32⟩
  | 73 => ⟨S1x1x1024, .f32⟩
  | 74 => ⟨S1024, .f32⟩
  | 75 => ⟨S1x1x1024, .f32⟩
  | 76 => ⟨S1024, .f32⟩
  | 77 => ⟨S_, .f32⟩
  | 78 => ⟨S8x4096, .f32⟩
  | 79 => ⟨S8x4096x1, .f32⟩
  | 80 => ⟨S_, .f32⟩
  | 81 => ⟨S8x4096x1, .f32⟩
  | 82 => ⟨S8x4096x1, .f32⟩
  | 83 => ⟨S8x4096x1024, .f32⟩
  | 84 => ⟨S8x4096x1024, .f32⟩
  | 85 => ⟨S8x4096x1024, .f32⟩
  | 86 => ⟨S_, .f32⟩
  | 87 => ⟨S8x4096, .f32⟩
  | 88 => ⟨S8x4096x1, .f32⟩
  | 89 => ⟨S_, .f32⟩
  | 90 => ⟨S8x4096x1, .f32⟩
  | 91 => ⟨S8x4096x1, .f32⟩
  | 92 => ⟨S8x4096x1024, .f32⟩
  | 93 => ⟨S8x4096x1024, .f32⟩
  | 94 => ⟨S_, .f32⟩
  | 95 => ⟨S8x4096x1, .f32⟩
  | 96 => ⟨S8x4096x1, .f32⟩
  | 97 => ⟨S8x4096x1, .f32⟩
  | 98 => ⟨S8x4096x1024, .f32⟩
  | 99 => ⟨S8x4096x1024, .f32⟩
  | 100 => ⟨S1x1x1024, .f32⟩
  | 101 => ⟨S8x4096x1024, .f32⟩
  | 102 => ⟨S8x4096x1024, .f32⟩
  | 103 => ⟨S1x1x1024, .f32⟩
  | 104 => ⟨S8x4096x1024, .f32⟩
  | 105 => ⟨S8x4096x1024, .f32⟩
  | 106 => ⟨S8x4096x512, .f32⟩
  | 107 => ⟨S_, .f32⟩
  | 108 => ⟨S8x4096x512, .f32⟩
  | 109 => ⟨S8x4096x512, .f32⟩
  | 110 => ⟨S8x4096x8x64, .f32⟩
  | 111 => ⟨S8x4096x8x64, .bf16⟩
  | 112 => ⟨S8x4096x512, .f32⟩
  | 113 => ⟨S_, .f32⟩
  | 114 => ⟨S8x4096x512, .f32⟩
  | 115 => ⟨S8x4096x512, .f32⟩
  | 116 => ⟨S8x4096x8x64, .f32⟩
  | 117 => ⟨S8x4096x8x64, .bf16⟩
  | 118 => ⟨S8x4096x24, .f32⟩
  | 119 => ⟨S8x4096x24, .f32⟩
  | 120 => ⟨S8x4096x24, .f32⟩
  | 121 => ⟨S_, .f32⟩
  | 122 => ⟨S8x4096x24, .f32⟩
  | 123 => ⟨S8x4096x24, .f32⟩
  | 124 => ⟨S_, .f32⟩
  | 125 => ⟨S8x4096x24, .f32⟩
  | 126 => ⟨S8x4096x24, .f32⟩
  | 127 => ⟨S8x4096x8x3, .f32⟩
  | _ => ⟨S8x4096x1024, .f32⟩

abbrev hbmTy0_2 (i : Nat) : BufTy := match i % 128 with
  | 0 => ⟨S1x8x4096x2x8x64, .f32⟩
  | 1 => ⟨S1x8x4096x4x2x64, .f32⟩
  | 2 => ⟨S8x512x2x2x64, .f32⟩
  | 3 => ⟨S1x8x512x2x2x64, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_2 : Ref sig .tc := ⟨.hbm, 72, rfl⟩
abbrev main_v39 : Ref sig .tc := ⟨.hbm, 73, rfl⟩
abbrev main_v40 : Ref sig .tc := ⟨.hbm, 74, rfl⟩
abbrev main_cst_3 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_4 : Ref sig .tc := ⟨.hbm, 81, rfl⟩
abbrev main_v46 : Ref sig .tc := ⟨.hbm, 82, rfl⟩
abbrev main_v47 : Ref sig .tc := ⟨.hbm, 83, rfl⟩
abbrev main_cst_5 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_6 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_7 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_8 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_9 : Ref sig .tc := ⟨.hbm, 134, rfl⟩
abbrev main_v94 : Ref sig .tc := ⟨.hbm, 135, rfl⟩
abbrev main_v95 : Ref sig .tc := ⟨.hbm, 136, rfl⟩
abbrev main_cst_10 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_11 : Ref sig .tc := ⟨.hbm, 143, rfl⟩
abbrev main_v101 : Ref sig .tc := ⟨.hbm, 144, rfl⟩
abbrev main_v102 : Ref sig .tc := ⟨.hbm, 145, rfl⟩
abbrev main_cst_12 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_13 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_14 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_15 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_16 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_call2_v0 : Ref sig .tc := ⟨.hbm, 187, rfl⟩
abbrev main_call2_v1 : Ref sig .tc := ⟨.hbm, 188, rfl⟩
abbrev main_call2_cst : Ref sig .tc := ⟨.hbm, 189, rfl⟩
abbrev main_call2_v2 : Ref sig .tc := ⟨.hbm, 190, rfl⟩
abbrev main_call2_v3 : Ref sig .tc := ⟨.hbm, 191, rfl⟩
abbrev main_call2_cst_0 : Ref sig .tc := ⟨.hbm, 192, rfl⟩
abbrev main_call2_v4 : Ref sig .tc := ⟨.hbm, 193, rfl⟩
abbrev main_call2_v5 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_17 : Ref sig .tc := ⟨.hbm, 205, rfl⟩
abbrev main_v149 : Ref sig .tc := ⟨.hbm, 206, rfl⟩
abbrev main_v150 : Ref sig .tc := ⟨.hbm, 207, rfl⟩
abbrev main_cst_18 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_19 : Ref sig .tc := ⟨.hbm, 214, rfl⟩
abbrev main_v156 : Ref sig .tc := ⟨.hbm, 215, rfl⟩
abbrev main_v157 : Ref sig .tc := ⟨.hbm, 216, rfl⟩
abbrev main_cst_20 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_21 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_22 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_23 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_24 : Ref sig .tc := ⟨.hbm, 249, rfl⟩
abbrev main_v186 : Ref sig .tc := ⟨.hbm, 250, rfl⟩
abbrev main_v187 : Ref sig .tc := ⟨.hbm, 251, rfl⟩
abbrev main_cst_25 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩

abbrev nD : Nat := 1
abbrev τ : Topo := Topo.v7x

variable {F : FTy → Type} [FloatOps F]
-- ==== Kernel3.lean ====
abbrev S128x4x1024 : Shape := ⟨3, ![128, 4, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S1x128x512x2x2x64 : Shape := ⟨6, ![1, 128, 512, 2, 2, 64]⟩
abbrev S512x1024 : Shape := ⟨2, ![512, 1024]⟩
abbrev S136x1024 : Shape := ⟨2, ![136, 1024]⟩
abbrev S1x128x2x2x64x512 : Shape := ⟨6, ![1, 128, 2, 2, 64, 512]⟩
abbrev S1x128x256x512 : Shape := ⟨4, ![1, 128, 256, 512]⟩
abbrev S1024x9216 : Shape := ⟨2, ![1024, 9216]⟩
abbrev S9216 : Shape := ⟨1, ![9216]⟩
abbrev S136x9216 : Shape := ⟨2, ![136, 9216]⟩
abbrev S1024x1024 : Shape := ⟨2, ![1024, 1024]⟩
abbrev S1x1024 : Shape := ⟨2, ![1, 1024]⟩
abbrev S136x9x1024 : Shape := ⟨3, ![136, 9, 1024]⟩
abbrev S128x9x1024 : Shape := ⟨3, ![128, 9, 1024]⟩
abbrev S128x4x9x1024 : Shape := ⟨4, ![128, 4, 9, 1024]⟩
abbrev S512x9x1024 : Shape := ⟨3, ![512, 9, 1024]⟩
abbrev S9x512x1024 : Shape := ⟨3, ![9, 512, 1024]⟩
abbrev S9x1x512x1024 : Shape := ⟨4, ![9, 1, 512, 1024]⟩
abbrev S1024x5632 : Shape := ⟨2, ![1024, 5632]⟩
abbrev S2816x1024 : Shape := ⟨2, ![2816, 1024]⟩
abbrev S1024x2840 : Shape := ⟨2, ![1024, 2840]⟩
abbrev S1024x512 : Shape := ⟨2, ![1024, 512]⟩
abbrev S_ : Shape := ⟨0, ![]⟩
abbrev S1024x8x64 : Shape := ⟨3, ![1024, 8, 64]⟩
abbrev S1024x8x128 : Shape := ⟨3, ![1024, 8, 128]⟩
abbrev S1024x1x64 : Shape := ⟨3, ![1024, 1, 64]⟩
abbrev S1024x64 : Shape := ⟨2, ![1024, 64]⟩
abbrev S1 : Shape := ⟨1, ![1]⟩
abbrev S2 : Shape := ⟨1, ![2]⟩
abbrev S1024x24 : Shape := ⟨2, ![1024, 24]⟩
abbrev S1024x128 : Shape := ⟨2, ![1024, 128]⟩
abbrev S1024x256 : Shape := ⟨2, ![1024, 256]⟩
abbrev S1024x3968 : Shape := ⟨2, ![1024, 3968]⟩
abbrev S2x4x64x1024 : Shape := ⟨4, ![2, 4, 64, 1024]⟩
abbrev S4x2x64x1024 : Shape := ⟨4, ![4, 2, 64, 1024]⟩
abbrev S3x1024 : Shape := ⟨2, ![3, 1024]⟩
abbrev S1x1x512x1024 : Shape := ⟨4, ![1, 1, 512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S512x2x4x64 : Shape := ⟨4, ![512, 2, 4, 64]⟩
abbrev S512x4x2x64 : Shape := ⟨4, ![512, 4, 2, 64]⟩
abbrev S2x1024 : Shape := ⟨2, ![2, 1024]⟩
abbrev S128x256x512 : Shape := ⟨3, ![128, 256, 512]⟩
abbrev S128x256x508 : Shape := ⟨3, ![128, 256, 508]⟩
abbrev S128x4x256 : Shape := ⟨3, ![128, 4, 256]⟩
abbrev S128x256x4 : Shape := ⟨3, ![128, 256, 4]⟩
abbrev S128x4x2x8x64 : Shape := ⟨5, ![128, 4, 2, 8, 64]⟩
abbrev S128x4x4x2x64 : Shape := ⟨5, ![128, 4, 4, 2, 64]⟩
abbrev S128x2x2x64x512 : Shape := ⟨5, ![128, 2, 2, 64, 512]⟩
abbrev S128x512x2x2x64 : Shape := ⟨5, ![128, 512, 2, 2, 64]⟩
abbrev S1x128x4x2x8x64 : Shape := ⟨6, ![1, 128, 4, 2, 8, 64]⟩
abbrev S1x128x4x4x2x64 : Shape := ⟨6, ![1, 128, 4, 4, 2, 64]⟩

abbrev nBuf : Space → Nat
  | .hbm => 173
  | .vmem => 36
  | .smem => 0
  | _ => 0

abbrev hbmTy0_0 (i : Nat) : BufTy := match i % 128 with
  | 0 => ⟨S128x4x1024, .f32⟩
  | 1 => ⟨S128x4x1024, .f32⟩
  | 2 => ⟨S8x1024, .f32⟩
  | 3 => ⟨S128x1024, .f32⟩
  | 4 => ⟨S1x1024x9216, .f32⟩
  | 5 => ⟨S1x9216, .f32⟩
  | 6 => ⟨S1x1024x5632, .f32⟩
  | 7 => ⟨S1x2816x1024, .f32⟩
  | 8 => ⟨S1x1024x2840, .f32⟩
  | 9 => ⟨S1x1024x1024, .f32⟩
  | 10 => ⟨S1x1024x5632, .f32⟩
  | 11 => ⟨S1x2816x1024, .f32⟩
  | 12 => ⟨S1x3x1024, .f32⟩
  | 13 => ⟨S1x3x1024, .f32⟩
  | 14 => ⟨S1x128x512x2x2x64, .f32⟩
  | 15 => ⟨S512x1024, .f32⟩
  | 16 => ⟨S136x1024, .f32⟩
  | 17 => ⟨S1x128x2x2x64x512, .f32⟩
  | 18 => ⟨S1x128x256x512, .f32⟩
  | 19 => ⟨S1024x9216, .f32⟩
  | 20 => ⟨S9216, .f32⟩
  | 21 => ⟨S1x9216, .f32⟩
  | 22 => ⟨S136x9216, .f32⟩
  | 23 => ⟨S136x9x1024, .f32⟩
  | 24 => ⟨S128x9x1024, .f32⟩
  | 25 => ⟨S128x4x9x1024, .f32⟩
  | 26 => ⟨S512x9x1024, .f32⟩
  | 27 => ⟨S9x512x1024, .f32⟩
  | 28 => ⟨S9x1x512x1024, .f32⟩
  | 29 => ⟨S1024x5632, .f32⟩
  | 30 => ⟨S1024x5632, .bf16⟩
  | 31 => ⟨S2816x1024, .f32⟩
  | 32 => ⟨S2816x1024, .bf16⟩
  | 33 => ⟨S1024x5632, .f32⟩
  | 34 => ⟨S1024x5632, .bf16⟩
  | 35 => ⟨S2816x1024, .f32⟩
  | 36 => ⟨S2816x1024, .bf16⟩
  | 37 => ⟨S1024x2840, .f32⟩
  | 38 => ⟨S1024x512, .f32⟩
  | 39 => ⟨S_, .f32⟩
  | 40 => ⟨S1024x512, .f32⟩
  | 41 => ⟨S1024x512, .f32⟩
  | 42 => ⟨S1024x8x64, .f32⟩
  | 43 => ⟨S_, .f32⟩
  | 44 => ⟨S1024x8x128, .f32⟩
  | 45 => ⟨S1024x1x64, .f32⟩
  | 46 => ⟨S1024x64, .f32⟩
  | 47 => ⟨S_, .i32⟩
  | 48 => ⟨S1, .i32⟩
  | 49 => ⟨S_, .i32⟩
  | 50 => ⟨S1, .i32⟩
  | 51 => ⟨S2, .i32⟩
  | 52 => ⟨S1024x8x128, .f32⟩
  | 53 => ⟨S1024x1x64, .f32⟩
  | 54 => ⟨S1024x64, .f32⟩
  | 55 => ⟨S_, .i32⟩
  | 56 => ⟨S1, .i32⟩
  | 57 => ⟨S_, .i32⟩
  | 58 => ⟨S1, .i32⟩
  | 59 => ⟨S2, .i32⟩
  | 60 => ⟨S1024x8x128, .f32⟩
  | 61 => ⟨S1024x1x64, .f32⟩
  | 62 => ⟨S1024x64, .f32⟩
  | 63 => ⟨S_, .i32⟩
  | 64 => ⟨S1, .i32⟩
  | 65 => ⟨S_, .i32⟩
  | 66 => ⟨S1, .i32⟩
  | 67 => ⟨S2, .i32⟩
  | 68 => ⟨S1024x8x128, .f32⟩
  | 69 => ⟨S1024x1x64, .f32⟩
  | 70 => ⟨S1024x64, .f32⟩
  | 71 => ⟨S_, .i32⟩
  | 72 => ⟨S1, .i32⟩
  | 73 => ⟨S_, .i32⟩
  | 74 => ⟨S1, .i32⟩
  | 75 => ⟨S2, .i32⟩
  | 76 => ⟨S1024x8x128, .f32⟩
  | 77 => ⟨S1024x1x64, .f32⟩
  | 78 => ⟨S1024x64, .f32⟩
  | 79 => ⟨S_, .i32⟩
  | 80 => ⟨S1, .i32⟩
  | 81 => ⟨S_, .i32⟩
  | 82 => ⟨S1, .i32⟩
  | 83 => ⟨S2, .i32⟩
  | 84 => ⟨S1024x8x128, .f32⟩
  | 85 => ⟨S1024x1x64, .f32⟩
  | 86 => ⟨S1024x64, .f32⟩
  | 87 => ⟨S_, .i32⟩
  | 88 => ⟨S1, .i32⟩
  | 89 => ⟨S_, .i32⟩
  | 90 => ⟨S1, .i32⟩
  | 91 => ⟨S2, .i32⟩
  | 92 => ⟨S1024x8x128, .f32⟩
  | 93 => ⟨S1024x1x64, .f32⟩
  | 94 => ⟨S1024x64, .f32⟩
  | 95 => ⟨S_, .i32⟩
  | 96 => ⟨S1, .i32⟩
  | 97 => ⟨S_, .i32⟩
  | 98 => ⟨S1, .i32⟩
  | 99 => ⟨S2, .i32⟩
  | 100 => ⟨S1024x8x128, .f32⟩
  | 101 => ⟨S1024x1x64, .f32⟩
  | 102 => ⟨S1024x64, .f32⟩
  | 103 => ⟨S_, .i32⟩
  | 104 => ⟨S1, .i32⟩
  | 105 => ⟨S_, .i32⟩
  | 106 => ⟨S1, .i32⟩
  | 107 => ⟨S2, .i32⟩
  | 108 => ⟨S1024x8x128, .f32⟩
  | 109 => ⟨S1024x512, .f32⟩
  | 110 => ⟨S_, .f32⟩
  | 111 => ⟨S1024x512, .f32⟩
  | 112 => ⟨S1024x512, .f32⟩
  | 113 => ⟨S1024x8x64, .f32⟩
  | 114 => ⟨S_, .f32⟩
  | 115 => ⟨S1024x8x128, .f32⟩
  | 116 => ⟨S_, .i32⟩
  | 117 => ⟨S1, .i32⟩
  | 118 => ⟨S1024x8x128, .f32⟩
  | 119 => ⟨S1024x24, .f32⟩
  | 120 => ⟨S_, .i32⟩
  | 121 => ⟨S_, .f32⟩
  | 122 => ⟨S1024x128, .f32⟩
  | 123 => ⟨S1024x1024, .f32⟩
  | 124 => ⟨S1024x1024, .f32⟩
  | 125 => ⟨S1024x1024, .f32⟩
  | 126 => ⟨S1024x512, .f32⟩
  | 127 => ⟨S1024x256, .f32⟩
  | _ => ⟨S128x4x1024, .f32⟩

abbrev hbmTy0_1 (i : Nat) : BufTy := match i % 128 with
  | 0 => ⟨S1024x3968, .f32⟩
  | 1 => ⟨S1024x3968, .bf16⟩
  | 2 => ⟨S1024x1024, .f32⟩
  | 3 => ⟨S512x1024, .f32⟩
  | 4 => ⟨S512x1024, .bf16⟩
  | 5 => ⟨S512x1024, .f32⟩
  | 6 => ⟨S2x4x64x1024, .f32⟩
  | 7 => ⟨S4x2x64x1024, .f32⟩
  | 8 => ⟨S512x1024, .f32⟩
  | 9 => ⟨S512x1024, .bf16⟩
  | 10 => ⟨S3x1024, .f32⟩
  | 11 => ⟨S3x1024, .f32⟩
  | 12 => ⟨S1x1024, .f32⟩
  | 13 => ⟨S1x1024, .f32⟩
  | 14 => ⟨S512x1024, .f32⟩
  | 15 => ⟨S512x1024, .bf16⟩
  | 16 => ⟨S512x1024, .bf16⟩
  | 17 => ⟨S512x128, .f32⟩
  | 18 => ⟨S512x1024, .f32⟩
  | 19 => ⟨S512x512, .f32⟩
  | 20 => ⟨S512x256, .f32⟩
  | 21 => ⟨S512x1024, .f32⟩
  | 22 => ⟨S512x512, .f32⟩
  | 23 => ⟨S512x2x4x64, .f32⟩
  | 24 => ⟨S512x4x2x64, .f32⟩
  | 25 => ⟨S512x512, .f32⟩
  | 26 => ⟨S512x512, .f32⟩
  | 27 => ⟨S512x512, .bf16⟩
  | 28 => ⟨S512x512, .bf16⟩
  | 29 => ⟨S2x1024, .f32⟩
  | 30 => ⟨S2x1024, .f32⟩
  | 31 => ⟨S512x1024, .f32⟩
  | 32 => ⟨S128x256x512, .f32⟩
  | 33 => ⟨S128x256x508, .f32⟩
  | 34 => ⟨S128x4x256, .f32⟩
  | 35 => ⟨S128x256x4, .f32⟩
  | 36 => ⟨S128x256x512, .f32⟩
  | 37 => ⟨S128x4x2x8x64, .f32⟩
  | 38 => ⟨S128x4x4x2x64, .f32⟩
  | 39 => ⟨S128x2x2x64x512, .f32⟩
  | 40 => ⟨S128x512x2x2x64, .f32⟩
  | 41 => ⟨S128x4x1024, .f32⟩
  | 42 => ⟨S1x128x4x2x8x64, .f32⟩
  | 43 => ⟨S1x128x4x4x2x64, .f32⟩
  | 44 => ⟨S1x128x512x2x2x64, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S512x1024, .f32⟩
  | .local _ .vmem, ⟨8, _⟩ => ⟨S9x1x512x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S9x1x512x1024, .f32⟩
  | .local _ .vmem, ⟨17, _⟩ => ⟨S1024x3968, .bf16⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x1024, .f32⟩
  | .local _ .vmem, ⟨22, _⟩ => ⟨S512x512, .f32⟩
  | .local _ .vmem, ⟨23, _⟩ => ⟨S512x256, .f32⟩
  | .local _ .vmem, ⟨24, _⟩ => ⟨S512x1024, .f32⟩
  | .local _ .vmem, ⟨25, _⟩ => ⟨S512x512, .bf16⟩
  | .local _ .vmem, ⟨26, _⟩ => ⟨S512x512, .bf16⟩
  | .local _ .vmem, ⟨27, _⟩ => ⟨S9x1x512x1024, .f32⟩
  | .local _ .vmem, ⟨28, _⟩ => ⟨S512x1024, .bf16⟩
  | .local _ .vmem, ⟨29, _⟩ => ⟨S512x1024, .bf16⟩
  | .local _ .vmem, ⟨30, _⟩ => ⟨S1024x5632, .bf16⟩
  | .local _ .vmem, ⟨31, _⟩ => ⟨S2816x1024, .bf16⟩
  | .local _ .vmem, ⟨32, _⟩ => ⟨S2x1024, .f32⟩
  | .local _ .vmem, ⟨33, _⟩ => ⟨S2x1024, .f32⟩
  | .local _ .vmem, ⟨34, _⟩ => ⟨S512x1024, .f32⟩
  | .local _ .vmem, ⟨35, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_c_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_2 : Ref sig .tc := ⟨.hbm, 55, rfl⟩
abbrev main_v36 : Ref sig .tc := ⟨.hbm, 56, rfl⟩
abbrev main_c_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_c_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_14 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_call0_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105_0 : Ref sig .tc := ⟨.hbm, 143, rfl⟩
abbrev main_v105_1 : Ref sig .tc := ⟨.hbm, 144, rfl⟩
abbrev main_v105_2 : Ref sig .tc := ⟨.hbm, 145, rfl⟩
abbrev main_v105_3 : Ref sig .tc := ⟨.hbm, 146, rfl⟩
abbrev main_v105_4 : Ref sig .tc := ⟨.hbm, 147, rfl⟩
abbrev main_v105_5 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_scratch0 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S9x1x512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1024x5632 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S9x1x512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1024x3968 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev stage2_8 : Fin 1 → Memref sig .tc .vmem S512x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S512x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S9x1x512x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S512x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x5632 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2816x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S2x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true]
-- ==== Reference3Ideal.lean ====
abbrev S128x4x1024 : Shape := ⟨3, ![128, 4, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024x2840 : Shape := ⟨3, ![1, 1024, 2840]⟩
abbrev S1x1024x1024 : Shape := ⟨3, ![1, 1024, 1024]⟩
abbrev S1x3x1024 : Shape := ⟨3, ![1, 3, 1024]⟩
abbrev S1x128x512x2x2x64 : Shape := ⟨6, ![1, 128, 512, 2, 2, 64]⟩
abbrev S_ : Shape := ⟨0, ![]⟩
abbrev S1024x9216 : Shape := ⟨2, ![1024, 9216]⟩
abbrev S128x9216 : Shape := ⟨2, ![128, 9216]⟩
abbrev S9216 : Shape := ⟨1, ![9216]⟩
abbrev S128x1x9x1024 : Shape := ⟨4, ![128, 1, 9, 1024]⟩
abbrev S128x1x1x1024 : Shape := ⟨4, ![128, 1, 1, 1024]⟩
abbrev S128x1x1024 : Shape := ⟨3, ![128, 1, 1024]⟩
abbrev S1024x5632 : Shape := ⟨2, ![1024, 5632]⟩
abbrev S2816x1024 : Shape := ⟨2, ![2816, 1024]⟩
abbrev S128x4x5632 : Shape := ⟨3, ![128, 4, 5632]⟩
abbrev S128x4x2816 : Shape := ⟨3, ![128, 4, 2816]⟩
abbrev S1x1x1024 : Shape := ⟨3, ![1, 1, 1024]⟩
abbrev S1024 : Shape := ⟨1, ![1024]⟩
abbrev S128x4 : Shape := ⟨2, ![128, 4]⟩
abbrev S128x4x1 : Shape := ⟨3, ![128, 4, 1]⟩
abbrev S1024x2840 : Shape := ⟨2, ![1024, 2840]⟩
abbrev S128x4x2840 : Shape := ⟨3, ![128, 4, 2840]⟩
abbrev S128x4x2x8x64 : Shape := ⟨5, ![128, 4, 2, 8, 64]⟩
abbrev S128x4x512 : Shape := ⟨3, ![128, 4, 512]⟩
abbrev S128x4x4x2x64 : Shape := ⟨5, ![128, 4, 4, 2, 64]⟩
abbrev S128x4x256 : Shape := ⟨3, ![128, 4, 256]⟩
abbrev S128x4x2x2x64 : Shape := ⟨5, ![128, 4, 2, 2, 64]⟩
abbrev S1024x1024 : Shape := ⟨2, ![1024, 1024]⟩
abbrev S128x512x2x2x64 : Shape := ⟨5, ![128, 512, 2, 2, 64]⟩
abbrev S128x516x2x2x64 : Shape := ⟨5, ![128, 516, 2, 2, 64]⟩
abbrev S1x128x4x2x8x64 : Shape := ⟨6, ![1, 128, 4, 2, 8, 64]⟩
abbrev S1x128x4x4x2x64 : Shape := ⟨6, ![1, 128, 4, 4, 2, 64]⟩

abbrev nBuf : Space → Nat
  | .hbm => 241
  | .vmem => 0
  | .smem => 0
  | _ => 0

abbrev hbmTy0_0 (i : Nat) : BufTy := match i % 128 with
  | 0 => ⟨S128x4x1024, .f32⟩
  | 1 => ⟨S128x4x1024, .f32⟩
  | 2 => ⟨S8x1024, .f32⟩
  | 3 => ⟨S128x1024, .f32⟩
  | 4 => ⟨S1x1024x9216, .f32⟩
  | 5 => ⟨S1x9216, .f32⟩
  | 6 => ⟨S1x1024x5632, .f32⟩
  | 7 => ⟨S1x2816x1024, .f32⟩
  | 8 => ⟨S1x1024x2840, .f32⟩
  | 9 => ⟨S1x1024x1024, .f32⟩
  | 10 => ⟨S1x1024x5632, .f32⟩
  | 11 => ⟨S1x2816x1024, .f32⟩
  | 12 => ⟨S1x3x1024, .f32⟩
  | 13 => ⟨S1x3x1024, .f32⟩
  | 14 => ⟨S1x128x512x2x2x64, .f32⟩
  | 15 => ⟨S128x1024, .f32⟩
  | 16 => ⟨S128x1024, .f32⟩
  | 17 => ⟨S_, .f32⟩
  | 18 => ⟨S128x1024, .f32⟩
  | 19 => ⟨S128x1024, .f32⟩
  | 20 => ⟨S_, .f32⟩
  | 21 => ⟨S128x1024, .f32⟩
  | 22 => ⟨S128x1024, .f32⟩
  | 23 => ⟨S128x1024, .f32⟩
  | 24 => ⟨S1024x9216, .f32⟩
  | 25 => ⟨S128x9216, .f32⟩
  | 26 => ⟨S9216, .f32⟩
  | 27 => ⟨S1x9216, .f32⟩
  | 28 => ⟨S128x9216, .f32⟩
  | 29 => ⟨S128x9216, .f32⟩
  | 30 => ⟨S128x1x9x1024, .f32⟩
  | 31 => ⟨S128x1x1x1024, .f32⟩
  | 32 => ⟨S128x1x1024, .f32⟩
  | 33 => ⟨S_, .f32⟩
  | 34 => ⟨S128x1x1024, .f32⟩
  | 35 => ⟨S128x1x1024, .f32⟩
  | 36 => ⟨S128x4x1024, .f32⟩
  | 37 => ⟨S128x4x1024, .f32⟩
  | 38 => ⟨S128x1x1x1024, .f32⟩
  | 39 => ⟨S128x1x1024, .f32⟩
  | 40 => ⟨S128x4x1024, .f32⟩
  | 41 => ⟨S128x4x1024, .f32⟩
  | 42 => ⟨S_, .f32⟩
  | 43 => ⟨S128x4x1024, .f32⟩
  | 44 => ⟨S128x4x1024, .f32⟩
  | 45 => ⟨S128x1x1x1024, .f32⟩
  | 46 => ⟨S128x1x1024, .f32⟩
  | 47 => ⟨S_, .f32⟩
  | 48 => ⟨S128x1x1024, .f32⟩
  | 49 => ⟨S128x1x1024, .f32⟩
  | 50 => ⟨S1024x5632, .f32⟩
  | 51 => ⟨S2816x1024, .f32⟩
  | 52 => ⟨S128x4x5632, .f32⟩
  | 53 => ⟨S128x4x2816, .f32⟩
  | 54 => ⟨S128x4x2816, .f32⟩
  | 55 => ⟨S128x4x2816, .f32⟩
  | 56 => ⟨S128x4x2816, .f32⟩
  | 57 => ⟨S_, .f32⟩
  | 58 => ⟨S128x4x2816, .f32⟩
  | 59 => ⟨S128x4x2816, .f32⟩
  | 60 => ⟨S_, .f32⟩
  | 61 => ⟨S128x4x2816, .f32⟩
  | 62 => ⟨S128x4x2816, .f32⟩
  | 63 => ⟨S128x4x2816, .f32⟩
  | 64 => ⟨S128x4x2816, .f32⟩
  | 65 => ⟨S128x4x1024, .f32⟩
  | 66 => ⟨S128x4x1024, .f32⟩
  | 67 => ⟨S128x4x1024, .f32⟩
  | 68 => ⟨S128x4x1024, .f32⟩
  | 69 => ⟨S1x1x1024, .f32⟩
  | 70 => ⟨S1024, .f32⟩
  | 71 => ⟨S1x1x1024, .f32⟩
  | 72 => ⟨S1024, .f32⟩
  | 73 => ⟨S_, .f32⟩
  | 74 => ⟨S128x4, .f32⟩
  | 75 => ⟨S128x4x1, .f32⟩
  | 76 => ⟨S_, .f32⟩
  | 77 => ⟨S128x4x1, .f32⟩
  | 78 => ⟨S128x4x1, .f32⟩
  | 79 => ⟨S128x4x1024, .f32⟩
  | 80 => ⟨S128x4x1024, .f32⟩
  | 81 => ⟨S128x4x1024, .f32⟩
  | 82 => ⟨S_, .f32⟩
  | 83 => ⟨S128x4, .f32⟩
  | 84 => ⟨S128x4x1, .f32⟩
  | 85 => ⟨S_, .f32⟩
  | 86 => ⟨S128x4x1, .f32⟩
  | 87 => ⟨S128x4x1, .f32⟩
  | 88 => ⟨S128x4x1024, .f32⟩
  | 89 => ⟨S128x4x1024, .f32⟩
  | 90 => ⟨S_, .f32⟩
  | 91 => ⟨S128x4x1, .f32⟩
  | 92 => ⟨S128x4x1, .f32⟩
  | 93 => ⟨S128x4x1, .f32⟩
  | 94 => ⟨S128x4x1024, .f32⟩
  | 95 => ⟨S128x4x1024, .f32⟩
  | 96 => ⟨S1x1x1024, .f32⟩
  | 97 => ⟨S128x4x1024, .f32⟩
  | 98 => ⟨S128x4x1024, .f32⟩
  | 99 => ⟨S1x1x1024, .f32⟩
  | 100 => ⟨S128x4x1024, .f32⟩
  | 101 => ⟨S128x4x1024, .f32⟩
  | 102 => ⟨S128x1x1x1024, .f32⟩
  | 103 => ⟨S128x1x1024, .f32⟩
  | 104 => ⟨S_, .f32⟩
  | 105 => ⟨S128x1x1024, .f32⟩
  | 106 => ⟨S128x1x1024, .f32⟩
  | 107 => ⟨S128x4x1024, .f32⟩
  | 108 => ⟨S128x4x1024, .f32⟩
  | 109 => ⟨S128x1x1x1024, .f32⟩
  | 110 => ⟨S128x1x1024, .f32⟩
  | 111 => ⟨S128x4x1024, .f32⟩
  | 112 => ⟨S128x4x1024, .f32⟩
  | 113 => ⟨S1024x2840, .f32⟩
  | 114 => ⟨S128x4x2840, .f32⟩
  | 115 => ⟨S128x4x1024, .f32⟩
  | 116 => ⟨S128x4x2x8x64, .f32⟩
  | 117 => ⟨S128x4x512, .f32⟩
  | 118 => ⟨S128x4x4x2x64, .f32⟩
  | 119 => ⟨S128x4x256, .f32⟩
  | 120 => ⟨S128x4x2x2x64, .f32⟩
  | 121 => ⟨S_, .f32⟩
  | 122 => ⟨S128x4x1024, .f32⟩
  | 123 => ⟨S128x4x1024, .f32⟩
  | 124 => ⟨S128x1x1x1024, .f32⟩
  | 125 => ⟨S128x1x1024, .f32⟩
  | 126 => ⟨S1024x1024, .f32⟩
  | 127 => ⟨S128x4x1024, .f32⟩
  | _ => ⟨S128x4x1024, .f32⟩

abbrev hbmTy0_1 (i : Nat) : BufTy := match i % 128 with
  | 0 => ⟨S128x4x1024, .f32⟩
  | 1 => ⟨S128x4x1024, .f32⟩
  | 2 => ⟨S128x4x1024, .f32⟩
  | 3 => ⟨S1x1x1024, .f32⟩
  | 4 => ⟨S1024, .f32⟩
  | 5 => ⟨S1x1x1024, .f32⟩
  | 6 => ⟨S1024, .f32⟩
  | 7 => ⟨S_, .f32⟩
  | 8 => ⟨S128x4, .f32⟩
  | 9 => ⟨S128x4x1, .f32⟩
  | 10 => ⟨S_, .f32⟩
  | 11 => ⟨S128x4x1, .f32⟩
  | 12 => ⟨S128x4x1, .f32⟩
  | 13 => ⟨S128x4x1024, .f32⟩
  | 14 => ⟨S128x4x1024, .f32⟩
  | 15 => ⟨S128x4x1024, .f32⟩
  | 16 => ⟨S_, .f32⟩
  | 17 => ⟨S128x4, .f32⟩
  | 18 => ⟨S128x4x1, .f32⟩
  | 19 => ⟨S_, .f32⟩
  | 20 => ⟨S128x4x1, .f32⟩
  | 21 => ⟨S128x4x1, .f32⟩
  | 22 => ⟨S128x4x1024, .f32⟩
  | 23 => ⟨S128x4x1024, .f32⟩
  | 24 => ⟨S_, .f32⟩
  | 25 => ⟨S128x4x1, .f32⟩
  | 26 => ⟨S128x4x1, .f32⟩
  | 27 => ⟨S128x4x1, .f32⟩
  | 28 => ⟨S128x4x1024, .f32⟩
  | 29 => ⟨S128x4x1024, .f32⟩
  | 30 => ⟨S1x1x1024, .f32⟩
  | 31 => ⟨S128x4x1024, .f32⟩
  | 32 => ⟨S128x4x1024, .f32⟩
  | 33 => ⟨S1x1x1024, .f32⟩
  | 34 => ⟨S128x4x1024, .f32⟩
  | 35 => ⟨S128x4x1024, .f32⟩
  | 36 => ⟨S128x1x1x1024, .f32⟩
  | 37 => ⟨S128x1x1024, .f32⟩
  | 38 => ⟨S_, .f32⟩
  | 39 => ⟨S128x1x1024, .f32⟩
  | 40 => ⟨S128x1x1024, .f32⟩
  | 41 => ⟨S128x4x1024, .f32⟩
  | 42 => ⟨S128x4x1024, .f32⟩
  | 43 => ⟨S128x1x1x1024, .f32⟩
  | 44 => ⟨S128x1x1024, .f32⟩
  | 45 => ⟨S128x4x1024, .f32⟩
  | 46 => ⟨S128x4x1024, .f32⟩
  | 47 => ⟨S_, .f32⟩
  | 48 => ⟨S128x4x1024, .f32⟩
  | 49 => ⟨S128x4x1024, .f32⟩
  | 50 => ⟨S128x1x1x1024, .f32⟩
  | 51 => ⟨S128x1x1024, .f32⟩
  | 52 => ⟨S_, .f32⟩
  | 53 => ⟨S128x1x1024, .f32⟩
  | 54 => ⟨S128x1x1024, .f32⟩
  | 55 => ⟨S1024x5632, .f32⟩
  | 56 => ⟨S2816x1024, .f32⟩
  | 57 => ⟨S128x4x5632, .f32⟩
  | 58 => ⟨S128x4x2816, .f32⟩
  | 59 => ⟨S128x4x2816, .f32⟩
  | 60 => ⟨S128x4x2816, .f32⟩
  | 61 => ⟨S128x4x2816, .f32⟩
  | 62 => ⟨S_, .f32⟩
  | 63 => ⟨S128x4x2816, .f32⟩
  | 64 => ⟨S128x4x2816, .f32⟩
  | 65 => ⟨S_, .f32⟩
  | 66 => ⟨S128x4x2816, .f32⟩
  | 67 => ⟨S128x4x2816, .f32⟩
  | 68 => ⟨S128x4x2816, .f32⟩
  | 69 => ⟨S128x4x2816, .f32⟩
  | 70 => ⟨S128x4x1024, .f32⟩
  | 71 => ⟨S128x4x1024, .f32⟩
  | 72 => ⟨S128x4x1024, .f32⟩
  | 73 => ⟨S128x4x1024, .f32⟩
  | 74 => ⟨S1x1x1024, .f32⟩
  | 75 => ⟨S1024, .f32⟩
  | 76 => ⟨S1x1x1024, .f32⟩
  | 77 => ⟨S1024, .f32⟩
  | 78 => ⟨S_, .f32⟩
  | 79 => ⟨S128x4, .f32⟩
  | 80 => ⟨S128x4x1, .f32⟩
  | 81 => ⟨S_, .f32⟩
  | 82 => ⟨S128x4x1, .f32⟩
  | 83 => ⟨S128x4x1, .f32⟩
  | 84 => ⟨S128x4x1024, .f32⟩
  | 85 => ⟨S128x4x1024, .f32⟩
  | 86 => ⟨S128x4x1024, .f32⟩
  | 87 => ⟨S_, .f32⟩
  | 88 => ⟨S128x4, .f32⟩
  | 89 => ⟨S128x4x1, .f32⟩
  | 90 => ⟨S_, .f32⟩
  | 91 => ⟨S128x4x1, .f32⟩
  | 92 => ⟨S128x4x1, .f32⟩
  | 93 => ⟨S128x4x1024, .f32⟩
  | 94 => ⟨S128x4x1024, .f32⟩
  | 95 => ⟨S_, .f32⟩
  | 96 => ⟨S128x4x1, .f32⟩
  | 97 => ⟨S128x4x1, .f32⟩
  | 98 => ⟨S128x4x1, .f32⟩
  | 99 => ⟨S128x4x1024, .f32⟩
  | 100 => ⟨S128x4x1024, .f32⟩
  | 101 => ⟨S1x1x1024, .f32⟩
  | 102 => ⟨S128x4x1024, .f32⟩
  | 103 => ⟨S128x4x1024, .f32⟩
  | 104 => ⟨S1x1x1024, .f32⟩
  | 105 => ⟨S128x4x1024, .f32⟩
  | 106 => ⟨S128x4x1024, .f32⟩
  | 107 => ⟨S128x512x2x2x64, .f32⟩
  | 108 => ⟨S128x516x2x2x64, .f32⟩
  | 109 => ⟨S128x512x2x2x64, .f32⟩
  | 110 => ⟨S1x128x4x2x8x64, .f32⟩
  | 111 => ⟨S1x128x4x4x2x64, .f32⟩
  | 112 => ⟨S1x128x512x2x2x64, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_2 : Ref sig .tc := ⟨.hbm, 73, rfl⟩
abbrev main_v39 : Ref sig .tc := ⟨.hbm, 74, rfl⟩
abbrev main_v40 : Ref sig .tc := ⟨.hbm, 75, rfl⟩
abbrev main_cst_3 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_4 : Ref sig .tc := ⟨.hbm, 82, rfl⟩
abbrev main_v46 : Ref sig .tc := ⟨.hbm, 83, rfl⟩
abbrev main_v47 : Ref sig .tc := ⟨.hbm, 84, rfl⟩
abbrev main_cst_5 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_6 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_7 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_8 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_9 : Ref sig .tc := ⟨.hbm, 135, rfl⟩
abbrev main_v94 : Ref sig .tc := ⟨.hbm, 136, rfl⟩
abbrev main_v95 : Ref sig .tc := ⟨.hbm, 137, rfl⟩
abbrev main_cst_10 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_11 : Ref sig .tc := ⟨.hbm, 144, rfl⟩
abbrev main_v101 : Ref sig .tc := ⟨.hbm, 145, rfl⟩
abbrev main_v102 : Ref sig .tc := ⟨.hbm, 146, rfl⟩
abbrev main_cst_12 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_13 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_14 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_15 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_16 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_call2_v0 : Ref sig .tc := ⟨.hbm, 188, rfl⟩
abbrev main_call2_v1 : Ref sig .tc := ⟨.hbm, 189, rfl⟩
abbrev main_call2_cst : Ref sig .tc := ⟨.hbm, 190, rfl⟩
abbrev main_call2_v2 : Ref sig .tc := ⟨.hbm, 191, rfl⟩
abbrev main_call2_v3 : Ref sig .tc := ⟨.hbm, 192, rfl⟩
abbrev main_call2_cst_0 : Ref sig .tc := ⟨.hbm, 193, rfl⟩
abbrev main_call2_v4 : Ref sig .tc := ⟨.hbm, 194, rfl⟩
abbrev main_call2_v5 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_17 : Ref sig .tc := ⟨.hbm, 206, rfl⟩
abbrev main_v149 : Ref sig .tc := ⟨.hbm, 207, rfl⟩
abbrev main_v150 : Ref sig .tc := ⟨.hbm, 208, rfl⟩
abbrev main_cst_18 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_19 : Ref sig .tc := ⟨.hbm, 215, rfl⟩
abbrev main_v156 : Ref sig .tc := ⟨.hbm, 216, rfl⟩
abbrev main_v157 : Ref sig .tc := ⟨.hbm, 217, rfl⟩
abbrev main_cst_20 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_21 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩

abbrev nD : Nat := 1
abbrev τ : Topo := Topo.v7x

variable {F : FTy → Type} [FloatOps F]
-- ==== Proof.SB.Kit.lean ====
/-
  The launch set-up of the stick-breaking prompt attention: what every buffer holds when the grid starts, that the host
  lines before it leave the two arguments alone, and what each window of the grid reads at a point. Everything is
  stated over any values `F` that interpret the named constant, so that one text serves the ideal reading and the
  machine's bits.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.WritesUnit
public import Idealize.ShloMosaic.Lib.ValueIdxCore

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the grid -/

/-- What core `c`'s buffers hold when the grid starts: the host lines' results over the launch memory. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor

set_option maxHeartbeats 800000 in
/-- The program is its host lines, then the grid. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh_0, fresh_1, fresh_2, fresh_3, fresh_4⟩) main_chain

/-- The host lines do not write the queries, -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- nor the keys and values. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil,
      List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-! ## The windows -/

/-- Window `w`'s block at point `t`, read off its array as the grid finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  ((cfg0.win w).blk t).view.read (Elt F) (V m c (Pipeline.arrRef spec0 w))

/-- The queries' buffer holds its block at every point, -/
theorem before_q {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin (cfg0 (F := F)).N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- the tiles' buffer its batch row, fetched once for the row's 32 points, -/
theorem before_kv {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin (cfg0 (F := F)).N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-- and the suffix matrix's buffer the whole matrix, fetched once. -/
theorem before_uu {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin (cfg0 (F := F)).N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

/-! ## The staging buffers and the scratch -/

abbrev mq (t : Fin (cfg0 (F := F)).N) : Memref sig .tc .vmem S128x1024 .bf16 := win0_0.stage (cfg0.slots t 0)
abbrev mkv (t : Fin (cfg0 (F := F)).N) : Memref sig .tc .vmem S1x32x1024x128 .bf16 := win0_1.stage (cfg0.slots t 1)
abbrev muu (t : Fin (cfg0 (F := F)).N) : Memref sig .tc .vmem S256x128 .bf16 := win0_2.stage (cfg0.slots t 2)
abbrev mo (t : Fin (cfg0 (F := F)).N) : Memref sig .tc .vmem S128x512 .bf16 := win0_3.stage (cfg0.slots t 3)
/-- The running log-survival `r`, -/
abbrev mr : Memref sig .tc .vmem S4x256x128 .f32 := Memref.whole cc0_scratch0
/-- and the running output. -/
abbrev ma : Memref sig .tc .vmem S4x256x128 .f32 := Memref.whole cc0_scratch1

/-- What a point starts and ends with besides its windows: the two scratch buffers at some contents, and the
    generator's register. -/
theorem phi_eq (c : Dev nD) :
    (Pipeline.ΦA spec0 c : sProp 𝕄)
      = iprop(iprop((∃ d, owns (c : Thread nD τ) mr fullShare d) ∗ (∃ d, owns (c : Thread nD τ) ma fullShare d))
          ∗ (∃ r, prngReg c r)) := by
  unfold Pipeline.ΦA; rw [scopedRest0_eq]; simp only [mr, ma, owns_whole]; try rfl

end Cert.Proof.SB

end
-- ==== Proof.SB.Step.lean ====
/-
  One key tile of the stick-breaking attention, as a function of the buffers' contents. For a pair of heads stacked
  into 256 rows: the logits of the tile, their softplus, the masked log-survivals, their suffix sums inside the tile by
  a product with the suffix matrix, the weights, and the new running survival and output. `stepR` and `stepA` are what a
  tile leaves in the two scratch buffers, `stepM` the maximum the loop tests, `loop` the tiles from `j` on.
-/
module

public import proofs.«01_k».proof.Proof.SB.Kit

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.ShloMosaic.ValueIdx

variable {F : FTy → Type} [FloatOps F] [Named F]

/-! ## The parts of the buffers a tile reads -/

/-- Head `h`'s 128 lanes of the queries' block. -/
def qHead (x0 : Vec F S128x1024 .bf16) (h : Fin 8) : Vec F S128x128 .bf16 :=
  fun y => x0 (ix2 (n0 := 128) (n1 := 1024) (y 0) ⟨h.val * 128 + (y 1).val, by have := (y 1).isLt; have := h.isLt; simp at *; omega⟩)

/-- Rows `b * 128 …` of tile `k` of a batch row: the keys of pair `b` for `b < 4`, the values of pair `b - 4` after. -/
def kvTile (x1 : Vec F S1x32x1024x128 .bf16) (k : Fin 32) (b : Fin 8) : Vec F S1x1x128x128 .bf16 :=
  fun y => x1 (ix4 (n0 := 1) (n1 := 32) (n2 := 1024) (n3 := 128) 0 k
    ⟨b.val * 128 + (y 2).val, by have := (y 2).isLt; have := b.isLt; simp at *; omega⟩ (y 3))

/-- Pair `p`'s slab of a scratch buffer. -/
def slab (X : Vec F S4x256x128 .f32) (p : Fin 4) : Vec F S1x256x128 .f32 :=
  fun y => X (ix3 (n0 := 4) (n1 := 256) (n2 := 128) p (y 1) (y 2))

/-- A scratch buffer from its four slabs. -/
def unslab (f : Fin 4 → FVec F S256x128 .f32) : Vec F S4x256x128 .f32 :=
  fun y => f (y 0) (ix2 (n0 := 256) (n1 := 128) (y 1) (y 2))

/-! ## One pair of heads at one tile -/

/-- The tile of key positions at distance `j` below query tile `i 1`. -/
abbrev kPos (i : grid0.Coords) (j : BitVec 32) : IVec S1x128 32 :=
  k0_pay14 (iota .tc S1x128 32 [1] iota_S1x128_d1_w32) j (BitVec.ofNat 32 (i 1).val)

/-- Which keys of the tile a query sees. -/
abbrev mask (i : grid0.Coords) (j : BitVec 32) : IVec S256x128 1 := k0_pay39 (k0_pay8 i) (kPos i j)

/-- The logits of a pair of heads against a tile of keys. -/
abbrev pZ (qa qb : Vec F S128x128 .bf16) (kt : Vec F S1x1x128x128 .bf16) : FVec F S256x128 .f32 :=
  k0_pay35 (k0_pay15 qa qb) (k0_pay18 kt)

/-- Their softplus. -/
abbrev pSp (z : FVec F S256x128 .f32) : FVec F S256x128 .f32 := k0_pay53 z

/-- The masked log-survivals. -/
abbrev pL (mk : IVec S256x128 1) (z : FVec F S256x128 .f32) : FVec F S256x128 .f32 :=
  select mk (subf (broadcast S256x128 (Scalar.ofBits .f32 0x00000000#32)) (pSp z))
    (broadcast S256x128 (Scalar.ofBits .f32 0x00000000#32))

/-- Their sum over the tile, row by row. -/
abbrev pTot (l : FVec F S256x128 .f32) : FVec F S256x1 .f32 :=
  shapeCast S256x1 (multiReduction .add [1] S256 l 0x00000000#32 reduces_S256x128_S256 (.inl rfl) rfl)
    shapeCasts_S256_S256x1

/-- Their suffix sums inside the tile: the two bf16 parts side by side against the doubled suffix matrix. -/
abbrev pBtw (l : FVec F S256x128 .f32) (uu : Vec F S256x128 .bf16) : FVec F S256x128 .f32 :=
  k0_pay64 (k0_pay34 uu) (truncf .bf16 l bitsLt_bf16_f32)
    (truncf .bf16 (subf l (extf .f32 (truncf .bf16 l bitsLt_bf16_f32) bitsLt_bf16_f32)) bitsLt_bf16_f32)

/-- The survival after the tile. -/
def pR (mk : IVec S256x128 1) (z r : FVec F S256x128 .f32) : FVec F S256x128 .f32 := k0_pay70 r (pTot (pL mk z))

/-- The output after the tile. -/
def pA (mk : IVec S256x128 1) (z r a : FVec F S256x128 .f32) (uu : Vec F S256x128 .bf16)
    (vt : Vec F S1x1x128x128 .bf16) : FVec F S256x128 .f32 :=
  k0_pay72 r a (k0_pay19 vt) mk (subf z (pSp z)) (pBtw (pL mk z) uu)

/-! ## A whole tile -/

section Tile

variable (i : grid0.Coords) (x0 : Vec F S128x1024 .bf16) (x1 : Vec F S1x32x1024x128 .bf16) (x2 : Vec F S256x128 .bf16)
  (j : ℕ)

/-- The tile at distance `j` below the diagonal. -/
def kTile : Fin 32 := ⟨(i 1).val - j, by have := (i 1).isLt; simp at *; omega⟩

/-- Pair `p`'s logits, -/
def zOf (p : Fin 4) : FVec F S256x128 .f32 :=
  pZ (qHead x0 ⟨2 * p.val, by omega⟩) (qHead x0 ⟨2 * p.val + 1, by omega⟩) (kvTile x1 (kTile i j) ⟨p.val, by omega⟩)

/-- its survival after the tile, -/
def rOf (R : Vec F S4x256x128 .f32) (p : Fin 4) : FVec F S256x128 .f32 :=
  pR (mask i (BitVec.ofNat 32 j)) (zOf i x0 x1 j p) (k0_pay16 (slab R p))

/-- and its output. -/
def aOf (R A : Vec F S4x256x128 .f32) (p : Fin 4) : FVec F S256x128 .f32 :=
  pA (mask i (BitVec.ofNat 32 j)) (zOf i x0 x1 j p) (k0_pay16 (slab R p)) (k0_pay17 (slab A p)) x2
    (kvTile x1 (kTile i j) ⟨p.val + 4, by omega⟩)

/-- The survivals after the tile, -/
def stepR (R : Vec F S4x256x128 .f32) : Vec F S4x256x128 .f32 := unslab (rOf i x0 x1 j R)

/-- the outputs, -/
def stepA (R A : Vec F S4x256x128 .f32) : Vec F S4x256x128 .f32 := unslab (aOf i x0 x1 x2 j R A)

/-- and the largest survival, which the loop tests. -/
def stepM (R : Vec F S4x256x128 .f32) : F .f32 :=
  k0_pay7 (rOf i x0 x1 j R 2) (rOf i x0 x1 j R 3) (maximumf (rOf i x0 x1 j R 0) (rOf i x0 x1 j R 1))

/-- The loop's test: a tile is left, and some query has survived above the exit. -/
def test (mx : F .f32) : BitVec 1 :=
  Scalar.andi (Scalar.cmpi .sle (BitVec.ofNat 32 j) (BitVec.ofNat 32 (i 1).val))
    (Scalar.cmpf .ogt mx (Named.named κ "sb_exit" 0xC2B00000#32))

end Tile

/-- The output scratch after the tiles from `j` on, at most `k` of them. -/
def loop (i : grid0.Coords) (x0 : Vec F S128x1024 .bf16) (x1 : Vec F S1x32x1024x128 .bf16) (x2 : Vec F S256x128 .bf16) :
    ℕ → ℕ → F .f32 → Vec F S4x256x128 .f32 → Vec F S4x256x128 .f32 → Vec F S4x256x128 .f32
  | 0, _, _, _, A => A
  | k + 1, j, mx, R, A =>
    if test i j mx = 1#1 then
      loop i x0 x1 x2 k (j + 1) (stepM i x0 x1 j R) (stepR i x0 x1 j R) (stepA i x0 x1 x2 j R A)
    else A

/-! ## The counter -/

/-- A counter up to the number of tiles is at most the query tile as words exactly when it is as numbers. -/
theorem sle_iff : ∀ a ≤ 32, ∀ b < 32,
    (Scalar.cmpi .sle (BitVec.ofNat 32 a) (BitVec.ofNat 32 b) = 1#1 ↔ a ≤ b) := by decide +kernel

theorem test_le (i : grid0.Coords) (j : ℕ) (hj : j ≤ 32) (mx : F .f32) (h : test i j mx = 1#1) : j ≤ (i 1).val := by
  have hb : ∀ a b : BitVec 1, Scalar.andi a b = 1#1 → a = 1#1 := by decide
  exact (sle_iff j hj (i 1).val (i 1).isLt).mp (hb _ _ h)

theorem addi_one : ∀ j ≤ 32, Scalar.addi (BitVec.ofNat 32 j) 1#32 = BitVec.ofNat 32 (j + 1) := by decide +kernel

/-- The tile the counter names, as the offsets compute it. -/
theorem tile_word : ∀ b < 32, ∀ j ≤ b,
    (Scalar.indexCast (Scalar.subi (BitVec.ofNat 32 b) (BitVec.ofNat 32 j)) : BitVec 32).toNat = b - j := by decide +kernel

section Offsets

variable (i : grid0.Coords) (j : ℕ) (h : j ≤ (i 1).val)
include h

theorem off1 : k0_off1 i (BitVec.ofNat 32 j) = ![0, (i 1).val - j, 0, 0] := by
  unfold k0_off1; dsimp only; rw [tile_word _ (i 1).isLt j h]
theorem off2 : k0_off2 i (BitVec.ofNat 32 j) = ![0, (i 1).val - j, 512, 0] := by
  unfold k0_off2; dsimp only; rw [tile_word _ (i 1).isLt j h]
theorem off3 : k0_off3 i (BitVec.ofNat 32 j) = ![0, (i 1).val - j, 128, 0] := by
  unfold k0_off3; dsimp only; rw [tile_word _ (i 1).isLt j h]
theorem off4 : k0_off4 i (BitVec.ofNat 32 j) = ![0, (i 1).val - j, 640, 0] := by
  unfold k0_off4; dsimp only; rw [tile_word _ (i 1).isLt j h]
theorem off5 : k0_off5 i (BitVec.ofNat 32 j) = ![0, (i 1).val - j, 256, 0] := by
  unfold k0_off5; dsimp only; rw [tile_word _ (i 1).isLt j h]
theorem off6 : k0_off6 i (BitVec.ofNat 32 j) = ![0, (i 1).val - j, 768, 0] := by
  unfold k0_off6; dsimp only; rw [tile_word _ (i 1).isLt j h]
theorem off7 : k0_off7 i (BitVec.ofNat 32 j) = ![0, (i 1).val - j, 384, 0] := by
  unfold k0_off7; dsimp only; rw [tile_word _ (i 1).isLt j h]
theorem off8 : k0_off8 i (BitVec.ofNat 32 j) = ![0, (i 1).val - j, 896, 0] := by
  unfold k0_off8; dsimp only; rw [tile_word _ (i 1).isLt j h]

/-- Every tile the counter names lies inside the row of tiles. -/
theorem chk : k0_chk1 i (BitVec.ofNat 32 j) := by
  have hi : (i 1).val < 32 := (i 1).isLt
  unfold k0_chk1
  rw [off1 i j h, off2 i j h, off3 i j h, off4 i j h, off5 i j h, off6 i j h, off7 i j h, off8 i j h]
  refine ⟨?_, ?_, ?_, ?_, ?_, ?_, ?_, ?_⟩ <;>
  · intro a; fin_cases a <;> simp <;> omega

end Offsets

end Cert.Proof.SB

end
-- ==== Proof.SB.Loop.lean ====
/-
  The while loop over key tiles, from the diagonal down: its label meets the specification that, holding the queries,
  the tiles, the suffix matrix and the two scratch buffers, it hands back the inputs as they were and the output scratch
  after the tiles that are left.
-/
module

public import proofs.«01_k».proof.Proof.SB.Step
public import Idealize.ShloMosaic.Lib.ValueLayout

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F] [Named F]

local notation "𝕄" => MT nD τ sig Unit (Elt F) ℕ (UR sig nD τ) ℕ

/-- The loop's variant is the number of tiles left. -/
abbrev 𝒱₀ : Variants := Variants.nat

/-! ## What the loads read -/

/-- The tile the counter names, as the offsets spell it. -/
abbrev kWord (i : grid0.Coords) (j : ℕ) : ℕ :=
  BitVec.toNat (Scalar.indexCast (Scalar.subi (BitVec.ofNat 32 (i 1).val) (BitVec.ofNat 32 j)))

section Loads

theorem load_q {M : Memref sig .tc .vmem S128x1024 .bf16} (hM : M.IsWhole) (x0 : Vec F S128x1024 .bf16) (h : Fin 8)
    {off : Fin 2 → ℕ} (inb : ∀ a, off a + S128x128.size a ≤ S128x1024.size a) (ho : off = ![0, h.val * 128]) :
    M.view.readAt (Elt F) (Rect.unit (s := S128x1024) off S128x128.size inb).toLoadRect (hM.unread x0) = qHead x0 h := by
  subst ho
  funext y
  rw [hM.readAt_unread]
  exact congrArg x0 (funext fun a => Fin.ext (by fin_cases a <;> simp [LoadRect.idx, Rect.toLoadRect, Rect.unit]))

theorem load_kv {M : Memref sig .tc .vmem S1x32x1024x128 .bf16} (hM : M.IsWhole) (x1 : Vec F S1x32x1024x128 .bf16)
    (k : Fin 32) (b : Fin 8) {off : Fin 4 → ℕ} (inb : ∀ a, off a + S1x1x128x128.size a ≤ S1x32x1024x128.size a)
    (ho : off = ![0, k.val, b.val * 128, 0]) :
    M.view.readAt (Elt F) (Rect.unit (s := S1x32x1024x128) off S1x1x128x128.size inb).toLoadRect (hM.unread x1)
      = kvTile x1 k b := by
  subst ho
  funext y
  rw [hM.readAt_unread]
  have h0 : (y 0).val = 0 := by have := (y 0).isLt; simp at this; omega
  have h1 : (y 1).val = 0 := by have := (y 1).isLt; simp at this; omega
  exact congrArg x1 (funext fun a => Fin.ext (by
    fin_cases a <;> simp [LoadRect.idx, Rect.toLoadRect, Rect.unit, h0, h1]))

theorem load_slab {M : Memref sig .tc .vmem S4x256x128 .f32} (hM : M.IsWhole) (X : Vec F S4x256x128 .f32)
    (p : Fin 4) {off : Fin 3 → ℕ} (inb : ∀ a, off a + S1x256x128.size a ≤ S4x256x128.size a)
    (ho : off = ![p.val, 0, 0]) :
    M.view.readAt (Elt F) (Rect.unit (s := S4x256x128) off S1x256x128.size inb).toLoadRect (hM.unread X) = slab X p := by
  subst ho
  funext y
  rw [hM.readAt_unread]
  have h0 : (y 0).val = 0 := by have := (y 0).isLt; simp at this; omega
  exact congrArg X (funext fun a => Fin.ext (by
    fin_cases a <;> simp [LoadRect.idx, Rect.toLoadRect, Rect.unit, h0]))

theorem load_uu {M : Memref sig .tc .vmem S256x128 .bf16} (hM : M.IsWhole) (x2 : Vec F S256x128 .bf16)
    {off : Fin 2 → ℕ} (inb : ∀ a, off a + S256x128.size a ≤ S256x128.size a) (ho : off = ![0, 0]) :
    M.view.readAt (Elt F) (Rect.unit (s := S256x128) off S256x128.size inb).toLoadRect (hM.unread x2) = x2 := by
  subst ho
  funext y
  rw [hM.readAt_unread]
  exact congrArg x2 (funext fun a => Fin.ext (by fin_cases a <;> simp [LoadRect.idx, Rect.toLoadRect, Rect.unit]))

/-- A scratch buffer stored slab by slab reads as the four slabs put together. -/
theorem read_slabs (M : Memref sig .tc .vmem S4x256x128 .f32) (f : M.view.ty.Contents (Elt F))
    (g : Fin 4 → FVec F S256x128 .f32) {w0 w1 w2 w3 : FVec F S1x256x128 .f32}
    (i0 : ∀ a, ![0, 0, 0] a + S1x256x128.size a ≤ S4x256x128.size a)
    (i1 : ∀ a, ![1, 0, 0] a + S1x256x128.size a ≤ S4x256x128.size a)
    (i2 : ∀ a, ![2, 0, 0] a + S1x256x128.size a ≤ S4x256x128.size a)
    (i3 : ∀ a, ![3, 0, 0] a + S1x256x128.size a ≤ S4x256x128.size a)
    (h0 : w0 = shapeCast S1x256x128 (g 0) shapeCasts_S256x128_S1x256x128)
    (h1 : w1 = shapeCast S1x256x128 (g 1) shapeCasts_S256x128_S1x256x128)
    (h2 : w2 = shapeCast S1x256x128 (g 2) shapeCasts_S256x128_S1x256x128)
    (h3 : w3 = shapeCast S1x256x128 (g 3) shapeCasts_S256x128_S1x256x128) :
    M.view.read (Elt F) (M.view.writes (Elt F) f
      [⟨Rect.unit (s := S4x256x128) ![3, 0, 0] S1x256x128.size i3, w3⟩,
        ⟨Rect.unit (s := S4x256x128) ![2, 0, 0] S1x256x128.size i2, w2⟩,
        ⟨Rect.unit (s := S4x256x128) ![1, 0, 0] S1x256x128.size i1, w1⟩,
        ⟨Rect.unit (s := S4x256x128) ![0, 0, 0] S1x256x128.size i0, w0⟩]) = unslab g := by
  have hc : ∀ (x : FVec F S256x128 .f32) (a : Fin 256) (b : Fin 128),
      shapeCast S1x256x128 x shapeCasts_S256x128_S1x256x128 (ix3 0 a b) = x (ix2 a b) := by
    intro x a b
    exact ValueIdx.shapeCast_ab_1ab_apply _ _ _ _ _
  funext y
  obtain ⟨p, a, b, rfl⟩ : ∃ (p : Fin 4) (a : Fin 256) (b : Fin 128), y = ix3 p a b :=
    ⟨y 0, y 1, y 2, by funext d; fin_cases d <;> rfl⟩
  show _ = g p (ix2 a b)
  have pos : ∀ (q : Fin 4) (d : Fin 3), ((ix3 q a b : S4x256x128.Idx) d).val
      = ![q.val, 0, 0] d + ((ix3 0 a b : S1x256x128.Idx) d).val := by
    intro q d; fin_cases d <;> simp
  obtain rfl | rfl | rfl | rfl : p = 0 ∨ p = 1 ∨ p = 2 ∨ p = 3 := by omega
  · rw [View.read_writes_cons_unit_of_not_mem M.view f i3 w3 _ _ rfl 0 (by left; simp),
      View.read_writes_cons_unit_of_not_mem M.view f i2 w2 _ _ rfl 0 (by left; simp),
      View.read_writes_cons_unit_of_not_mem M.view f i1 w1 _ _ rfl 0 (by left; simp),
      View.read_writes_cons_unit_of_mem M.view f i0 w0 _ _ (ix3 0 a b) rfl (pos 0), h0]
    exact hc _ a b
  · rw [View.read_writes_cons_unit_of_not_mem M.view f i3 w3 _ _ rfl 0 (by left; simp),
      View.read_writes_cons_unit_of_not_mem M.view f i2 w2 _ _ rfl 0 (by left; simp),
      View.read_writes_cons_unit_of_mem M.view f i1 w1 _ _ (ix3 0 a b) rfl (pos 1), h1]
    exact hc _ a b
  · rw [View.read_writes_cons_unit_of_not_mem M.view f i3 w3 _ _ rfl 0 (by left; simp),
      View.read_writes_cons_unit_of_mem M.view f i2 w2 _ _ (ix3 0 a b) rfl (pos 2), h2]
    exact hc _ a b
  · rw [View.read_writes_cons_unit_of_mem M.view f i3 w3 _ _ (ix3 0 a b) rfl (pos 3), h3]
    exact hc _ a b

end Loads

/-! ## The label -/

section Label

variable (c : Dev nD) (i : grid0.Coords)
  {arg2 : Memref sig .tc .vmem S128x1024 .bf16} (harg2 : arg2.IsWhole)
  {arg3 : Memref sig .tc .vmem S1x32x1024x128 .bf16} (harg3 : arg3.IsWhole)
  {arg4 : Memref sig .tc .vmem S256x128 .bf16} (harg4 : arg4.IsWhole)
  {arg6 : Memref sig .tc .vmem S4x256x128 .f32} (harg6 : arg6.IsWhole)
  {arg7 : Memref sig .tc .vmem S4x256x128 .f32} (harg7 : arg7.IsWhole)
  (x0 : Vec F S128x1024 .bf16) (x1 : Vec F S1x32x1024x128 .bf16) (x2 : Vec F S256x128 .bf16)

variable (arg2 arg3 arg4 arg6 arg7) in
/-- The five buffers the loop holds. -/
def held (R A : Vec F S4x256x128 .f32) : sProp 𝕄 :=
  iprop(owns (c : Thread nD τ) arg2 fullShare x0 ∗ owns (c : Thread nD τ) arg3 fullShare x1
    ∗ owns (c : Thread nD τ) arg4 fullShare x2 ∗ owns (c : Thread nD τ) arg6 fullShare R
    ∗ owns (c : Thread nD τ) arg7 fullShare A)

variable (arg2 arg3 arg4 arg6 arg7) in
/-- The label's specification with at most `k` tiles left from `j` on. -/
def spec (k j : ℕ) (mx : F .f32) (R A : Vec F S4x256x128 .f32) : sWPT 𝕄 (BitVec 32 × F .f32) := do
  sWPT.consume (held c arg2 arg3 arg4 arg6 arg7 x0 x1 x2 R A)
  let r ← sWPT.arbitrary
  let R' ← sWPT.arbitrary
  sWPT.produce (held c arg2 arg3 arg4 arg6 arg7 x0 x1 x2 R' (loop i x0 x1 x2 k j mx R A))
  pure r

theorem spec_apply (k j : ℕ) (mx : F .f32) (R A : Vec F S4x256x128 .f32) (K : BitVec 32 × F .f32 → sProp 𝕄) :
    spec c i arg2 arg3 arg4 arg6 arg7 x0 x1 x2 k j mx R A K
      = iprop(held c arg2 arg3 arg4 arg6 arg7 x0 x1 x2 R A ∗ ∀ r : BitVec 32 × F .f32, ∀ R' : Vec F S4x256x128 .f32,
          held c arg2 arg3 arg4 arg6 arg7 x0 x1 x2 R' (loop i x0 x1 x2 k j mx R A) -∗ K r) := rfl

set_option maxHeartbeats 1000000 in
/-- The label meets its specification entered with `k` tiles left, by induction on `k`. -/
theorem spec_le (E : Set ℕ) :
    ∀ k j, j + k = (i 1).val + 1 → ∀ (mx : F .f32) (R A : Vec F S4x256x128 .f32) K,
      spec c i arg2 arg3 arg4 arg6 arg7 x0 x1 x2 k j mx R A K
        ⊢ wp frame (wpE (defs₀ (F := F)) 𝒱₀ (c : Thread nD τ) (some k)) E
            (defs₀ (F := F) .tc 1 ⟨i, iota .tc S1x128 32 [1] iota_S1x128_d1_w32, arg2, harg2, arg6, harg6, arg7, harg7,
              arg3, harg3, arg4, harg4, k0_pay8 i, BitVec.ofNat 32 j, mx⟩) K := by
  have hi : (i 1).val < 32 := (i 1).isLt
  intro k
  induction k with
  | zero =>
    intro j hj mx R A K
    rw [spec_apply]
    show _ ⊢ wp frame (wpE (defs₀ (F := F)) 𝒱₀ (c : Thread nD τ) (some 0)) E
      (cc0_while1 i (iota .tc S1x128 32 [1] iota_S1x128_d1_w32) arg2 harg2 arg6 harg6 arg7 harg7
              arg3 harg3 arg4 harg4 (k0_pay8 i) (BitVec.ofNat 32 j) mx) K
    simp only [cc0_while1_eq_skeleton]; unfold cc0_while1_skel
    have ht : ¬ test i j mx = 1#1 := fun h => by have := test_le i j (by omega) mx h; omega
    unfold test at ht
    simp only [ht, ↓reduceIte, Prog.pure_eq_ret]
    iintro ⟨H, Hk⟩
    rw [wp_ret]; imodintro
    iapply Hk
    simp only [loop]; iexact H
  | succ k ih =>
    intro j hj mx R A K
    rw [spec_apply]
    show _ ⊢ wp frame (wpE (defs₀ (F := F)) 𝒱₀ (c : Thread nD τ) (some (k + 1))) E
      (cc0_while1 i (iota .tc S1x128 32 [1] iota_S1x128_d1_w32) arg2 harg2 arg6 harg6 arg7 harg7
              arg3 harg3 arg4 harg4 (k0_pay8 i) (BitVec.ofNat 32 j) mx) K
    simp only [cc0_while1_eq_skeleton]; unfold cc0_while1_skel
    by_cases ht : test i j mx = 1#1
    swap
    · have ht' := ht
      unfold test at ht'
      simp only [ht', ↓reduceIte, Prog.pure_eq_ret]
      iintro ⟨H, Hk⟩
      rw [wp_ret]; imodintro
      iapply Hk
      simp only [loop, ht, ↓reduceIte]; iexact H
    have hle : j ≤ (i 1).val := test_le i j (by omega) mx ht
    have hchk := chk i j hle
    have ht' := ht
    unfold test at ht'
    rw [if_pos ht']
    simp only [k0_part2_eq_skeleton, k0_part3_eq_skeleton, k0_part4_eq_skeleton, k0_part5_eq_skeleton, k0_part6_eq_skeleton, k0_part7_eq_skeleton]
    unfold held owns
    iintro ⟨⟨⟨%f0, %hf0, H0⟩, ⟨%f1, %hf1, H1⟩, ⟨%f2, %hf2, H2⟩, ⟨%fr, %hfr, HR⟩, ⟨%fa, %hfa, HA⟩⟩, Hk⟩
    obtain rfl := harg2.eq_unread hf0; obtain rfl := harg3.eq_unread hf1; obtain rfl := harg4.eq_unread hf2
    obtain rfl := harg6.eq_unread hfr; obtain rfl := harg7.eq_unread hfa
    sl_exec
    -- what the loads read
    have q0 := load_q harg2 x0 0 inb_S128x1024_S128x128_0_0 rfl
    have q1 := load_q harg2 x0 1 inb_S128x1024_S128x128_0_128 rfl
    have q2 := load_q harg2 x0 2 inb_S128x1024_S128x128_0_256 rfl
    have q3 := load_q harg2 x0 3 inb_S128x1024_S128x128_0_384 rfl
    have q4 := load_q harg2 x0 4 inb_S128x1024_S128x128_0_512 rfl
    have q5 := load_q harg2 x0 5 inb_S128x1024_S128x128_0_640 rfl
    have q6 := load_q harg2 x0 6 inb_S128x1024_S128x128_0_768 rfl
    have q7 := load_q harg2 x0 7 inb_S128x1024_S128x128_0_896 rfl
    have t1 := load_kv harg3 x1 (kTile i j) 0 (off := ![0, kWord i j, 0, 0]) (k0_off1_inb i _ hchk) (off1 i j hle)
    have t2 := load_kv harg3 x1 (kTile i j) 4 (off := ![0, kWord i j, 512, 0]) (k0_off2_inb i _ hchk) (off2 i j hle)
    have t3 := load_kv harg3 x1 (kTile i j) 1 (off := ![0, kWord i j, 128, 0]) (k0_off3_inb i _ hchk) (off3 i j hle)
    have t4 := load_kv harg3 x1 (kTile i j) 5 (off := ![0, kWord i j, 640, 0]) (k0_off4_inb i _ hchk) (off4 i j hle)
    have t5 := load_kv harg3 x1 (kTile i j) 2 (off := ![0, kWord i j, 256, 0]) (k0_off5_inb i _ hchk) (off5 i j hle)
    have t6 := load_kv harg3 x1 (kTile i j) 6 (off := ![0, kWord i j, 768, 0]) (k0_off6_inb i _ hchk) (off6 i j hle)
    have t7 := load_kv harg3 x1 (kTile i j) 3 (off := ![0, kWord i j, 384, 0]) (k0_off7_inb i _ hchk) (off7 i j hle)
    have t8 := load_kv harg3 x1 (kTile i j) 7 (off := ![0, kWord i j, 896, 0]) (k0_off8_inb i _ hchk) (off8 i j hle)
    have u0 := load_uu harg4 x2 inb_S256x128_S256x128_0_0 rfl
    have r0 := load_slab harg6 R 0 inb_S4x256x128_S1x256x128_0_0_0 rfl
    have r1 := load_slab harg6 R 1 inb_S4x256x128_S1x256x128_1_0_0 rfl
    have r2 := load_slab harg6 R 2 inb_S4x256x128_S1x256x128_2_0_0 rfl
    have r3 := load_slab harg6 R 3 inb_S4x256x128_S1x256x128_3_0_0 rfl
    have a0 := load_slab harg7 A 0 inb_S4x256x128_S1x256x128_0_0_0 rfl
    have a1 := load_slab harg7 A 1 inb_S4x256x128_S1x256x128_1_0_0 rfl
    have a2 := load_slab harg7 A 2 inb_S4x256x128_S1x256x128_2_0_0 rfl
    have a3 := load_slab harg7 A 3 inb_S4x256x128_S1x256x128_3_0_0 rfl
    generalize hm : k0_pay7 (F := F) _ _ _ = mx'
    have hm' : mx' = stepM i x0 x1 j R := by
      rw [← hm]; sl_unfold_words
      simp only [q0, q1, q2, q3, q4, q5, q6, q7, t1, t3, t5, t7, r0, r1, r2, r3]
      rfl
    rw [addi_one j (by omega)]
    iapply (wp_call_spec 𝒱₀ (c : Thread nD τ) (some (k + 1)) E
      (spec c i arg2 arg3 arg4 arg6 arg7 x0 x1 x2 k (j + 1) mx' (stepR i x0 x1 j R) (stepA i x0 x1 x2 j R A)) k
      (fun u hu => by cases hu; exact Nat.lt_succ_self k)
      (ih (j + 1) (by omega) mx' (stepR i x0 x1 j R) (stepA i x0 x1 x2 j R A)))
    rw [spec_apply]; unfold held owns
    isplitl [H0 H1 H2 HR HA]
    · isplitl [H0]
      · iexists _; isplitr; swap; · iexact H0
        ipureintro; exact hf0
      isplitl [H1]
      · iexists _; isplitr; swap; · iexact H1
        ipureintro; exact hf1
      isplitl [H2]
      · iexists _; isplitr; swap; · iexact H2
        ipureintro; exact hf2
      isplitl [HR]
      · iexists _; isplitr; swap; · iexact HR
        ipureintro
        refine read_slabs arg6 _ (rOf i x0 x1 j R) _ _ _ _ ?_ ?_ ?_ ?_
        all_goals
          sl_unfold_words
          simp only [q0, q1, q2, q3, q4, q5, q6, q7, t1, t3, t5, t7, r0, r1, r2, r3]
          rfl
      iexists _; isplitr; swap; · iexact HA
      ipureintro
      refine read_slabs arg7 _ (aOf i x0 x1 x2 j R A) _ _ _ _ ?_ ?_ ?_ ?_
      all_goals
        sl_unfold_words
        simp only [q0, q1, q2, q3, q4, q5, q6, q7, t1, t2, t3, t4, t5, t6, t7, t8, u0, r0, r1, r2, r3, a0, a1, a2, a3]
        rfl
    iintro %r %R' H
    rw [wp_ret]; imodintro
    iapply Hk
    simp only [loop, ht, ↓reduceIte, ← hm']
    iexact H

end Label

end Cert.Proof.SB

end
-- ==== Proof.SB.Body.lean ====
/-
  The kernel's body at one grid point: the scratch buffers cleared, the loop over key tiles, and the output scratch's
  four slabs written, each head's own half of the lanes, over the output block.
-/
module

public import proofs.«01_k».proof.Proof.SB.Loop

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F] [Named F]

local notation "𝕄" => MT nD τ sig Unit (Elt F) ℕ (UR sig nD τ) ℕ

/-! ## The output block -/

/-- The output block of an output scratch: columns `128 p …` are pair `p`'s, each head's own half of the lanes. -/
def outBlock (A : Vec F S4x256x128 .f32) : Vec F S128x512 .bf16 :=
  fun y => k0_pay12 (slab A ⟨(y 1).val / 128, by have := (y 1).isLt; simp at this ⊢; omega⟩)
    (ix2 (n0 := 128) (n1 := 128) (y 0) ⟨(y 1).val % 128, Nat.mod_lt _ (by decide)⟩)

/-- What a point leaves in its output block, from its three input blocks. -/
def outOf (i : grid0.Coords) (x0 : Vec F S128x1024 .bf16) (x1 : Vec F S1x32x1024x128 .bf16) (x2 : Vec F S256x128 .bf16) :
    Vec F S128x512 .bf16 :=
  outBlock (loop i x0 x1 x2 ((i 1).val + 1) 0 (Scalar.ofBits .f32 0x00000000#32) (k0_pay9 (F := F)) (k0_pay10 (F := F)))

/-- The output block stored in four column blocks reads as the block. -/
theorem read_cols (M : Memref sig .tc .vmem S128x512 .bf16) (f : M.view.ty.Contents (Elt F))
    (A : Vec F S4x256x128 .f32) {w0 w1 w2 w3 : FVec F S128x128 .bf16}
    (i0 : ∀ a, ![0, 0] a + S128x128.size a ≤ S128x512.size a)
    (i1 : ∀ a, ![0, 128] a + S128x128.size a ≤ S128x512.size a)
    (i2 : ∀ a, ![0, 256] a + S128x128.size a ≤ S128x512.size a)
    (i3 : ∀ a, ![0, 384] a + S128x128.size a ≤ S128x512.size a)
    (h0 : w0 = k0_pay12 (slab A 0)) (h1 : w1 = k0_pay12 (slab A 1))
    (h2 : w2 = k0_pay12 (slab A 2)) (h3 : w3 = k0_pay12 (slab A 3)) :
    M.view.read (Elt F) (M.view.writes (Elt F) f
      [⟨Rect.unit (s := S128x512) ![0, 384] S128x128.size i3, w3⟩,
        ⟨Rect.unit (s := S128x512) ![0, 256] S128x128.size i2, w2⟩,
        ⟨Rect.unit (s := S128x512) ![0, 128] S128x128.size i1, w1⟩,
        ⟨Rect.unit (s := S128x512) ![0, 0] S128x128.size i0, w0⟩]) = outBlock A := by
  funext y
  obtain ⟨a, b, rfl⟩ : ∃ (a : Fin 128) (b : Fin 512), y = ix2 a b :=
    ⟨y 0, y 1, by funext d; fin_cases d <;> rfl⟩
  obtain ⟨p, l, hb⟩ : ∃ (p : Fin 4) (l : Fin 128), b = ⟨p.val * 128 + l.val, by omega⟩ :=
    ⟨⟨b.val / 128, by omega⟩, ⟨b.val % 128, by omega⟩, Fin.ext (by simp; omega)⟩
  subst hb
  have hq : (⟨(p.val * 128 + l.val) / 128, by omega⟩ : Fin 4) = p := Fin.ext (by simp; omega)
  have hl : (⟨(p.val * 128 + l.val) % 128, by omega⟩ : Fin 128) = l := Fin.ext (by simp)
  have ho : outBlock A (ix2 a ⟨p.val * 128 + l.val, by omega⟩) = k0_pay12 (slab A p) (ix2 a l) := by
    show k0_pay12 (slab A ⟨(p.val * 128 + l.val) / 128, _⟩) (ix2 a ⟨(p.val * 128 + l.val) % 128, _⟩) = _
    rw [hq, hl]
  rw [ho]
  have pos : ∀ (o : ℕ), o = p.val * 128 → ∀ d : Fin 2,
      ((ix2 a (⟨p.val * 128 + l.val, by omega⟩ : Fin 512) : S128x512.Idx) d).val
      = ![0, o] d + ((ix2 a l : S128x128.Idx) d).val := by
    intro o ho d; subst ho; fin_cases d <;> simp
  obtain rfl | rfl | rfl | rfl : p = 0 ∨ p = 1 ∨ p = 2 ∨ p = 3 := by omega
  · rw [View.read_writes_cons_unit_of_not_mem M.view f i3 w3 _ _ rfl 1 (by left; simp; omega),
      View.read_writes_cons_unit_of_not_mem M.view f i2 w2 _ _ rfl 1 (by left; simp; omega),
      View.read_writes_cons_unit_of_not_mem M.view f i1 w1 _ _ rfl 1 (by left; simp),
      View.read_writes_cons_unit_of_mem M.view f i0 w0 _ _ (ix2 a l) rfl (pos 0 rfl), h0]
  · rw [View.read_writes_cons_unit_of_not_mem M.view f i3 w3 _ _ rfl 1 (by left; simp; omega),
      View.read_writes_cons_unit_of_not_mem M.view f i2 w2 _ _ rfl 1 (by left; simp; omega),
      View.read_writes_cons_unit_of_mem M.view f i1 w1 _ _ (ix2 a l) rfl (pos 128 rfl), h1]
  · rw [View.read_writes_cons_unit_of_not_mem M.view f i3 w3 _ _ rfl 1 (by left; simp; omega),
      View.read_writes_cons_unit_of_mem M.view f i2 w2 _ _ (ix2 a l) rfl (pos 256 rfl), h2]
  · rw [View.read_writes_cons_unit_of_mem M.view f i3 w3 _ _ (ix2 a l) rfl (pos 384 rfl), h3]

/-- A buffer stored whole reads as what was stored. -/
theorem read_whole (M : Memref sig .tc .vmem S4x256x128 .f32) (f : M.view.ty.Contents (Elt F))
    (w : FVec F S4x256x128 .f32) (i0 : ∀ a, ![0, 0, 0] a + S4x256x128.size a ≤ S4x256x128.size a) :
    M.view.read (Elt F) (M.view.writes (Elt F) f [⟨Rect.unit (s := S4x256x128) ![0, 0, 0] S4x256x128.size i0, w⟩]) = w := by
  funext y
  exact View.read_writes_cons_unit_of_mem M.view f i0 w _ _ y rfl (fun d => by fin_cases d <;> simp)

/-! ## The body -/

set_option maxHeartbeats 1000000 in
/-- The body's triple, on any whole buffers. -/
theorem body_run (c : Dev nD) (i : grid0.Coords)
    (arg2 : Memref sig .tc .vmem S128x1024 .bf16) (harg2 : arg2.IsWhole)
    (arg3 : Memref sig .tc .vmem S1x32x1024x128 .bf16) (harg3 : arg3.IsWhole)
    (arg4 : Memref sig .tc .vmem S256x128 .bf16) (harg4 : arg4.IsWhole)
    (arg5 : Memref sig .tc .vmem S128x512 .bf16) (harg5 : arg5.IsWhole)
    (arg6 : Memref sig .tc .vmem S4x256x128 .f32) (harg6 : arg6.IsWhole)
    (arg7 : Memref sig .tc .vmem S4x256x128 .f32) (harg7 : arg7.IsWhole)
    (x0 : Vec F S128x1024 .bf16) (x1 : Vec F S1x32x1024x128 .bf16) (x2 : Vec F S256x128 .bf16)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (outOf i x0 x1 x2)
            ∗ (∃ d, owns (c : Thread nD τ) arg6 fullShare d) ∗ (∃ d, owns (c : Thread nD τ) arg7 fullShare d)) -∗ K ⟨⟩))
      ⊢ wp frame (wpE (defs₀ (F := F)) 𝒱₀ c none) E
          (cc0_sb_prompt i arg2 harg2 arg3 harg3 arg4 harg4 arg5 harg5 arg6 harg6 arg7 harg7) K := by
  simp only [cc0_sb_prompt_eq_skeleton]; unfold cc0_sb_prompt_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg2.eq_unread hf0; obtain rfl := harg3.eq_unread hf1; obtain rfl := harg4.eq_unread hf2
  sl_exec
  have hT := spec_le (F := F) c i harg2 harg3 harg4 harg6 harg7 x0 x1 x2 E ((i 1).val + 1) 0 (by omega)
    (Scalar.ofBits .f32 0x00000000#32) (k0_pay9 (F := F)) (k0_pay10 (F := F))
  iapply (wp_call_spec 𝒱₀ (c : Thread nD τ) none E
    (spec c i arg2 arg3 arg4 arg6 arg7 x0 x1 x2 ((i 1).val + 1) 0 (Scalar.ofBits .f32 0x00000000#32) (k0_pay9 (F := F)) (k0_pay10 (F := F)))
    ((i 1).val + 1) (fun u hu => nomatch hu) hT)
  rw [spec_apply]; unfold held owns
  isplitl [H0 H1 H2 HS0 HS1]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [HS0]
    · iexists _; isplitr; swap; · iexact HS0
      ipureintro; exact read_whole arg6 _ _ _
    iexists _; isplitr; swap; · iexact HS1
    ipureintro; exact read_whole arg7 _ _ _
  iintro %r %R' ⟨⟨%g0, %hg0, H0⟩, ⟨%g1, %hg1, H1⟩, ⟨%g2, %hg2, H2⟩, ⟨%gr, %hgr, HS0⟩, ⟨%ga, %hga, HS1⟩⟩
  have hL : outOf i x0 x1 x2 = outBlock (loop i x0 x1 x2 ((i 1).val + 1) 0 (Scalar.ofBits .f32 0x00000000#32)
    (k0_pay9 (F := F)) (k0_pay10 (F := F))) := rfl
  generalize loop i x0 x1 x2 ((i 1).val + 1) 0 (Scalar.ofBits .f32 0x00000000#32)
    (k0_pay9 (F := F)) (k0_pay10 (F := F)) = A at hga hL
  obtain rfl := harg7.eq_unread hga
  sl_exec
  sl_step
  have a0 := load_slab harg7 A 0 inb_S4x256x128_S1x256x128_0_0_0 rfl
  have a1 := load_slab harg7 A 1 inb_S4x256x128_S1x256x128_1_0_0 rfl
  have a2 := load_slab harg7 A 2 inb_S4x256x128_S1x256x128_2_0_0 rfl
  have a3 := load_slab harg7 A 3 inb_S4x256x128_S1x256x128_3_0_0 rfl
  iapply Hk
  isplitl [H0]
  · iexists _; isplitr; swap; · iexact H0
    ipureintro; exact hg0
  isplitl [H1]
  · iexists _; isplitr; swap; · iexact H1
    ipureintro; exact hg1
  isplitl [H2]
  · iexists _; isplitr; swap; · iexact H2
    ipureintro; exact hg2
  isplitl [H3]
  · iexists _; isplitr; swap; · iexact H3
    ipureintro
    rw [hL]
    refine read_cols arg5 _ A _ _ _ _ ?_ ?_ ?_ ?_ <;> sl_unfold_words
    · rw [a0]
    · rw [a1]; rfl
    · rw [a2]; rfl
    · rw [a3]; rfl
  isplitl [HS0]
  · iexists _, _; isplitr; swap; · iexact HS0
    ipureintro; rfl
  iexists _, _; isplitr; swap; · iexact HS1
  ipureintro; rfl

end Cert.Proof.SB

end
-- ==== Proof.SB.Run.lean ====
/-
  The run of the stick-breaking prompt attention: the grid's proof data (every point's output block is `outOf` of its
  input blocks), the body at every point, and the whole program's run to that, with the arguments unchanged and every
  semaphore at zero.
-/
module

public import proofs.«01_k».proof.Proof.SB.Body

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` leaves in the output's buffer. -/
def outAt (c : Dev nD) (t : Fin (cfg0 (F := F)).N) : Vec F S128x512 .bf16 :=
  outOf (grid0.coords t) (iblk m c 0 t) (iblk m c 1 t) (iblk m c 2 t)

/-- The proof data: the inputs stay, the output's buffer is `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]
theorem after_q (c : Dev nD) (t : Fin (cfg0 (F := F)).N) : (dats m 0 c).after 0 t = iblk m c 0 t := by dsimp only [dats]; rfl
theorem after_kv (c : Dev nD) (t : Fin (cfg0 (F := F)).N) : (dats m 0 c).after 1 t = iblk m c 1 t := by dsimp only [dats]; rfl
theorem after_uu (c : Dev nD) (t : Fin (cfg0 (F := F)).N) : (dats m 0 c).after 2 t = iblk m c 2 t := by dsimp only [dats]; rfl
theorem after_o (c : Dev nD) (t : Fin (cfg0 (F := F)).N) : (dats m 0 c).after 3 t = outAt m c t := by dsimp only [dats]; rfl

theorem at_q (c : Dev nD) (t : Fin (cfg0 (F := F)).N) (d) : (dats m 0 c).before 0 t d = iblk m c 0 t :=
  before_q m (dats m 0 c) (A_eq m c 0) (after_q m c) t d
theorem at_kv (c : Dev nD) (t : Fin (cfg0 (F := F)).N) (d) : (dats m 0 c).before 1 t d = iblk m c 1 t :=
  before_kv m (dats m 0 c) (A_eq m c 1) (after_kv m c) t d
theorem at_uu (c : Dev nD) (t : Fin (cfg0 (F := F)).N) (d) : (dats m 0 c).before 2 t d = iblk m c 2 t :=
  before_uu m (dats m 0 c) (A_eq m c 2) (after_uu m c) t d

/-- What the body starts with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mkv t) fullShare ((dats m 0 c).before 1 t d))
    ∗ (∃ d, owns (c : Thread nD τ) (muu t) fullShare ((dats m 0 c).before 2 t d))
    ∗ (∃ d, owns (c : Thread nD τ) (mo t) fullShare ((dats m 0 c).before 3 t d)))

/-- and what it ends with. -/
def bodyPost (c : Dev nD) (t : Fin (cfg0 (F := F)).N) : sProp 𝕄 :=
  iprop((dats m 0 c).Φ t.succ ∗ (dats m 0 c).owesAt () t.succ
    ∗ owns (c : Thread nD τ) (mq t) fullShare ((dats m 0 c).after 0 t)
    ∗ owns (c : Thread nD τ) (mkv t) fullShare ((dats m 0 c).after 1 t)
    ∗ owns (c : Thread nD τ) (muu t) fullShare ((dats m 0 c).after 2 t)
    ∗ owns (c : Thread nD τ) (mo t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [at_q, at_kv, at_uu]
  rw [show (dats m 0 c).Φ t.succ = (dats m 0 c).Φ t.castSucc from rfl,
    show (dats m 0 c).owesAt () t.succ = (dats m 0 c).owesAt () t.castSucc from rfl,
    after_q, after_kv, after_uu, after_o]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩⟩
  iapply (body_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

theorem body_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

set_option backward.isDefEq.respectTransparency.types false in
/-- The run: every weakly fair execution ends with the arrays as the proof data says, and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 rest_arg0).trans (V_arg0 m c),
      ((h.1 c).2 main_arg1 rest_arg1).trans (V_arg1 m c)⟩, h.2⟩)
    (run_quiescent m ρ)

end Cert.Proof.SB

end
-- ==== Proof.SBV.Real.lean ====
/-
  Stick-breaking attention of one query over the reals. A query at position `t` gives every key position `s` a logit
  `z s`; the stick's piece at `s < t` is `σ(z s)` of what the nearer keys left, so its logarithm is
  `z s - sp (z s) + ∑ s' > s, lg s'`, where `sp` is the softplus and `lg s' = -sp (z s')` the log-survival of a key. `tail n`
  is the log-survival of the keys from `n` on, `outTo n` their part of the output. Both grow by one tile of 128 keys at
  a time, from the far end down.
-/
module

public import Mathlib.Analysis.SpecialFunctions.Log.Basic
public import Mathlib.Data.EReal.Operations

@[expose] public section

noncomputable section

namespace Cert.Proof.SBV

open Finset

/-- The softplus, `log (1 + e^z)`, as both programs spell it. -/
def sp (z : ℝ) : ℝ := max z 0 + Real.log (1 + Real.exp (-|z|))

/-- `log σ(z)`, which is `-sp (-z)`, is `z - sp z`. -/
theorem neg_sp_neg (z : ℝ) : -sp (-z) = z - sp z := by
  unfold sp
  rw [abs_neg]
  rcases le_total z 0 with h | h
  · rw [max_eq_left (by linarith : (0 : ℝ) ≤ -z), max_eq_right h]; ring
  · rw [max_eq_right (by linarith : -z ≤ 0), max_eq_left h]; ring

section

variable (z : ℕ → ℝ) (t : ℕ)

/-- The log-survival of key `s`: nothing for a key that the query does not see. -/
def lg (s : ℕ) : ℝ := if s < t then -sp (z s) else 0

/-- The log-survival of the keys from `n` on. -/
def tail (n : ℕ) : ℝ := ∑ s ∈ Ico n 4096, lg z t s

/-- The weight of key `s`. -/
def wt (s : ℕ) : ℝ := if s < t then Real.exp (z s - sp (z s) + tail z t (s + 1)) else 0

/-- The output of the keys from `n` on. -/
def outTo (v : ℕ → ℝ) (n : ℕ) : ℝ := ∑ s ∈ Ico n 4096, wt z t s * v s

end

/-- A sum over the numbers from `n` on, one tile of 128 taken off. -/
theorem sum_tile (f : ℕ → ℝ) {n : ℕ} (hn : n + 128 ≤ 4096) :
    ∑ s ∈ Ico n 4096, f s = ∑ s ∈ Ico (n + 128) 4096, f s + ∑ c : Fin 128, f (n + c.val) := by
  rw [← Finset.sum_Ico_consecutive f (Nat.le_add_right n 128) hn, add_comm,
    Finset.sum_Ico_eq_sum_range f n, Nat.add_sub_cancel_left, Finset.sum_range]

/-- The keys of a tile after the `c`-th, and then the tiles beyond. -/
theorem sum_within (f : ℕ → ℝ) {n : ℕ} (hn : n + 128 ≤ 4096) (c : Fin 128) :
    ∑ s ∈ Ico (n + c.val + 1) 4096, f s
      = ∑ s ∈ Ico (n + 128) 4096, f s + ∑ e : Fin 128, f (n + e.val) * (if c.val < e.val then 1 else 0) := by
  have hc := c.isLt
  rw [← Finset.sum_Ico_consecutive f (by omega : n + c.val + 1 ≤ n + 128) hn, add_comm]
  congr 1
  rw [← Finset.sum_range fun e => f (n + e) * (if c.val < e then 1 else 0)]
  simp only [mul_ite, mul_one, mul_zero]
  rw [← Finset.sum_filter]
  refine Finset.sum_nbij' (fun s => s - n) (fun e => n + e) ?_ ?_ ?_ ?_ ?_
  · intro s hs; simp only [mem_Ico] at hs; simp only [mem_filter, mem_range]; omega
  · intro e he; simp only [mem_filter, mem_range] at he; simp only [mem_Ico]; omega
  · intro s hs; simp only [mem_Ico] at hs; show n + (s - n) = s; omega
  · intro e _; show n + e - n = e; omega
  · intro s hs; simp only [mem_Ico] at hs; congr 1; show s = n + (s - n); omega

variable (z : ℕ → ℝ) (t : ℕ) (v : ℕ → ℝ)

theorem tail_tile {n : ℕ} (hn : n + 128 ≤ 4096) :
    tail z t n = tail z t (n + 128) + ∑ c : Fin 128, lg z t (n + c.val) := sum_tile _ hn

theorem tail_within {n : ℕ} (hn : n + 128 ≤ 4096) (c : Fin 128) :
    tail z t (n + c.val + 1)
      = tail z t (n + 128) + ∑ e : Fin 128, lg z t (n + e.val) * (if c.val < e.val then 1 else 0) := sum_within _ hn c

theorem outTo_tile {n : ℕ} (hn : n + 128 ≤ 4096) :
    outTo z t v n = outTo z t v (n + 128) + ∑ c : Fin 128, wt z t (n + c.val) * v (n + c.val) := sum_tile _ hn

/-- No key from the query on is seen. -/
theorem tail_of_le {n : ℕ} (h : t ≤ n) : tail z t n = 0 :=
  Finset.sum_eq_zero fun s hs => if_neg (by simp only [mem_Ico] at hs; omega)

theorem outTo_of_le {n : ℕ} (h : t ≤ n) : outTo z t v n = 0 :=
  Finset.sum_eq_zero fun s hs => by
    unfold wt; rw [if_neg (by simp only [mem_Ico] at hs; omega), zero_mul]

/-! ## Sums of reals in the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.SBV

end
-- ==== Proof.SBV.Tile.lean ====
/-
  One key tile of the stick-breaking attention over the extended reals, entry by entry. Where the queries, keys and
  values are real, the tile takes the running log-survival and the running output of the keys beyond it to those of the
  keys from its first position on.
-/
module

public import proofs.«01_k».proof.Proof.SB.Body
public import proofs.«01_k».proof.Proof.SBV.Real
public import Idealize.ShloMosaic.Lib.Pointwise
public import Idealize.ShloMosaic.Lib.Pointwise.IndexBridge

@[expose] public section

set_option maxRecDepth 16384

noncomputable section

namespace Cert.Proof.SBV

open Cert.KernelIdeal Cert.KernelIdeal.Gen Cert.Proof.SB
open Idealize.ShloMosaic Idealize.ShloMosaic.TcCoe Idealize.ShloMosaic.Tactic

/-! ## Scalars -/

theorem coe_max (a b : ℝ) : ((max a b : ℝ) : EReal) = max (a : EReal) b := by
  rcases le_total a b with h | h
  · rw [max_eq_right h, max_eq_right (by exact_mod_cast h)]
  · rw [max_eq_left h, max_eq_left (by exact_mod_cast h)]

theorem coe_absf (a : ℝ) : (FloatOps.absf (F := Ideal) (φ := .f32) (a : EReal) : EReal) = ((|a| : ℝ) : EReal) := by
  show max (a : EReal) (-(a : EReal)) = _
  rw [← EReal.coe_neg, ← coe_max]; rfl

theorem coe_log1 (x : ℝ) : Ideal.log (1 + Ideal.exp (x : EReal)) = ((Real.log (1 + Real.exp x) : ℝ) : EReal) := by
  rw [Ideal.exp_coe, ← EReal.coe_one, ← EReal.coe_add, Ideal.log_coe, if_neg]
  have := Real.exp_pos x
  linarith

/-- The softplus as the kernel spells it. -/
theorem coe_sp (x : ℝ) :
    max (x : EReal) 0 + Ideal.log (1 + Ideal.exp (0 - FloatOps.absf (F := Ideal) (φ := .f32) (x : EReal))) = (sp x : EReal) := by
  rw [coe_absf, ← EReal.coe_zero, ← EReal.coe_sub, coe_log1, ← coe_max, ← EReal.coe_add, zero_sub]; rfl

/-- Two words below `2 ^ 31` compare as their numbers. -/
theorem slt_ofNat {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide]
  congr 1
  rw [decide_eq_decide, BitVec.toInt_eq_toNat_of_lt (by simp; omega), BitVec.toInt_eq_toNat_of_lt (by simp; omega)]
  simp
  omega

/-! ## The tile's arrays at an entry -/

theorem pSp_coe (z : FVec Ideal S256x128 .f32) (j : S256x128.Idx) (x : ℝ) (h : z j = (x : EReal)) :
    pSp (F := Ideal) z j = (sp x : EReal) := by
  rw [← coe_sp, ← h]
  pointwise [k0_pay53]

theorem pL_coe (mk : IVec S256x128 1) (z : FVec Ideal S256x128 .f32) (j : S256x128.Idx) (zs : ℕ → ℝ) (t s : ℕ)
    (hm : mk j = BitVec.ofBool (decide (s < t))) (h : z j = (zs s : EReal)) :
    pL (F := Ideal) mk z j = (lg zs t s : EReal) := by
  have e : pL (F := Ideal) mk z j = Scalar.select (mk j) (0 - pSp (F := Ideal) z j) 0 := by pointwise [pL]
  rw [e, hm, pSp_coe z j _ h]
  unfold lg
  by_cases hs : s < t
  · rw [if_pos hs, decide_eq_true hs, EReal.coe_neg, ← zero_sub]; rfl
  · rw [if_neg hs, decide_eq_false hs]; rfl

theorem pTot_apply (l : FVec Ideal S256x128 .f32) (ρ : Fin 256) :
    pTot (F := Ideal) l (ix2 ρ 0) = ∑ c : Fin 128, l (ix2 ρ c) := by
  pointwise [pTot]

theorem pBtw_apply (l : FVec Ideal S256x128 .f32) (uu : FVec Ideal S256x128 .bf16) (ρ : Fin 256) (c : Fin 128) :
    pBtw (F := Ideal) l uu (ix2 ρ c)
      = ∑ e : Fin 128, l (ix2 ρ e) * uu (ix2 ⟨e.val, by omega⟩ c)
        + ∑ e : Fin 128, (l (ix2 ρ e) - l (ix2 ρ e)) * uu (ix2 ⟨128 + e.val, by omega⟩ c) := by
  pointwise [k0_pay64, k0_pay34]

theorem pZ_apply (qa qb : FVec Ideal S128x128 .bf16) (kt : FVec Ideal S1x1x128x128 .bf16) (ρ : Fin 256) (c : Fin 128) :
    pZ (F := Ideal) qa qb kt (ix2 ρ c)
      = ∑ x : Fin 128, (if h : ρ.val < 128 then qa (ix2 ⟨ρ.val, h⟩ x) else qb (ix2 ⟨ρ.val - 128, by omega⟩ x))
          * kt (ix4 0 0 x c) := by
  pointwise [k0_pay35, k0_pay15, k0_pay18]

theorem pR_apply (r : FVec Ideal S256x128 .f32) (t : FVec Ideal S256x1 .f32) (ρ : Fin 256) (c : Fin 128) :
    k0_pay70 (F := Ideal) r t (ix2 ρ c) = r (ix2 ρ c) + t (ix2 ρ 0) := by
  pointwise [k0_pay70]

theorem pA_apply (r a : FVec Ideal S256x128 .f32) (vt : FVec Ideal S1x1x128x128 .bf16) (mk : IVec S256x128 1)
    (lb b : FVec Ideal S256x128 .f32) (ρ : Fin 256) (c : Fin 128) :
    k0_pay72 (F := Ideal) r a (k0_pay19 vt) mk lb b (ix2 ρ c)
      = a (ix2 ρ c) + ∑ x : Fin 128, Scalar.select (mk (ix2 ρ x))
          (Ideal.exp (lb (ix2 ρ x) + b (ix2 ρ x) + r (ix2 ρ x)) * vt (ix4 0 0 c x)) 0 := by
  pointwise [k0_pay72, k0_pay19]

/-- The suffix sums of a tile of reals. -/
theorem pBtw_coe (l : FVec Ideal S256x128 .f32) (uu : FVec Ideal S256x128 .bf16) (ρ : Fin 256) (c : Fin 128)
    (f : ℕ → ℝ) (hl : ∀ e : Fin 128, l (ix2 ρ e) = (f e.val : EReal))
    (hu : ∀ (e : Fin 256) (s : Fin 128), uu (ix2 e s) = ((if s.val < e.val % 128 then 1 else 0 : ℝ) : EReal)) :
    pBtw (F := Ideal) l uu (ix2 ρ c)
      = ((∑ e : Fin 128, f e.val * (if c.val < e.val then 1 else 0) : ℝ) : EReal) := by
  rw [pBtw_apply, coe_sum]
  have z : ∑ e : Fin 128, (l (ix2 ρ e) - l (ix2 ρ e)) * uu (ix2 ⟨128 + e.val, by omega⟩ c) = 0 :=
    Finset.sum_eq_zero fun e _ => by rw [hl, ← EReal.coe_sub, sub_self, EReal.coe_zero, zero_mul]
  rw [z, add_zero]
  refine Finset.sum_congr rfl fun e _ => ?_
  rw [hl, hu, EReal.coe_mul]
  simp only [Nat.mod_eq_of_lt e.isLt]

/-! ## A pair of heads over a tile -/

section Pair

variable (mk : IVec S256x128 1) (z r a : FVec Ideal S256x128 .f32) (uu : FVec Ideal S256x128 .bf16)
  (vt : FVec Ideal S1x1x128x128 .bf16) (zs : Fin 256 → ℕ → ℝ) (ts : Fin 256 → ℕ) (vs : Fin 128 → ℕ → ℝ) (n : ℕ)
  (hn : n + 128 ≤ 4096)
  (hm : ∀ (ρ : Fin 256) (c : Fin 128), mk (ix2 ρ c) = BitVec.ofBool (decide (n + c.val < ts ρ)))
  (hz : ∀ (ρ : Fin 256) (c : Fin 128), z (ix2 ρ c) = (zs ρ (n + c.val) : EReal))
  (hr : ∀ (ρ : Fin 256) (c : Fin 128), r (ix2 ρ c) = (tail (zs ρ) (ts ρ) (n + 128) : EReal))
  (ha : ∀ (ρ : Fin 256) (l : Fin 128), a (ix2 ρ l) = (outTo (zs ρ) (ts ρ) (vs l) (n + 128) : EReal))
  (hu : ∀ (e : Fin 256) (s : Fin 128), uu (ix2 e s) = ((if s.val < e.val % 128 then 1 else 0 : ℝ) : EReal))
  (hv : ∀ (l c : Fin 128), vt (ix4 0 0 l c) = (vs l (n + c.val) : EReal))

include hn hm hz hr

theorem pR_coe (ρ : Fin 256) (c : Fin 128) :
    pR (F := Ideal) mk z r (ix2 ρ c) = (tail (zs ρ) (ts ρ) n : EReal) := by
  unfold pR
  rw [pR_apply, pTot_apply, hr, tail_tile _ _ hn, EReal.coe_add, coe_sum]
  congr 1
  exact Finset.sum_congr rfl fun e _ => pL_coe mk z _ _ _ _ (hm ρ e) (hz ρ e)

include ha hu hv

theorem pA_coe (ρ : Fin 256) (l : Fin 128) :
    pA (F := Ideal) mk z r a uu vt (ix2 ρ l) = (outTo (zs ρ) (ts ρ) (vs l) n : EReal) := by
  unfold pA
  rw [pA_apply, ha, outTo_tile _ _ _ hn, EReal.coe_add, coe_sum]
  congr 1
  refine Finset.sum_congr rfl fun c _ => ?_
  rw [pBtw_coe (pL mk z) uu ρ c (fun e => lg (zs ρ) (ts ρ) (n + e))
    (fun e => pL_coe mk z _ _ _ _ (hm ρ e) (hz ρ e)) hu, hr, hm, hv]
  have e : subf z (pSp z) (ix2 ρ c) = ((zs ρ (n + c.val) - sp (zs ρ (n + c.val)) : ℝ) : EReal) := by
    show z (ix2 ρ c) - pSp z (ix2 ρ c) = _
    rw [pSp_coe z _ _ (hz ρ c), hz, EReal.coe_sub]
  rw [e, ← EReal.coe_add, ← EReal.coe_add, Ideal.exp_coe, ← EReal.coe_mul]
  unfold wt
  by_cases hs : n + c.val < ts ρ
  · rw [if_pos hs, decide_eq_true hs, tail_within _ _ hn c]
    show ((_ * _ : ℝ) : EReal) = _
    congr 3
    ring
  · rw [if_neg hs, decide_eq_false hs, zero_mul]; rfl

end Pair

end Cert.Proof.SBV

end
-- ==== Proof.SBV.Trips.lean ====
/-
  The key tiles of one query tile over the extended reals. At real queries, keys and values the running survival stays
  real, so the loop's second test, that some survival is above the exit, never fails: the loop takes every tile from the
  diagonal down to the first, and the output scratch ends at the output of all keys.
-/
module

public import proofs.«01_k».proof.Proof.SBV.Tile

@[expose] public section

set_option maxRecDepth 16384

noncomputable section

namespace Cert.Proof.SBV

open Cert.KernelIdeal Cert.KernelIdeal.Gen Cert.Proof.SB
open Idealize.ShloMosaic Idealize.ShloMosaic.TcCoe Idealize.ShloMosaic.Tactic

/-! ## The largest survival -/

theorem pM_apply (a b c : FVec Ideal S256x128 .f32) :
    k0_pay7 (F := Ideal) a b c = Finset.fold max (Ideal.ofBits FTy.f32 4286578688#32)
      (fun x : Fin 256 × Fin 128 => max (max (c (ix2 x.1 x.2)) (a (ix2 x.1 x.2))) (b (ix2 x.1 x.2))) Finset.univ := by
  pointwise [k0_pay7]

theorem pM_pos (a b c : FVec Ideal S256x128 .f32) (x : ℝ) (h : b (ix2 0 0) = (x : EReal)) :
    ⊥ < (k0_pay7 (F := Ideal) a b c : EReal) := by
  rw [pM_apply, Finset.lt_fold_max]
  refine .inr ⟨(0, 0), Finset.mem_univ _, lt_of_lt_of_le ?_ (le_max_right _ _)⟩
  rw [h]
  exact EReal.bot_lt_coe x

theorem exit_eq : (Named.named (F := Ideal) κ "sb_exit" 0xC2B00000#32 : Ideal .f32) = (⊥ : EReal) :=
  IdealRules.named_const.ideal_named_scalar _ _ _ _ rfl

/-- Above the exit, the test is the counter's. -/
theorem test_of (i : grid0.Coords) (j : ℕ) (hj : j ≤ 32) (mx : Ideal .f32) (h : ⊥ < (mx : EReal)) :
    test (F := Ideal) i j mx = 1#1 ↔ j ≤ (i 1).val := by
  have e : Scalar.cmpf (F := Ideal) .ogt mx (Named.named κ "sb_exit" 0xC2B00000#32) = 1#1 := by
    rw [exit_eq]
    show Ideal.cmp .ogt _ _ = _
    unfold Ideal.cmp
    simp only [decide_eq_true h]; rfl
  have hb : ∀ a : BitVec 1, Scalar.andi a 1#1 = a := by decide
  unfold test
  rw [e, hb]
  exact sle_iff j hj (i 1).val (i 1).isLt

/-! ## The mask -/

theorem mask_apply (i : grid0.Coords) (j : ℕ) (hj : j ≤ (i 1).val) (ρ : Fin 256) (c : Fin 128) :
    mask i (BitVec.ofNat 32 j) (ix2 ρ c)
      = BitVec.ofBool (decide (((i 1).val - j) * 128 + c.val < (i 1).val * 128 + ρ.val % 128)) := by
  have h1 : (i 1).val < 32 := (i 1).isLt
  have e : mask i (BitVec.ofNat 32 j) (ix2 ρ c)
      = IntOp.cmpi CmpIPredicate.slt
          (IntOp.addi (Scalar.muli (Scalar.subi (BitVec.ofNat 32 (i 1).val) (BitVec.ofNat 32 j)) 128#32) (BitVec.ofNat 32 c.val))
          (if h : ρ.val < 128 then IntOp.addi (Scalar.muli (BitVec.ofNat 32 (i 1).val) 128#32) (BitVec.ofNat 32 ρ.val)
          else IntOp.addi (Scalar.muli (BitVec.ofNat 32 (i 1).val) 128#32) (BitVec.ofNat 32 (ρ.val - 128))) := by
    pointwise [k0_pay39, k0_pay8, k0_pay14]
  rw [e, ← slt_ofNat (by omega) (by omega)]
  congr 1
  · apply BitVec.eq_of_toNat_eq
    simp only [IntOp.addi, Scalar.muli, Scalar.subi, IntOp.muli, IntOp.subi, BitVec.toNat_add, BitVec.toNat_mul,
      BitVec.toNat_sub, BitVec.toNat_ofNat]
    omega
  · split
    · apply BitVec.eq_of_toNat_eq
      simp only [IntOp.addi, Scalar.muli, IntOp.muli, BitVec.toNat_add, BitVec.toNat_mul, BitVec.toNat_ofNat]
      omega
    · apply BitVec.eq_of_toNat_eq
      simp only [IntOp.addi, Scalar.muli, IntOp.muli, BitVec.toNat_add, BitVec.toNat_mul, BitVec.toNat_ofNat]
      omega

/-! ## The blocks, real -/

section Trips

variable (i : grid0.Coords) (x0 : Vec Ideal S128x1024 .bf16) (x1 : Vec Ideal S1x32x1024x128 .bf16)
  (x2 : Vec Ideal S256x128 .bf16) (Q : Fin 128 → Fin 1024 → ℝ) (K : Fin 32 → Fin 1024 → Fin 128 → ℝ)
  (hQ : ∀ a e, x0 (ix2 a e) = (Q a e : EReal)) (hK : ∀ k e c, x1 (ix4 0 k e c) = (K k e c : EReal))
  (hu : ∀ (e : Fin 256) (s : Fin 128), x2 (ix2 e s) = ((if s.val < e.val % 128 then 1 else 0 : ℝ) : EReal))

/-- Head `2 p + ρ / 128`'s logit of query `ρ % 128` of the tile at key position `s`. -/
def zq (p : Fin 4) (ρ : Fin 256) (s : ℕ) : ℝ :=
  ∑ l : Fin 128, Q ⟨ρ.val % 128, by omega⟩ ⟨(2 * p.val + ρ.val / 128) * 128 + l.val, by omega⟩
    * K ⟨s / 128 % 32, by omega⟩ ⟨p.val * 128 + l.val, by omega⟩ ⟨s % 128, by omega⟩

/-- Row `l` of pair `p`'s values at position `s`. -/
def vq (p : Fin 4) (l : Fin 128) (s : ℕ) : ℝ :=
  K ⟨s / 128 % 32, by omega⟩ ⟨512 + p.val * 128 + l.val, by omega⟩ ⟨s % 128, by omega⟩

/-- The query's position. -/
def tq (ρ : Fin 256) : ℕ := (i 1).val * 128 + ρ.val % 128

include hQ hK

theorem zOf_coe (j : ℕ) (hj : j ≤ (i 1).val) (p : Fin 4) (ρ : Fin 256) (c : Fin 128) :
    zOf (F := Ideal) i x0 x1 j p (ix2 ρ c) = (zq Q K p ρ (((i 1).val - j) * 128 + c.val) : EReal) := by
  have h1 : (i 1).val < 32 := (i 1).isLt
  unfold zOf zq
  rw [pZ_apply, coe_sum]
  refine Finset.sum_congr rfl fun l _ => ?_
  rw [EReal.coe_mul, ← hQ, ← hK]
  unfold qHead kvTile kTile
  have e4 : (((i 1).val - j) * 128 + c.val) / 128 % 32 = (i 1).val - j := by omega
  have e5 : (((i 1).val - j) * 128 + c.val) % 128 = c.val := by omega
  congr 1
  · split
    · refine congrArg x0 ?_
      rw [ix2_eq_valueIdx, ix2_eq_valueIdx]
      refine congrArg₂ ValueIdx.ix2 (Fin.ext ?_) (Fin.ext ?_)
      · show ρ.val = ρ.val % 128; omega
      · show 2 * p.val * 128 + l.val = _
        have : ρ.val / 128 = 0 := by omega
        simp only [this, add_zero]
    · refine congrArg x0 ?_
      rw [ix2_eq_valueIdx, ix2_eq_valueIdx]
      refine congrArg₂ ValueIdx.ix2 (Fin.ext ?_) (Fin.ext ?_)
      · show ρ.val - 128 = ρ.val % 128; omega
      · show (2 * p.val + 1) * 128 + l.val = _
        have : ρ.val / 128 = 1 := by omega
        simp only [this]
  · refine congrArg x1 ?_
    rw [ix4_eq_valueIdx, ix4_eq_valueIdx]
    simp only [e4, e5]

omit hQ in
theorem vt_coe (j : ℕ) (hj : j ≤ (i 1).val) (p : Fin 4) (l c : Fin 128) :
    kvTile (F := Ideal) x1 (kTile i j) ⟨p.val + 4, by omega⟩ (ix4 0 0 l c)
      = (vq K p l (((i 1).val - j) * 128 + c.val) : EReal) := by
  have h1 : (i 1).val < 32 := (i 1).isLt
  unfold vq
  rw [← hK]
  unfold kvTile kTile
  have e4 : (((i 1).val - j) * 128 + c.val) / 128 % 32 = (i 1).val - j := by omega
  have e5 : (((i 1).val - j) * 128 + c.val) % 128 = c.val := by omega
  refine congrArg x1 ?_
  rw [ix4_eq_valueIdx, ix4_eq_valueIdx]
  have e6 : (p.val + 4) * 128 + l.val = 512 + p.val * 128 + l.val := by omega
  simp only [e4, e5]
  funext a
  match a with
  | ⟨0, _⟩ => rfl
  | ⟨1, _⟩ => rfl
  | ⟨2, _⟩ => exact Fin.ext e6
  | ⟨3, _⟩ => rfl

/-- What the two scratch buffers hold once the keys from `n` on are done. -/
def Done (n : ℕ) (R A : Vec Ideal S4x256x128 .f32) : Prop :=
  ∀ (p : Fin 4) (ρ : Fin 256) (l : Fin 128),
    R (ix3 p ρ l) = (tail (zq Q K p ρ) (tq i ρ) n : EReal)
      ∧ A (ix3 p ρ l) = (outTo (zq Q K p ρ) (tq i ρ) (vq K p l) n : EReal)

omit hQ hK in
theorem slab16 (X : Vec Ideal S4x256x128 .f32) (p : Fin 4) (ρ : Fin 256) (l : Fin 128) :
    k0_pay16 (F := Ideal) (slab X p) (ix2 ρ l) = X (ix3 p ρ l) := by
  have e : k0_pay16 (F := Ideal) (slab X p) (ix2 ρ l) = slab X p (ix3 0 ρ l) := by pointwise [k0_pay16]
  rw [e, ix3_eq_valueIdx, ix3_eq_valueIdx]; rfl

omit hQ hK in
theorem slab17 (X : Vec Ideal S4x256x128 .f32) (p : Fin 4) (ρ : Fin 256) (l : Fin 128) :
    k0_pay17 (F := Ideal) (slab X p) (ix2 ρ l) = X (ix3 p ρ l) := by
  have e : k0_pay17 (F := Ideal) (slab X p) (ix2 ρ l) = slab X p (ix3 0 ρ l) := by pointwise [k0_pay17]
  rw [e, ix3_eq_valueIdx, ix3_eq_valueIdx]; rfl

omit hQ hK in
theorem unslab_apply (f : Fin 4 → FVec Ideal S256x128 .f32) (p : Fin 4) (ρ : Fin 256) (l : Fin 128) :
    unslab (F := Ideal) f (ix3 p ρ l) = f p (ix2 ρ l) := by
  rw [ix3_eq_valueIdx, ix2_eq_valueIdx]; rfl

theorem rOf_coe {j n : ℕ} (hj : j ≤ (i 1).val) (hn : n = ((i 1).val - j) * 128) {R A : Vec Ideal S4x256x128 .f32}
    (h : Done i Q K (n + 128) R A) (p : Fin 4) (ρ : Fin 256) (l : Fin 128) :
    rOf (F := Ideal) i x0 x1 j R p (ix2 ρ l) = (tail (zq Q K p ρ) (tq i ρ) n : EReal) := by
  have h1 : (i 1).val < 32 := (i 1).isLt
  subst hn
  exact pR_coe _ _ _ (zq Q K p) (tq i) _ (by omega) (fun ρ c => mask_apply i j hj ρ c)
    (fun ρ c => zOf_coe i x0 x1 Q K hQ hK j hj p ρ c) (fun ρ c => (slab16 R p ρ c).trans (h p ρ c).1) ρ l

include hu

theorem done_step {j n : ℕ} (hj : j ≤ (i 1).val) (hn : n = ((i 1).val - j) * 128) {R A : Vec Ideal S4x256x128 .f32}
    (h : Done i Q K (n + 128) R A) :
    Done i Q K n (stepR i x0 x1 j R) (stepA i x0 x1 x2 j R A) := by
  have h1 : (i 1).val < 32 := (i 1).isLt
  intro p ρ l
  refine ⟨(unslab_apply _ p ρ l).trans (rOf_coe i x0 x1 Q K hQ hK hj hn h p ρ l), (unslab_apply _ p ρ l).trans ?_⟩
  subst hn
  exact pA_coe _ _ _ _ _ _ (zq Q K p) (tq i) (vq K p) _ (by omega) (fun ρ c => mask_apply i j hj ρ c)
    (fun ρ c => zOf_coe i x0 x1 Q K hQ hK j hj p ρ c) (fun ρ c => (slab16 R p ρ c).trans (h p ρ c).1)
    (fun ρ c => (slab17 A p ρ c).trans (h p ρ c).2) hu (fun l c => vt_coe i x1 K hK j hj p l c) ρ l

theorem loop_done (k j : ℕ) (hk : j + k = (i 1).val + 1) (mx : Ideal .f32) (hm : ⊥ < (mx : EReal))
    (R A : Vec Ideal S4x256x128 .f32) (h : Done i Q K (k * 128) R A) (p : Fin 4) (ρ : Fin 256) (l : Fin 128) :
    loop (F := Ideal) i x0 x1 x2 k j mx R A (ix3 p ρ l)
      = (outTo (zq Q K p ρ) (tq i ρ) (vq K p l) 0 : EReal) := by
  have h1 : (i 1).val < 32 := (i 1).isLt
  induction k generalizing j mx R A with
  | zero =>
    have h' := (h p ρ l).2
    rw [Nat.zero_mul] at h'
    exact h'
  | succ k ih =>
    have hj : j ≤ (i 1).val := by omega
    have hn : k * 128 = ((i 1).val - j) * 128 := by congr 1; omega
    have h' : Done i Q K (k * 128 + 128) R A := by rwa [← Nat.succ_mul]
    unfold loop
    rw [if_pos ((test_of i j (by omega) mx hm).mpr hj)]
    exact ih (j + 1) (by omega) _ (pM_pos _ _ _ _ (rOf_coe i x0 x1 Q K hQ hK hj hn h' 3 0 0)) _ _
      (done_step i x0 x1 x2 Q K hQ hK hu hj hn h')

/-- The point's block: lane `e` of row `a` is the output of query `a` of the tile, head `e / 64`, at value row `512 + e`. -/
theorem outOf_coe (a : Fin 128) (e : Fin 512) :
    outOf (F := Ideal) i x0 x1 x2 (ix2 a e)
      = (outTo (zq Q K ⟨e.val / 128, by omega⟩ ⟨e.val / 64 % 2 * 128 + a.val, by omega⟩)
          (tq i ⟨e.val / 64 % 2 * 128 + a.val, by omega⟩)
          (vq K ⟨e.val / 128, by omega⟩ ⟨e.val % 128, by omega⟩) 0 : EReal) := by
  have h0 : Done i Q K (((i 1).val + 1) * 128) (k0_pay9 (F := Ideal)) (k0_pay10 (F := Ideal)) := by
    intro p ρ l
    have ht : tq i ρ ≤ ((i 1).val + 1) * 128 := by unfold tq; omega
    rw [tail_of_le _ _ ht, outTo_of_le _ _ _ ht]
    constructor
    · pointwise [k0_pay9]; rfl
    · pointwise [k0_pay10]; rfl
  have hm : (⊥ : EReal) < (Scalar.ofBits (F := Ideal) .f32 (0 : BitVec 32) : Ideal .f32) := by
    show (⊥ : EReal) < Ideal.ofBits .f32 0x00000000#32
    rw [Ideal.ofBits_zero_f32]
    exact EReal.bot_lt_zero
  have hl := loop_done i x0 x1 x2 Q K hQ hK hu ((i 1).val + 1) 0 (by omega) _ hm _ _ h0
  unfold outOf outBlock
  generalize loop (F := Ideal) i x0 x1 x2 ((i 1).val + 1) 0 _ _ _ = A at hl ⊢
  have e1 : ∀ (X : FVec Ideal S1x256x128 .f32) (c : Fin 128), k0_pay12 (F := Ideal) X (ix2 a c)
      = if c.val < 64 then X (ix3 0 ⟨a.val, by omega⟩ c) else X (ix3 0 ⟨128 + a.val, by omega⟩ c) := by
    intro X c
    have e2 : k0_pay12 (F := Ideal) X (ix2 a c) = Scalar.select (IntOp.cmpi CmpIPredicate.slt (BitVec.ofNat 32 c.val) 64#32)
        (X (ix3 0 ⟨a.val, by omega⟩ c)) (X (ix3 0 ⟨128 + a.val, by omega⟩ c)) := by pointwise [k0_pay12, k0_pay11]
    rw [e2, show (64#32) = BitVec.ofNat 32 64 from rfl, slt_ofNat (by omega) (by omega)]
    by_cases hc : c.val < 64
    · rw [if_pos hc, decide_eq_true hc]; rfl
    · rw [if_neg hc, decide_eq_false hc]; rfl
  have e3 : ∀ p ρ l, slab (F := Ideal) A p (ix3 0 ρ l) = A (ix3 p ρ l) := by
    intro p ρ l
    rw [ix3_eq_valueIdx, ix3_eq_valueIdx]; rfl
  have e4 := e1 (slab A ⟨e.val / 128, by omega⟩) ⟨e.val % 128, by omega⟩
  rw [ix2_eq_valueIdx] at e4
  refine Eq.trans e4 ?_
  rw [e3, e3, hl, hl]
  split
  · rename_i hc
    have : e.val / 64 % 2 * 128 + a.val = a.val := by
      have : e.val % 128 < 64 := hc
      omega
    simp only [this]
  · rename_i hc
    have : e.val / 64 % 2 * 128 + a.val = 128 + a.val := by
      have : ¬ e.val % 128 < 64 := hc
      omega
    simp only [this]

end Trips

end Cert.Proof.SBV

end
-- ==== Proof.SBV.Host.lean ====
/-
  What the kernel's host code hands the launch, entry by entry.
-/
module

public import proofs.«01_k».proof.Proof.SB.Run
public import proofs.«01_k».proof.Proof.SBV.Trips
public import Idealize.ShloMosaic.Lib.StableHlo.ReadAt
public import Idealize.ShloMosaic.Lib.Pipeline.ValueKit

@[expose] public section

set_option maxRecDepth 16384

noncomputable section

namespace Cert.Proof.SBV

open Cert.KernelIdeal Cert.KernelIdeal.Gen Cert.Proof.SB
open Idealize.ShloMosaic Idealize.ShloMosaic.TcCoe Idealize.ShloMosaic.Tactic

variable (m : (ℓ : Loc nD τ sig) → Buf (Elt Ideal) ℓ) (c : Dev nD)

/-! ## The arrays -/

/-- The padded queries. -/
def qPad (q : FVec Ideal S8x4096x8x64 .f32) : FVec Ideal S32768x1024 .bf16 :=
  let z : FVec Ideal S32768x4x2x64 .f32 := shapeCast _ (mulf q (broadcastInDim S8x4096x8x64 ![] bcast_S_S8x4096x8x64
    (constant S_ .f32 0x3E000000#32))) shapeCasts_S8x4096x8x64_S32768x4x2x64
  truncf .bf16 (shapeCast _ (concatenate S32768x4x2x128 2
    [⟨S32768x4x1x128, broadcastInDim S32768x4x1x128 ![0, 1, 3] bcast_S32768x4x128_S32768x4x1x128_0_1_3
      (pad S32768x4x128 ![0, 0, 0] ![0, 0, 64] ![0, 0, 0] (shapeCast _ (extractStridedSlice S32768x4x1x64 ![0, 0, 0, 0] z
        slices_S32768x4x2x64_S32768x4x1x64_0_0_0_0) shapeCasts_S32768x4x1x64_S32768x4x64)
        (sitofp .f32 (constantI S_ 32 0#32)) pads_S32768x4x64_S32768x4x128_000_000_0640 h_S_)⟩,
     ⟨S32768x4x1x128, broadcastInDim S32768x4x1x128 ![0, 1, 3] bcast_S32768x4x128_S32768x4x1x128_0_1_3
      (pad S32768x4x128 ![0, 0, 64] ![0, 0, 0] ![0, 0, 0] (shapeCast _ (extractStridedSlice S32768x4x1x64 ![0, 0, 1, 0] z
        slices_S32768x4x2x64_S32768x4x1x64_0_0_1_0) shapeCasts_S32768x4x1x64_S32768x4x64)
        (sitofp .f32 (constantI S_ 32 0#32)) pads_S32768x4x64_S32768x4x128_000_000_6400 h_S_)⟩]
    concatenates_S32768x4x1x128_S32768x4x1x128_S32768x4x2x128_d2) shapeCasts_S32768x4x2x128_S32768x1024) bitsLt_bf16_f32

theorem V_q_eq : V (F := Ideal) m c main_v13 = qPad (m ((c.tc : Thread nD τ).loc main_arg0)) := by
  unfold V
  simp only [hostOps0, hostOps0_1, hostOps0_2, hostOps0_3, hostOps0_4, List.flatten_cons, List.flatten_nil,
    List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> rfl

theorem qPad_apply (q : FVec Ideal S8x4096x8x64 .f32) (r : Fin 32768) (e : Fin 1024) :
    qPad q (ix2 r e)
      = if e.val % 128 / 64 = e.val / 128 % 2 then
          (q (ix4 ⟨r.val / 4096, by omega⟩ ⟨r.val % 4096, by omega⟩ ⟨e.val / 128, by omega⟩ ⟨e.val % 64, by omega⟩)
            * Ideal.ofBits FTy.f32 0x3E000000#32 : EReal)
        else 0 := by
  have h0 : (FloatOps.sitofp (F := Ideal) FTy.f32 0#32 : EReal) = 0 := by
    show (((0#32).toInt : ℝ) : EReal) = 0
    simp
  have e0 : qPad q (ix2 r e) = (if h : e.val / 128 % 2 < 1 then
      if h_1 : e.val / 256 < 4 ∧ e.val % 128 < 64 then
        q (ix4 ⟨r.val / 4096, by omega⟩ ⟨r.val % 4096, by omega⟩ ⟨e.val / 256 * 2, by omega⟩ ⟨e.val % 128, h_1.2⟩)
          * Ideal.ofBits FTy.f32 0x3E000000#32
      else FloatOps.sitofp (F := Ideal) FTy.f32 0#32
    else
      if h_1 : e.val / 256 < 4 ∧ 64 ≤ e.val % 128 ∧ e.val % 128 - 64 < 64 then
        q (ix4 ⟨r.val / 4096, by omega⟩ ⟨r.val % 4096, by omega⟩ ⟨e.val / 256 * 2 + 1, by omega⟩
            ⟨e.val % 128 - 64, h_1.2.2⟩) * Ideal.ofBits FTy.f32 0x3E000000#32
      else FloatOps.sitofp (F := Ideal) FTy.f32 0#32 : EReal) := by
    pointwise [qPad]
  rw [e0, h0]
  have he := e.isLt
  by_cases h1 : e.val / 128 % 2 < 1
  · rw [dif_pos h1]
    by_cases h2 : e.val % 128 < 64
    · rw [dif_pos ⟨by omega, h2⟩, if_pos (by omega)]
      have e1 : e.val / 256 * 2 = e.val / 128 := by omega
      have e2 : e.val % 128 = e.val % 64 := by omega
      simp only [e1, e2]
    · rw [dif_neg fun h => h2 h.2, if_neg (by omega)]
  · rw [dif_neg h1]
    by_cases h2 : e.val % 128 < 64
    · rw [dif_neg fun h => by omega, if_neg (by omega)]
    · rw [dif_pos ⟨by omega, by omega, by omega⟩, if_pos (by omega)]
      have e1 : e.val / 256 * 2 + 1 = e.val / 128 := by omega
      have e2 : e.val % 128 - 64 = e.val % 64 := by omega
      simp only [e1, e2]

theorem V_kv (b : Fin 8) (k : Fin 32) (r : Fin 1024) (s : Fin 128) :
    V (F := Ideal) m c main_v16 (ix4 b k r s)
      = m ((c.tc : Thread nD τ).loc main_arg1) (ix5 b ⟨k.val * 128 + s.val, by omega⟩ ⟨r.val / 512, by omega⟩
          ⟨r.val / 64 % 8, by omega⟩ ⟨r.val % 64, by omega⟩) := by
  unfold V hostOps0 hostOps0_1 hostOps0_2 hostOps0_3 hostOps0_4
  after_reads_at

theorem V_uu (e : Fin 256) (s : Fin 128) :
    V (F := Ideal) m c main_v25 (ix2 e s) = ((if s.val < e.val % 128 then 1 else 0 : ℝ) : EReal) := by
  have hb : ∀ a b : ℕ, a < 2 ^ 31 → b < 2 ^ 31 →
      (FloatOps.uitofp (F := Ideal) FTy.bf16 (IntOp.cmpi CmpIPredicate.sgt (BitVec.ofNat 32 a) (BitVec.ofNat 32 b)) : EReal)
        = ((if b < a then 1 else 0 : ℝ) : EReal) := by
    intro a b ha hb
    have e1 : IntOp.cmpi CmpIPredicate.sgt (BitVec.ofNat 32 a) (BitVec.ofNat 32 b)
        = IntOp.cmpi CmpIPredicate.slt (BitVec.ofNat 32 b) (BitVec.ofNat 32 a) := rfl
    rw [e1, slt_ofNat hb ha]
    by_cases h : b < a
    · rw [if_pos h, decide_eq_true h]
      show (((BitVec.ofBool true).toNat : ℝ) : EReal) = _
      simp
    · rw [if_neg h, decide_eq_false h]
      show (((BitVec.ofBool false).toNat : ℝ) : EReal) = _
      simp
  have e0 : V (F := Ideal) m c main_v25 (ix2 e s)
      = (if h : e.val < 128 then
          FloatOps.uitofp (F := Ideal) FTy.bf16 (IntOp.cmpi CmpIPredicate.sgt (BitVec.ofNat 32 e.val) (BitVec.ofNat 32 s.val))
        else FloatOps.uitofp (F := Ideal) FTy.bf16
          (IntOp.cmpi CmpIPredicate.sgt (BitVec.ofNat 32 (e.val - 128)) (BitVec.ofNat 32 s.val))) := by
    unfold V hostOps0 hostOps0_1 hostOps0_2 hostOps0_3 hostOps0_4
    after_reads_at
  rw [e0]
  split
  · rename_i h
    rw [hb _ _ (by omega) (by omega), Nat.mod_eq_of_lt h]
  · rename_i h
    rw [hb _ _ (by omega) (by omega), show e.val % 128 = e.val - 128 by omega]

/-! ## The blocks -/

theorem blk_q (t : Fin grid0.N) (a : Fin 128) (e : Fin 1024) :
    iblk (F := Ideal) m c 0 t (ix2 a e)
      = V (F := Ideal) m c main_v13 (ix2 ⟨((grid0.coords t 0).val * 32 + (grid0.coords t 1).val) * 128 + a.val,
          by have h0 : (grid0.coords t 0).val < 8 := (grid0.coords t 0).isLt
             have h1 : (grid0.coords t 1).val < 32 := (grid0.coords t 1).isLt
             omega⟩ e) := by
  have hi : ∀ t : Fin grid0.N, win0_0.index t = ![(grid0.coords t 0).val * 32 + (grid0.coords t 1).val, 0] := by
    decide +kernel
  blk_ext [iblk, hi t]

theorem blk_kv (t : Fin grid0.N) (k : Fin 32) (r : Fin 1024) (s : Fin 128) :
    iblk (F := Ideal) m c 1 t (ix4 0 k r s) = V (F := Ideal) m c main_v16 (ix4 (grid0.coords t 0) k r s) := by
  have hi : ∀ t : Fin grid0.N, win0_1.index t = ![(grid0.coords t 0).val, 0, 0, 0] := by decide +kernel
  blk_ext [iblk, hi t]

theorem blk_uu (t : Fin grid0.N) (a : Fin 256) (e : Fin 128) :
    iblk (F := Ideal) m c 2 t (ix2 a e) = V (F := Ideal) m c main_v25 (ix2 a e) := by
  have hi : ∀ t : Fin grid0.N, win0_2.index t = ![0, 0] := by decide +kernel
  blk_ext [iblk, hi t]

end Cert.Proof.SBV

end
-- ==== Proof.SBV.Ref.lean ====
/-
  The reference over the extended reals: at finite arguments its result is, entry by entry, the stick-breaking output of
  `Real.lean` at the scaled products of queries and keys.
-/
module

public import proofs.«01_k».proof.Proof.Gen.ReferenceIdeal.Run
public import proofs.«01_k».proof.Proof.SBV.Tile

@[expose] public section

set_option maxRecDepth 16384

noncomputable section

namespace Cert.Proof.SBV

open Cert.ReferenceIdeal Cert.ReferenceIdeal.Gen
open Idealize.ShloMosaic Idealize.ShloMosaic.TcCoe Idealize.ShloMosaic.Tactic

/-! ## The reference's stages -/

/-- The logits. -/
def refZ (q : FVec Ideal S8x4096x8x64 .f32) (kv : FVec Ideal S8x4096x2x8x64 .f32) : FVec Ideal S8x8x4096x4096 .f32 :=
  mulf (Host.dotGeneral dot_S8x4096x8x64_S8x4096x8x64_S8x8x4096x4096_3_3_1_1_02_02 none q
      (shapeCast _ (extractStridedSlice S8x4096x1x8x64 ![0, 0, 0, 0, 0] kv slices_S8x4096x2x8x64_S8x4096x1x8x64_0_0_0_0_0)
        shapeCasts_S8x4096x1x8x64_S8x4096x8x64))
    (broadcastInDim S8x8x4096x4096 ![] bcast_S_S8x8x4096x4096 (constant S_ .f32 0x3E000000#32))

/-- `log σ`, as jax spells it: the negated softplus of the negated argument. -/
def refLS (z : FVec Ideal S8x8x4096x4096 .f32) : FVec Ideal S8x8x4096x4096 .f32 :=
  Host.negf (select
    (cmpf .une (subf (Host.negf z) (broadcastInDim S8x8x4096x4096 ![] bcast_S_S8x8x4096x4096 (constant S_ .f32 0x00000000#32)))
      (subf (Host.negf z) (broadcastInDim S8x8x4096x4096 ![] bcast_S_S8x8x4096x4096 (constant S_ .f32 0x00000000#32))))
    (addf (Host.negf z) (broadcastInDim S8x8x4096x4096 ![] bcast_S_S8x8x4096x4096 (constant S_ .f32 0x00000000#32)))
    (addf (maximumf (Host.negf z) (broadcastInDim S8x8x4096x4096 ![] bcast_S_S8x8x4096x4096 (constant S_ .f32 0x00000000#32)))
      (Host.log1p (Host.exp (Host.negf (Host.absf
        (subf (Host.negf z) (broadcastInDim S8x8x4096x4096 ![] bcast_S_S8x8x4096x4096 (constant S_ .f32 0x00000000#32)))))))))

/-- Which keys a query sees. -/
def refMask : IVec S8x8x4096x4096 1 :=
  broadcastInDim S8x8x4096x4096 ![0, 1, 2, 3] bcast_S1x1x4096x4096_S8x8x4096x4096_0_1_2_3
    (cmpi .slt
      (broadcastInDim S1x1x4096x4096 ![0, 1, 2, 3] bcast_S1x1x1x4096_S1x1x4096x4096_0_1_2_3
        (broadcastInDim S1x1x1x4096 ![3] bcast_S4096_S1x1x1x4096_3 (iotaInDim S4096 32 0)))
      (broadcastInDim S1x1x4096x4096 ![0, 1, 2, 3] bcast_S1x1x4096x1_S1x1x4096x4096_0_1_2_3
        (broadcastInDim S1x1x4096x1 ![2] bcast_S4096_S1x1x4096x1_2 (iotaInDim S4096 32 0))))

/-- A masked array. -/
def refWhere (x : FVec Ideal S8x8x4096x4096 .f32) : FVec Ideal S8x8x4096x4096 .f32 :=
  select refMask x (broadcastInDim S8x8x4096x4096 ![] bcast_S_S8x8x4096x4096 (id (constant S_ .f32 0x00000000#32)))

/-- The sums from each key on. -/
def refCum (l : FVec Ideal S8x8x4096x4096 .f32) : FVec Ideal S8x8x4096x4096 .f32 :=
  Host.reduceWindowAdd ![1, 1, 1, 4096] ![1, 1, 1, 1] ![0, 0, 0, 0] ![0, 0, 0, 4095] l
    (broadcastInDim S_ ![] bcast_S_S_ (constant S_ .f32 0x00000000#32))
    reduceWindows_S8x8x4096x4096_S8x8x4096x4096_w1s1p0_0_w1s1p0_0_w1s1p0_0_w4096s1p0_4095 h_S_

/-- The masked log-survivals. -/
def refL (z : FVec Ideal S8x8x4096x4096 .f32) : FVec Ideal S8x8x4096x4096 .f32 := refWhere (refLS (Host.negf z))

/-- The weights. -/
def refA (z : FVec Ideal S8x8x4096x4096 .f32) : FVec Ideal S8x8x4096x4096 .f32 :=
  refWhere (Host.exp (addf (refLS z) (subf (refCum (refL z)) (refL z))))

/-- The result. -/
def refO (a : FVec Ideal S8x8x4096x4096 .f32) (kv : FVec Ideal S8x4096x2x8x64 .f32) : FVec Ideal S32768x512 .bf16 :=
  truncf .bf16 (shapeCast _ (transpose S8x4096x8x64 [0, 3, 1, 2]
    (Host.dotGeneral dot_S8x4096x8x64_S8x8x4096x4096_S8x8x64x4096_1_3_3_2_02_01 none
      (shapeCast _ (extractStridedSlice S8x4096x1x8x64 ![0, 0, 1, 0, 0] kv slices_S8x4096x2x8x64_S8x4096x1x8x64_0_0_1_0_0)
        shapeCasts_S8x4096x1x8x64_S8x4096x8x64) a)
    transposes_S8x8x64x4096_S8x4096x8x64_0_3_1_2) shapeCasts_S8x4096x8x64_S32768x512) bitsLt_bf16_f32

theorem res_eq (m : (ℓ : Loc nD τ sig) → Buf (Elt Ideal) ℓ) (c : Dev nD) :
    Value.res_main_v26 m c
      = refO (refA (refZ (m ((c.tc : Thread nD τ).loc main_arg0)) (m ((c.tc : Thread nD τ).loc main_arg1))))
          (m ((c.tc : Thread nD τ).loc main_arg1)) := by
  unfold Value.res_main_v26 refO refA refL refWhere refMask refCum refLS refZ
  rfl

/-! ## The stages at an entry -/

theorem eighth : Ideal.ofBits FTy.f32 0x3E000000#32 = ((1 / 8 : ℝ) : EReal) := by
  simp [Ideal.ofBits, Ideal.ieee, -EReal.coe_mul]; norm_num

theorem refZ_apply (q : FVec Ideal S8x4096x8x64 .f32) (kv : FVec Ideal S8x4096x2x8x64 .f32) (b h : Fin 8)
    (t s : Fin 4096) :
    refZ q kv (ix4 b h t s) = (∑ d : Fin 64, q (ix4 b t h d) * kv (ix5 b s 0 h d)) * Ideal.ofBits FTy.f32 0x3E000000#32 := by
  pointwise [refZ]

theorem refLS_apply (z : FVec Ideal S8x8x4096x4096 .f32) (j : S8x8x4096x4096.Idx) :
    refLS z j = -(if -z j ≠ -z j then -z j
      else max (-z j) 0 + Ideal.log1p (Ideal.exp (-FloatOps.absf (F := Ideal) (φ := .f32) (-z j)))) := by
  pointwise [refLS]

theorem refLS_coe (z : FVec Ideal S8x8x4096x4096 .f32) (j : S8x8x4096x4096.Idx) (x : ℝ) (h : z j = (x : EReal)) :
    refLS z j = ((x - sp x : ℝ) : EReal) := by
  rw [refLS_apply, if_neg (by simp), h, ← EReal.coe_neg, coe_absf, ← EReal.coe_neg]
  unfold Ideal.log1p
  rw [coe_log1, ← EReal.coe_zero, ← coe_max, ← EReal.coe_add, ← EReal.coe_neg, ← neg_sp_neg]
  rfl

theorem refWhere_apply (x : FVec Ideal S8x8x4096x4096 .f32) (b h : Fin 8) (t s : Fin 4096) :
    refWhere x (ix4 b h t s) = if s.val < t.val then x (ix4 b h t s) else 0 := by
  have e : refWhere x (ix4 b h t s)
      = Scalar.select (IntOp.cmpi CmpIPredicate.slt (BitVec.ofNat 32 s.val) (BitVec.ofNat 32 t.val)) (x (ix4 b h t s))
          (id (constant (F := Ideal) S_ FTy.f32 0#32) ix0) := by
    pointwise [refWhere, refMask]
  have e0 : (id (constant (F := Ideal) S_ FTy.f32 0#32) ix0 : Ideal .f32) = (0 : EReal) := by
    show constant (F := Ideal) S_ FTy.f32 0#32 ix0 = _
    pointwise
  rw [e, e0, slt_ofNat (by omega) (by omega)]
  by_cases hs : s.val < t.val
  · rw [if_pos hs, decide_eq_true hs]; rfl
  · rw [if_neg hs, decide_eq_false hs]; rfl

theorem refO_apply (a : FVec Ideal S8x8x4096x4096 .f32) (kv : FVec Ideal S8x4096x2x8x64 .f32) (r : Fin 32768)
    (e : Fin 512) :
    refO a kv (ix2 r e) = ∑ s : Fin 4096, kv (ix5 ⟨r.val / 4096, by omega⟩ s 1 ⟨e.val / 64, by omega⟩ ⟨e.val % 64, by omega⟩)
      * a (ix4 ⟨r.val / 4096, by omega⟩ ⟨e.val / 64, by omega⟩ ⟨r.val % 4096, by omega⟩ s) := by
  pointwise [refO]

/-! ## The sums from each key on -/

theorem foldl_sum {ι : Type*} (L : List ι) (f : ι → EReal) (v : EReal) :
    L.foldl (fun r n => r + f n) v = v + (L.map f).sum := by
  induction L generalizing v with
  | nil => simp
  | cons n L ih => rw [List.foldl_cons, ih, List.map_cons, List.sum_cons, add_assoc]

theorem refCum_apply (l : FVec Ideal S8x8x4096x4096 .f32) (b h : Fin 8) (t s : Fin 4096) :
    refCum l (ix4 b h t s) = ∑ n : Fin 4096, if hn : s.val + n.val < 4096 then l (ix4 b h t ⟨s.val + n.val, hn⟩) else 0 := by
  have hv : (broadcastInDim S_ ![] bcast_S_S_ (constant (F := Ideal) S_ .f32 0x00000000#32)) (Shape.Idx.first h_S_) = (0 : EReal) := by
    pointwise
  unfold refCum Host.reduceWindowAdd
  rw [Ideal.hostReduceWindowAdd_def, hv]
  unfold Ideal.hostReduceWindowAdd Host.reduceWindow
  dsimp only
  rw [foldl_sum, zero_add, ← Fin.sum_univ_def]
  refine (Fintype.sum_equiv (Shape.rowMajor ⟨4, ![1, 1, 1, 4096]⟩).symm _ (fun w : (⟨4, ![1, 1, 1, 4096]⟩ : Shape).Idx =>
    if hn : s.val + (w 3).val < 4096 then l (ix4 b h t ⟨s.val + (w 3).val, hn⟩) else 0) fun n => ?_).trans ?_
  · have w0 : ((Shape.rowMajor ⟨4, ![1, 1, 1, 4096]⟩).symm n 0).val < 1 := ((Shape.rowMajor ⟨4, ![1, 1, 1, 4096]⟩).symm n 0).isLt
    have w1 : ((Shape.rowMajor ⟨4, ![1, 1, 1, 4096]⟩).symm n 1).val < 1 := ((Shape.rowMajor ⟨4, ![1, 1, 1, 4096]⟩).symm n 1).isLt
    have w2 : ((Shape.rowMajor ⟨4, ![1, 1, 1, 4096]⟩).symm n 2).val < 1 := ((Shape.rowMajor ⟨4, ![1, 1, 1, 4096]⟩).symm n 2).isLt
    by_cases hn : s.val + ((Shape.rowMajor ⟨4, ![1, 1, 1, 4096]⟩).symm n 3).val < 4096
    · rw [dif_pos hn, dif_pos]
      · refine congrArg l (funext fun a => Fin.ext ?_)
        match a with
        | ⟨0, _⟩ => show b.val * 1 + ((Shape.rowMajor ⟨4, ![1, 1, 1, 4096]⟩).symm n 0).val - 0 = b.val; omega
        | ⟨1, _⟩ => show h.val * 1 + ((Shape.rowMajor ⟨4, ![1, 1, 1, 4096]⟩).symm n 1).val - 0 = h.val; omega
        | ⟨2, _⟩ => show t.val * 1 + ((Shape.rowMajor ⟨4, ![1, 1, 1, 4096]⟩).symm n 2).val - 0 = t.val; omega
        | ⟨3, _⟩ => show s.val * 1 + ((Shape.rowMajor ⟨4, ![1, 1, 1, 4096]⟩).symm n 3).val - 0 = s.val + ((Shape.rowMajor ⟨4, ![1, 1, 1, 4096]⟩).symm n 3).val; omega
      · intro a
        match a with
        | ⟨0, _⟩ => show 0 ≤ b.val * 1 + ((Shape.rowMajor ⟨4, ![1, 1, 1, 4096]⟩).symm n 0).val ∧ b.val * 1 + ((Shape.rowMajor ⟨4, ![1, 1, 1, 4096]⟩).symm n 0).val - 0 < 8; omega
        | ⟨1, _⟩ => show 0 ≤ h.val * 1 + ((Shape.rowMajor ⟨4, ![1, 1, 1, 4096]⟩).symm n 1).val ∧ h.val * 1 + ((Shape.rowMajor ⟨4, ![1, 1, 1, 4096]⟩).symm n 1).val - 0 < 8; omega
        | ⟨2, _⟩ => show 0 ≤ t.val * 1 + ((Shape.rowMajor ⟨4, ![1, 1, 1, 4096]⟩).symm n 2).val ∧ t.val * 1 + ((Shape.rowMajor ⟨4, ![1, 1, 1, 4096]⟩).symm n 2).val - 0 < 4096; omega
        | ⟨3, _⟩ => show 0 ≤ s.val * 1 + ((Shape.rowMajor ⟨4, ![1, 1, 1, 4096]⟩).symm n 3).val ∧ s.val * 1 + ((Shape.rowMajor ⟨4, ![1, 1, 1, 4096]⟩).symm n 3).val - 0 < 4096; omega
    · rw [dif_neg hn, dif_neg]
      intro hin
      have h3 : 0 ≤ s.val * 1 + ((Shape.rowMajor ⟨4, ![1, 1, 1, 4096]⟩).symm n 3).val ∧ s.val * 1 + ((Shape.rowMajor ⟨4, ![1, 1, 1, 4096]⟩).symm n 3).val - 0 < 4096 := hin 3
      omega
  · rw [sum_idx4]
    simp only [Finset.univ_unique, Finset.sum_singleton]
    rfl

theorem sum_from (f : ℕ → ℝ) (k : ℕ) (hk : k ≤ 4096) :
    ∑ n : Fin 4096, (if k + n.val < 4096 then f (k + n.val) else 0) = ∑ s ∈ Finset.Ico k 4096, f s := by
  rw [← Finset.sum_range fun n => if k + n < 4096 then f (k + n) else 0, ← Finset.sum_filter, Finset.sum_Ico_eq_sum_range]
  congr 1
  ext n
  simp only [Finset.mem_filter, Finset.mem_range]
  omega

/-! ## Real arguments -/

section Real

variable (q : FVec Ideal S8x4096x8x64 .f32) (kv : FVec Ideal S8x4096x2x8x64 .f32)
  (qr : Fin 8 → Fin 4096 → Fin 8 → Fin 64 → ℝ) (kvr : Fin 8 → Fin 4096 → Fin 2 → Fin 8 → Fin 64 → ℝ)
  (hq : ∀ b t h d, q (ix4 b t h d) = (qr b t h d : EReal))
  (hkv : ∀ b s i h d, kv (ix5 b s i h d) = (kvr b s i h d : EReal))

/-- Key `s`'s logit for query `t` of head `h`. -/
def logit (b h : Fin 8) (t : Fin 4096) (s : ℕ) : ℝ :=
  (∑ d : Fin 64, qr b t h d * kvr b ⟨s % 4096, Nat.mod_lt _ (by norm_num)⟩ 0 h d) * (1 / 8)

/-- Entry `d` of value `s` of head `h`. -/
def value (b h : Fin 8) (d : Fin 64) (s : ℕ) : ℝ := kvr b ⟨s % 4096, Nat.mod_lt _ (by norm_num)⟩ 1 h d

include hq hkv

theorem refZ_coe (b h : Fin 8) (t s : Fin 4096) :
    refZ q kv (ix4 b h t s) = (logit qr kvr b h t s.val : EReal) := by
  rw [refZ_apply, eighth]
  unfold logit
  rw [EReal.coe_mul, coe_sum]
  congr 1
  refine Finset.sum_congr rfl fun d _ => ?_
  rw [hq, hkv, EReal.coe_mul]
  simp only [Nat.mod_eq_of_lt s.isLt]

theorem refL_coe (b h : Fin 8) (t s : Fin 4096) :
    refL (refZ q kv) (ix4 b h t s) = (lg (logit qr kvr b h t) t.val s.val : EReal) := by
  have hz : Host.negf (refZ q kv) (ix4 b h t s) = ((-logit qr kvr b h t s.val : ℝ) : EReal) := by
    show -(refZ q kv (ix4 b h t s) : EReal) = _
    rw [refZ_coe q kv qr kvr hq hkv, EReal.coe_neg]
  unfold refL lg
  rw [refWhere_apply, refLS_coe _ _ _ hz]
  by_cases hs : s.val < t.val
  · rw [if_pos hs, if_pos hs, ← neg_sp_neg, neg_neg]
  · rw [if_neg hs, if_neg hs, EReal.coe_zero]

theorem refA_coe (b h : Fin 8) (t s : Fin 4096) :
    refA (refZ q kv) (ix4 b h t s) = (wt (logit qr kvr b h t) t.val s.val : EReal) := by
  have hc : refCum (refL (refZ q kv)) (ix4 b h t s) = (tail (logit qr kvr b h t) t.val s.val : EReal) := by
    rw [refCum_apply]
    unfold tail
    rw [← sum_from _ _ s.isLt.le, coe_sum]
    refine Finset.sum_congr rfl fun n _ => ?_
    split
    · rw [refL_coe q kv qr kvr hq hkv]
    · rw [EReal.coe_zero]
  have ht : tail (logit qr kvr b h t) t.val s.val - lg (logit qr kvr b h t) t.val s.val
      = tail (logit qr kvr b h t) t.val (s.val + 1) := by
    unfold tail
    rw [Finset.sum_eq_sum_Ico_succ_bot s.isLt]
    ring
  unfold refA wt
  rw [refWhere_apply]
  by_cases hs : s.val < t.val
  · rw [if_pos hs, if_pos hs]
    show Ideal.exp ((refLS (refZ q kv) (ix4 b h t s) : EReal)
      + ((refCum (refL (refZ q kv)) (ix4 b h t s) : EReal) - refL (refZ q kv) (ix4 b h t s))) = _
    rw [refLS_coe _ _ _ (refZ_coe q kv qr kvr hq hkv b h t s), hc, refL_coe q kv qr kvr hq hkv, ← EReal.coe_sub, ht,
      ← EReal.coe_add, Ideal.exp_coe]
  · rw [if_neg hs, if_neg hs, EReal.coe_zero]

/-- The reference's result at finite arguments. -/
theorem refO_coe (r : Fin 32768) (e : Fin 512) :
    refO (refA (refZ q kv)) kv (ix2 r e)
      = (outTo (logit qr kvr ⟨r.val / 4096, by omega⟩ ⟨e.val / 64, by omega⟩ ⟨r.val % 4096, by omega⟩) (r.val % 4096)
          (value kvr ⟨r.val / 4096, by omega⟩ ⟨e.val / 64, by omega⟩ ⟨e.val % 64, by omega⟩) 0 : EReal) := by
  rw [refO_apply]
  unfold outTo
  rw [← sum_from _ _ (Nat.zero_le _), coe_sum]
  refine Finset.sum_congr rfl fun s _ => ?_
  rw [refA_coe q kv qr kvr hq hkv, hkv, if_pos (by have := s.isLt; omega), mul_comm, ← EReal.coe_mul]
  unfold value
  simp only [Nat.zero_add, Nat.mod_eq_of_lt s.isLt]

end Real

end Cert.Proof.SBV

end
-- ==== Proof.SBV.Value.lean ====
/-
  The kernel's result against the reference's: at finite queries, keys and values the array the grid leaves is the
  reference's result, entry by entry.
-/
module

public import proofs.«01_k».proof.Proof.SBV.Host
public import proofs.«01_k».proof.Proof.SBV.Ref
public import proofs.«01_k».proof.Defs
public import Idealize.ShloMosaic.Lib.ReduceAll

@[expose] public section

set_option maxRecDepth 16384

noncomputable section

namespace Cert.Proof.SBV

open Cert.KernelIdeal Cert.KernelIdeal.Gen Cert.Proof.SB
open Idealize.ShloMosaic Idealize.ShloMosaic.TcCoe Idealize.ShloMosaic.Tactic Idealize.SL.Sem

/-! ## Finite arguments are real -/

theorem real_of_olt (x : Ideal .f32)
    (h : FloatOps.cmpf (F := Ideal) .olt (FloatOps.absf (F := Ideal) x) (Ideal.ofBits .f32 0x7F800000#32) = 1#1) :
    ∃ r : ℝ, (x : EReal) = (r : EReal) := by
  have ht : Ideal.ofBits .f32 0x7F800000#32 = ⊤ := by simp [Ideal.ofBits, Ideal.ieee]
  have h1 : max (x : EReal) (-x) < ⊤ := by
    by_contra hn
    have e : FloatOps.cmpf (F := Ideal) .olt (FloatOps.absf (F := Ideal) x) (Ideal.ofBits .f32 0x7F800000#32) = 0#1 := by
      rw [ht]
      show BitVec.ofBool (decide (max (x : EReal) (-x) < ⊤)) = 0#1
      rw [decide_eq_false hn]; rfl
    rw [e] at h
    exact absurd h (by decide)
  refine ⟨(x : EReal).toReal, (EReal.coe_toReal ?_ ?_).symm⟩
  · intro hx
    rw [hx] at h1
    simp at h1
  · intro hx
    rw [hx] at h1
    simp at h1

instance : Subsingleton Cert.Pre_finite.S_.Idx := ⟨fun _ _ => funext fun a => a.elim0⟩

theorem finite_real [Cert.Pre_finite.Facts] (q : FVec Ideal S8x4096x8x64 .f32) (kv : FVec Ideal S8x4096x2x8x64 .f32)
    (h : Cert.Pre_finite.fn (F := Ideal) q kv = fun _ => 1#1) :
    (∀ i, ∃ r : ℝ, (q i : EReal) = (r : EReal)) ∧ (∀ i, ∃ r : ℝ, (kv i : EReal) = (r : EReal)) := by
  have hb : ∀ a b : BitVec 1, IntOp.andi a b = 1#1 → a = 1#1 ∧ b = 1#1 := by decide
  have h0 := congrFun h ix0
  obtain ⟨h1, h2⟩ := hb _ _ h0
  exact ⟨fun i => real_of_olt _ (Host.reduce_andi_all _ _ _ _ _ h1 i),
    fun i => real_of_olt _ (Host.reduce_andi_all _ _ _ _ _ h2 i)⟩

/-! ## One entry -/

/-- The stick-breaking output depends on the logits and values below 4096 alone. -/
theorem outTo_congr {z z' v v' : ℕ → ℝ} (t : ℕ) (hz : ∀ s < 4096, z s = z' s) (hv : ∀ s < 4096, v s = v' s) :
    outTo z t v 0 = outTo z' t v' 0 := by
  have ht : ∀ n, tail z t n = tail z' t n := fun n => Finset.sum_congr rfl fun s hs => by
    unfold lg; rw [hz s (by simp only [Finset.mem_Ico] at hs; omega)]
  refine Finset.sum_congr rfl fun s hs => ?_
  have hs' : s < 4096 := by simp only [Finset.mem_Ico] at hs; omega
  unfold wt
  rw [ht, hz s hs', hv s hs']

section Entry

variable (qr : Fin 8 → Fin 4096 → Fin 8 → Fin 64 → ℝ) (kvr : Fin 8 → Fin 4096 → Fin 2 → Fin 8 → Fin 64 → ℝ)
  (b : Fin 8) (qt : Fin 32)

/-- The point's block of padded queries, real. -/
def Qr (a : Fin 128) (e : Fin 1024) : ℝ :=
  if e.val % 128 / 64 = e.val / 128 % 2 then
    qr b ⟨qt.val * 128 + a.val, by omega⟩ ⟨e.val / 128, by omega⟩ ⟨e.val % 64, by omega⟩ * (1 / 8)
  else 0

/-- The batch row's tiles, real. -/
def Kr (k : Fin 32) (r : Fin 1024) (s : Fin 128) : ℝ :=
  kvr b ⟨k.val * 128 + s.val, by omega⟩ ⟨r.val / 512, by omega⟩ ⟨r.val / 64 % 8, by omega⟩ ⟨r.val % 64, by omega⟩

theorem zq_eq (a : Fin 128) (p : Fin 4) (hh : Fin 2) (s : ℕ) (hs : s < 4096) :
    zq (Qr qr b qt) (Kr kvr b) p ⟨hh.val * 128 + a.val, by omega⟩ s
      = logit qr kvr b ⟨2 * p.val + hh.val, by omega⟩ ⟨qt.val * 128 + a.val, by omega⟩ s := by
  have key : ∀ l : Fin 128, Qr qr b qt ⟨(hh.val * 128 + a.val) % 128, by omega⟩ ⟨(2 * p.val + (hh.val * 128 + a.val) / 128) * 128 + l.val, by omega⟩
      * Kr kvr b ⟨s / 128 % 32, by omega⟩ ⟨p.val * 128 + l.val, by omega⟩ ⟨s % 128, by omega⟩
      = if l.val / 64 = hh.val then
          qr b ⟨qt.val * 128 + a.val, by omega⟩ ⟨2 * p.val + hh.val, by omega⟩ ⟨l.val % 64, by omega⟩
            * kvr b ⟨s % 4096, by omega⟩ 0 ⟨2 * p.val + hh.val, by omega⟩ ⟨l.val % 64, by omega⟩ * (1 / 8)
        else 0 := by
    intro l
    have hl := l.isLt
    have ha := a.isLt
    have hp := p.isLt
    have hh' := hh.isLt
    have e1 : (hh.val * 128 + a.val) % 128 = a.val := by omega
    have e2 : (hh.val * 128 + a.val) / 128 = hh.val := by omega
    have e3 : ((2 * p.val + hh.val) * 128 + l.val) % 128 = l.val := by omega
    have e4 : ((2 * p.val + hh.val) * 128 + l.val) / 128 = 2 * p.val + hh.val := by omega
    have e5 : (2 * p.val + hh.val) % 2 = hh.val := by omega
    have e6 : ((2 * p.val + hh.val) * 128 + l.val) % 64 = l.val % 64 := by omega
    unfold Qr Kr
    simp only [e1, e2, e3, e4, e5, e6]
    split
    · rename_i hc
      have e7 : s / 128 % 32 * 128 + s % 128 = s % 4096 := by omega
      have e8 : (p.val * 128 + l.val) / 512 = 0 := by omega
      have e9 : (p.val * 128 + l.val) / 64 % 8 = 2 * p.val + hh.val := by omega
      have e10 : (p.val * 128 + l.val) % 64 = l.val % 64 := by omega
      simp only [e7, e8, e9, e10]
      show _ * _ * kvr b _ 0 _ _ = _
      ring
    · rw [zero_mul]
  have sum : ∀ f : Fin 64 → ℝ, ∑ l : Fin 128, (if l.val / 64 = hh.val then f ⟨l.val % 64, by omega⟩ else 0) = ∑ d, f d := by
    intro f
    rw [← Finset.sum_filter]
    refine Finset.sum_nbij' (fun l => ⟨l.val % 64, by omega⟩) (fun d => ⟨hh.val * 64 + d.val, by omega⟩) ?_ ?_ ?_ ?_ ?_
    · intro l _; exact Finset.mem_univ _
    · intro d _; simp only [Finset.mem_filter, Finset.mem_univ, true_and]; omega
    · intro l hl; simp only [Finset.mem_filter, Finset.mem_univ, true_and] at hl; exact Fin.ext (by show hh.val * 64 + l.val % 64 = l.val; omega)
    · intro d _; exact Fin.ext (by show (hh.val * 64 + d.val) % 64 = d.val; omega)
    · intro l _; rfl
  unfold zq logit
  rw [Finset.sum_mul, ← sum fun d => qr b ⟨qt.val * 128 + a.val, by omega⟩ ⟨2 * p.val + hh.val, by omega⟩ d
    * kvr b ⟨s % 4096, by omega⟩ 0 ⟨2 * p.val + hh.val, by omega⟩ d * (1 / 8)]
  exact Finset.sum_congr rfl fun l _ => key l

theorem vq_eq (e : Fin 512) (s : ℕ) (hs : s < 4096) :
    vq (Kr kvr b) ⟨e.val / 128, by omega⟩ ⟨e.val % 128, by omega⟩ s
      = value kvr b ⟨e.val / 64, by omega⟩ ⟨e.val % 64, by omega⟩ s := by
  have he := e.isLt
  unfold vq value Kr
  have e7 : s / 128 % 32 * 128 + s % 128 = s % 4096 := by omega
  have e8 : (512 + e.val / 128 * 128 + e.val % 128) / 512 = 1 := by omega
  have e9 : (512 + e.val / 128 * 128 + e.val % 128) / 64 % 8 = e.val / 64 := by omega
  have e10 : (512 + e.val / 128 * 128 + e.val % 128) % 64 = e.val % 64 := by omega
  simp only [e7, e8, e9, e10]
  rfl

end Entry

/-! ## The array -/

section Array

variable (m : (ℓ : Loc nD τ sig) → Buf (Elt Ideal) ℓ) (c : Dev nD)

/-- The reference's result at the kernel's arguments. -/
def result : FVec Ideal S32768x512 .bf16 :=
  refO (refA (refZ (m ((c.tc : Thread nD τ).loc main_arg0)) (m ((c.tc : Thread nD τ).loc main_arg1))))
    (m ((c.tc : Thread nD τ).loc main_arg1))

variable (qr : Fin 8 → Fin 4096 → Fin 8 → Fin 64 → ℝ) (kvr : Fin 8 → Fin 4096 → Fin 2 → Fin 8 → Fin 64 → ℝ)
  (hq : ∀ b t h d, m ((c.tc : Thread nD τ).loc main_arg0) (ix4 b t h d) = (qr b t h d : EReal))
  (hkv : ∀ b s i h d, m ((c.tc : Thread nD τ).loc main_arg1) (ix5 b s i h d) = (kvr b s i h d : EReal))

include hq hkv

theorem outAt_eq (t : Fin grid0.N) (a : Fin 128) (e : Fin 512) :
    outAt (F := Ideal) m c t (ix2 a e)
      = result m c (ix2 ⟨((grid0.coords t 0).val * 32 + (grid0.coords t 1).val) * 128 + a.val,
          by have h0 : (grid0.coords t 0).val < 8 := (grid0.coords t 0).isLt
             have h1 : (grid0.coords t 1).val < 32 := (grid0.coords t 1).isLt
             omega⟩ e) := by
  have h0 : (grid0.coords t 0).val < 8 := (grid0.coords t 0).isLt
  have h1 : (grid0.coords t 1).val < 32 := (grid0.coords t 1).isLt
  have ha := a.isLt
  have he := e.isLt
  unfold outAt result
  rw [refO_coe _ _ qr kvr hq hkv]
  refine (outOf_coe (grid0.coords t) _ _ _ (Qr qr (grid0.coords t 0) (grid0.coords t 1)) (Kr kvr (grid0.coords t 0)) ?_ ?_ ?_ a e).trans ?_
  · intro a e
    have ha := a.isLt
    rw [blk_q, V_q_eq, qPad_apply, eighth]
    unfold Qr
    split
    · rw [hq, ← EReal.coe_mul]
      have e1 : (((grid0.coords t 0).val * 32 + (grid0.coords t 1).val) * 128 + a.val) / 4096 = (grid0.coords t 0).val := by omega
      have e2 : (((grid0.coords t 0).val * 32 + (grid0.coords t 1).val) * 128 + a.val) % 4096 = (grid0.coords t 1).val * 128 + a.val := by omega
      simp only [e1, e2]
      rfl
    · rw [EReal.coe_zero]
  · intro k r s
    rw [blk_kv]
    exact (V_kv m c _ k r s).trans (hkv _ _ _ _ _)
  · intro e s
    rw [blk_uu, V_uu]
  · have e1 : (((grid0.coords t 0).val * 32 + (grid0.coords t 1).val) * 128 + a.val) / 4096 = (grid0.coords t 0).val := by omega
    have e2 : (((grid0.coords t 0).val * 32 + (grid0.coords t 1).val) * 128 + a.val) % 4096 = (grid0.coords t 1).val * 128 + a.val := by omega
    have e3 : (e.val / 64 % 2 * 128 + a.val) % 128 = a.val := by omega
    have e4 : 2 * (e.val / 128) + e.val / 64 % 2 = e.val / 64 := by omega
    congr 1
    unfold tq
    simp only [e1, e2, e3]
    refine outTo_congr _ (fun s hs => ?_) (fun s hs => ?_)
    · rw [zq_eq qr kvr (grid0.coords t 0) (grid0.coords t 1) a ⟨e.val / 128, by omega⟩ ⟨e.val / 64 % 2, by omega⟩ s hs]
      simp only [e4]
      rfl
    · rw [vq_eq kvr (grid0.coords t 0) e s hs]
      rfl

/-- The array the grid leaves. -/
theorem array_eq : (dats (F := Ideal) m 0 c).arrAt 3 (cfg0 (F := Ideal)).N = result m c := by
  have hi : ∀ t : Fin grid0.N, win0_3.index t = ![(grid0.coords t 0).val * 32 + (grid0.coords t 1).val, 0] := by
    decide +kernel
  refine (dats m 0 c).arrAt_eq_of_covers 3 _ (by decide +kernel) fun t hf y => ?_
  blk_simp
  rw [after_o]
  have hy : (y : S128x512.Idx) = ix2 (y 0) (y 1) := eq_ix2 y
  refine (congrArg (outAt (F := Ideal) m c t) hy).trans ((outAt_eq m c qr kvr hq hkv t (y 0) (y 1)).trans
    (congrArg (result m c) (funext fun a => Fin.ext ?_)))
  match a with
  | 0 => exact ((win0_3.rect_emb_val t y 0).trans (congrArg (· * 128 + (y 0).val) (congrFun (hi t) 0))).symm
  | 1 => exact ((win0_3.rect_emb_val t y 1).trans ((congrArg (· * 512 + (y 1).val) (congrFun (hi t) 1)).trans
      (show 0 * 512 + (y 1).val = (y 1).val by omega))).symm

end Array

/-! ## The claim -/

/-- The kernel's result is the reference's at finite arguments. -/
theorem algebraic [Cert.Pre_finite.Facts] : Cert.algebraic_KernelIdeal_ReferenceIdeal_pre_finite := by
  intro m g m' g' hpre heq
  refine ⟨fun c => result m c, ?_, ?_⟩
  · refine (θ_run defs _ _).mono (fun r h c => ⟨?_, ((h c).2 main_arg0 rest_arg0).trans (V_arg0 m c),
      ((h c).2 main_arg1 rest_arg1).trans (V_arg1 m c)⟩) (run (F := Ideal) m g)
    obtain ⟨hq, hkv⟩ := finite_real _ _ (hpre c)
    choose qr hq using hq
    choose kvr hkv using hkv
    exact ((h c).1 3).trans (array_eq m c (fun b t h d => qr (ix4 b t h d)) (fun b s i h d => kvr (ix5 b s i h d))
      (fun _ _ _ _ => hq _) (fun _ _ _ _ _ => hkv _))
  · refine (θ_run Cert.ReferenceIdeal.defs _ _).mono (fun r h c => ⟨?_, (h c).2⟩)
      (Cert.ReferenceIdeal.Value.run (F := Ideal) m' g')
    refine ((h c).1).trans ((res_eq m' c).trans ?_)
    rw [(heq c).1, (heq c).2]
    rfl

end Cert.Proof.SBV

end
-- ==== Proof.FF.Math.lean ====
/-
  The decoder layer's row functions over the extended reals, free of any program: the modulation, the gated
  feed-forward product, the layer norm, the modulation vectors, and the regrouping of the feed-forward sum into blocks
  of 256.
-/
module

public import Idealize.ShloMosaic.Lib.Pointwise
public import Idealize.ShloMosaic.Lib.Pointwise.IndexBridge
public import Mathlib.Algebra.BigOperators.Fin

@[expose] public section

noncomputable section

namespace Cert.Proof.FF

open Idealize.ShloMosaic

/-! ## The functions -/

/-- The logistic function. -/
def sg (x : EReal) : EReal := Ideal.div 1 (1 + Ideal.exp (-x))

/-- The gate's activation times the other half. -/
def gated (g v : EReal) : EReal := g * sg g * v

/-- A row, scaled by one plus a vector, plus another. -/
def modul (x s b : Fin 1024 → EReal) (n : Fin 1024) : EReal := x n * (1 + s n) + b n

/-- A row times a matrix's column. -/
def rowDot {K : ℕ} (u w : Fin K → EReal) : EReal := ∑ k, u k * w k

/-- The hidden unit `j` of the gated feed-forward layer. -/
def hidden (u : Fin 1024 → EReal) (up : Fin 1024 → Fin 5632 → EReal) (j : Fin 2816) : EReal :=
  gated (rowDot u fun k => up k ⟨j.val, by omega⟩) (rowDot u fun k => up k ⟨2816 + j.val, by omega⟩)

/-- The gated feed-forward layer's output. -/
def ffn (u : Fin 1024 → EReal) (up : Fin 1024 → Fin 5632 → EReal) (dn : Fin 2816 → Fin 1024 → EReal) (n : Fin 1024) :
    EReal := ∑ j, hidden u up j * dn j n

/-- The residual's weight, a half, the row's length and the norm's offset, as the programs spell them. -/
abbrev cAlpha : EReal := Ideal.ofBits .f32 0x3F9837F0#32
abbrev cHalf : EReal := Ideal.ofBits .f32 0x3F000000#32
abbrev cLen : EReal := Ideal.ofBits .f32 0x44800000#32
abbrev cEps : EReal := Ideal.ofBits .f32 0x3727C5AC#32

/-- A row's mean. -/
def mean (y : Fin 1024 → EReal) : EReal := Ideal.div (∑ k, y k) cLen

/-- A row's deviations from its mean. -/
def dev (y : Fin 1024 → EReal) (k : Fin 1024) : EReal := y k - mean y

/-- The layer norm of a row. -/
def lnorm (y g b : Fin 1024 → EReal) (n : Fin 1024) : EReal :=
  dev y n * Ideal.rsqrt (mean (fun k => dev y k * dev y k) + cEps) * g n + b n

/-- The feed-forward sub-layer: residual, half the modulated output, layer norm. -/
def ffLayer (x s b m : Fin 1024 → EReal) (up : Fin 1024 → Fin 5632 → EReal) (dn : Fin 2816 → Fin 1024 → EReal)
    (g c : Fin 1024 → EReal) : Fin 1024 → EReal :=
  lnorm (fun n => cAlpha * x n + cHalf * m n * ffn (modul x s b) up dn n) g c

/-- The mixer's sub-layer from its projected output: residual, modulated output, layer norm. -/
def postMix (x p m g c : Fin 1024 → EReal) : Fin 1024 → EReal := lnorm (fun n => cAlpha * x n + m n * p n) g c

/-- A modulation vector's entry. -/
def ada (c w : Fin 1024 → EReal) (b : EReal) : EReal := (∑ k, c k * sg (c k) * w k) + b

/-- The queries' scale, as the programs spell it. -/
abbrev cScale : EReal := Ideal.ofBits .f32 0x3E000000#32

/-! ## Facts -/

/-- A column scaled by a finite constant that is not negative scales its product. -/
theorem rowDot_scale {K : ℕ} (u w : Fin K → EReal) {c : EReal} (h0 : 0 ≤ c) (h1 : c ≠ ⊤) :
    rowDot u (fun k => w k * c) = rowDot u w * c := by
  unfold rowDot
  simp only [← mul_assoc]
  refine Finset.induction_on Finset.univ (by simp) fun a s ha ih => ?_
  rw [Finset.sum_insert ha, Finset.sum_insert ha, ih, EReal.right_distrib_of_nonneg_of_ne_top h0 h1]

theorem cScale_real : cScale = ((1 / 8 : ℝ) : EReal) := by
  simp [Ideal.ofBits, Ideal.ieee, -EReal.coe_mul]; norm_num

/-- The queries' scale on a column. -/
theorem rowDot_cScale {K : ℕ} (u w : Fin K → EReal) : rowDot u (fun k => w k * cScale) = rowDot u w * cScale :=
  rowDot_scale u w (by rw [cScale_real]; exact EReal.coe_nonneg.2 (by norm_num)) (by rw [cScale_real]; exact EReal.coe_ne_top _)

theorem sg_sub (x : EReal) : Ideal.div 1 (1 + Ideal.exp (0 - x)) = sg x := by rw [zero_sub]; rfl

theorem real_sg (x : ℝ) : ∃ y : ℝ, sg (x : EReal) = (y : EReal) := by
  refine ⟨1 / (1 + Real.exp (-x)), ?_⟩
  unfold sg
  have h : (1 + Real.exp (-x)) ≠ 0 := by have := Real.exp_pos (-x); linarith
  rw [← EReal.coe_neg, Ideal.exp_coe, ← EReal.coe_one, ← EReal.coe_add, Ideal.div_coe h, EReal.coe_one, one_mul]

/-- A modulation vector's entry as the kernel computes it: each factor in a high and a low part, the low parts'
product left out. -/
def adaRaw (c w : Fin 1024 → EReal) (b : EReal) : EReal :=
  (∑ k, c k * sg (c k) * w k)
    + ((∑ k, c k * sg (c k) * (w k - w k)) + ∑ k, (c k * sg (c k) - c k * sg (c k)) * w k) + b

/-- Over the reals the low parts are zero where the factors are finite. -/
theorem adaRaw_eq {c w : Fin 1024 → EReal} (b : EReal) (hc : ∀ k, ∃ y : ℝ, c k = (y : EReal))
    (hw : ∀ k, ∃ y : ℝ, w k = (y : EReal)) : adaRaw c w b = ada c w b := by
  have h1 : ∀ k, c k * sg (c k) * (w k - w k) = 0 := fun k => by
    obtain ⟨y, hy⟩ := hw k
    rw [hy, ← EReal.coe_sub, sub_self, EReal.coe_zero, mul_zero]
  have h2 : ∀ k, (c k * sg (c k) - c k * sg (c k)) * w k = 0 := fun k => by
    obtain ⟨x, hx⟩ := hc k
    obtain ⟨y, hy⟩ := real_sg x
    rw [hx, hy, ← EReal.coe_mul, ← EReal.coe_sub, sub_self, EReal.coe_zero, zero_mul]
  unfold adaRaw ada
  simp only [h1, h2, Finset.sum_const_zero, add_zero]

/-- A sum over 2816 in eleven blocks of 256, taken from the left. -/
theorem sum_blocks (f : Fin 2816 → EReal) :
    ∑ j, f j = ∑ c : Fin 11, ∑ e : Fin 256, f ⟨c.val * 256 + e.val, by omega⟩ := by
  rw [← Fintype.sum_prod_type']
  refine (Fintype.sum_equiv (finProdFinEquiv (m := 11) (n := 256)) _ _ fun p => ?_).symm
  refine congrArg f (Fin.ext ?_)
  show p.1.val * 256 + p.2.val = p.2.val + 256 * p.1.val
  omega

/-- The running sum of the blocks up to `c`. -/
def upto (f : Fin 2816 → EReal) : (c : ℕ) → c ≤ 11 → EReal
  | 0, _ => 0
  | c + 1, h => upto f c (Nat.le_of_succ_le h) + ∑ e : Fin 256, f ⟨c * 256 + e.val, by omega⟩

theorem upto_eq (f : Fin 2816 → EReal) : ∀ (c : ℕ) (h : c ≤ 11),
    upto f c h = ∑ i : Fin c, ∑ e : Fin 256, f ⟨i.val * 256 + e.val, by omega⟩
  | 0, _ => rfl
  | c + 1, h => by
    rw [upto, upto_eq f c (Nat.le_of_succ_le h)]
    exact (Fin.sum_univ_castSucc fun i : Fin (c + 1) => ∑ e : Fin 256, f ⟨i.val * 256 + e.val, by omega⟩).symm

theorem upto_all (f : Fin 2816 → EReal) : upto f 11 le_rfl = ∑ j, f j := by
  rw [sum_blocks, upto_eq]

/-! ## Equal parts -/

/-- Row `r` of a matrix of 1024 columns. -/
abbrev row {R : ℕ} (x : (⟨2, ![R, 1024]⟩ : Shape).Idx → EReal) (r : Fin R) : Fin 1024 → EReal := fun k => x (ix2 r k)

theorem ffLayer_congr {x x' s s' b b' m m' g g' c c' : Fin 1024 → EReal} {up up' : Fin 1024 → Fin 5632 → EReal}
    {dn dn' : Fin 2816 → Fin 1024 → EReal} (hx : x = x') (hs : s = s') (hb : b = b') (hm : m = m') (hu : up = up')
    (hd : dn = dn') (hg : g = g') (hc : c = c') (n : Fin 1024) :
    ffLayer x s b m up dn g c n = ffLayer x' s' b' m' up' dn' g' c' n := by
  subst hx hs hb hm hu hd hg hc; rfl

theorem postMix_congr {x x' p p' m m' g g' c c' : Fin 1024 → EReal} (hx : x = x') (hp : p = p') (hm : m = m') (hg : g = g')
    (hc : c = c') : postMix x p m g c = postMix x' p' m' g' c' := by
  subst hx hp hm hg hc; rfl

theorem congr_modul {x x' s s' b b' : Fin 1024 → EReal} (hx : x = x') (hs : s = s') (hb : b = b') (n : Fin 1024) :
    modul x s b n = modul x' s' b' n := by
  subst hx hs hb; rfl

theorem ada_congr {x x' w w' : Fin 1024 → EReal} {b b' : EReal} (hx : x = x') (hw : w = w') (hb : b = b') :
    adaRaw x w b = adaRaw x' w' b' := by
  subst hx hw hb; rfl

theorem rowDot_congr {K : ℕ} {u u' w w' : Fin K → EReal} (hu : u = u') (hw : w = w') : rowDot u w = rowDot u' w' := by
  subst hu hw; rfl

end Cert.Proof.FF
-- ==== Proof.FF.Chunk.lean ====
/-
  One block of the prompt's feed-forward product: 256 hidden units, both halves of the up-projection, their gated
  activation and its product with the down-projection's rows. The eleven blocks of a body, added up, are the whole
  feed-forward product of a row.
-/
module

public import proofs.«01_k».proof.Proof.Gen.Kernel2Ideal.Skeleton
public import proofs.«01_k».proof.Proof.FF.Math
public import Idealize.ShloMosaic.Lib.Pipeline.ValueKit.Tiles
public import Idealize.ShloMosaic.Lib.Pointwise
public import Idealize.ShloMosaic.Lib.Pointwise.IndexBridge

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable {F : FTy → Type} [FloatOps F]

/-! ## A block at array level -/

theorem inbG (c : Fin 11) : ∀ a, (![0, c.val * 256] : Fin 2 → ℕ) a + S1024x256.size a ≤ S1024x5632.size a := fun a =>
  match a with
  | 0 => by show 0 + 1024 ≤ 1024; omega
  | 1 => by show c.val * 256 + 256 ≤ 5632; omega

theorem inbV (c : Fin 11) : ∀ a, (![0, 2816 + c.val * 256] : Fin 2 → ℕ) a + S1024x256.size a ≤ S1024x5632.size a := fun a =>
  match a with
  | 0 => by show 0 + 1024 ≤ 1024; omega
  | 1 => by show 2816 + c.val * 256 + 256 ≤ 5632; omega

theorem inbD (c : Fin 11) : ∀ a, (![c.val * 256, 0] : Fin 2 → ℕ) a + S256x1024.size a ≤ S2816x1024.size a := fun a =>
  match a with
  | 0 => by show c.val * 256 + 256 ≤ 2816; omega
  | 1 => by show 0 + 1024 ≤ 1024; omega

/-- The up-projection's columns of block `c`: the gate's and the other half's; and the down-projection's rows. -/
def upG (up : Vec F S1024x5632 .bf16) (c : Fin 11) : Vec F S1024x256 .bf16 :=
  View.ld up (Rect.unit (s := S1024x5632) ![0, c.val * 256] S1024x256.size (inbG c))
def upV (up : Vec F S1024x5632 .bf16) (c : Fin 11) : Vec F S1024x256 .bf16 :=
  View.ld up (Rect.unit (s := S1024x5632) ![0, 2816 + c.val * 256] S1024x256.size (inbV c))
def dnR (dn : Vec F S2816x1024 .bf16) (c : Fin 11) : Vec F S256x1024 .bf16 :=
  View.ld dn (Rect.unit (s := S2816x1024) ![c.val * 256, 0] S256x1024.size (inbD c))

/-- Block `c` added to what the blocks before it left. -/
def addBlk (u : FVec F S512x1024 .bf16) (up : Vec F S1024x5632 .bf16) (dn : Vec F S2816x1024 .bf16) (c : Fin 11)
    (acc : FVec F S512x1024 .f32) : FVec F S512x1024 .f32 :=
  k1_pay6 u (upG up c) (upV up c) (dnR dn c) acc

/-- Block 0 alone. -/
def blk0 (u : FVec F S512x1024 .bf16) (up : Vec F S1024x5632 .bf16) (dn : Vec F S2816x1024 .bf16) : FVec F S512x1024 .f32 :=
  k3_pay10 (k1_pay24 u (upG up 0) (upV up 0)) (k3_pay9 (dnR dn 0))

/-- All eleven. -/
def allBlks (u : FVec F S512x1024 .bf16) (up : Vec F S1024x5632 .bf16) (dn : Vec F S2816x1024 .bf16) : FVec F S512x1024 .f32 :=
  addBlk u up dn 10 (addBlk u up dn 9 (addBlk u up dn 8 (addBlk u up dn 7 (addBlk u up dn 6 (addBlk u up dn 5
    (addBlk u up dn 4 (addBlk u up dn 3 (addBlk u up dn 2 (addBlk u up dn 1 (blk0 u up dn))))))))))

/-! ## The same, at an entry -/

theorem upG_apply (up : FVec Ideal S1024x5632 .bf16) (c : Fin 11) (k : Fin 1024) (e : Fin 256) :
    upG (F := Ideal) up c (ix2 k e) = up (ix2 k ⟨c.val * 256 + e.val, by omega⟩) := by
  refine congrArg up (funext fun a => Fin.ext ?_)
  rw [Rect.idx_unit_val]
  match a with
  | 0 => exact Nat.zero_add _
  | 1 => rfl

theorem upV_apply (up : FVec Ideal S1024x5632 .bf16) (c : Fin 11) (k : Fin 1024) (e : Fin 256) :
    upV (F := Ideal) up c (ix2 k e) = up (ix2 k ⟨2816 + (c.val * 256 + e.val), by omega⟩) := by
  refine congrArg up (funext fun a => Fin.ext ?_)
  rw [Rect.idx_unit_val]
  match a with
  | 0 => exact Nat.zero_add _
  | 1 => exact Nat.add_assoc _ _ _

theorem dnR_apply (dn : FVec Ideal S2816x1024 .bf16) (c : Fin 11) (e : Fin 256) (n : Fin 1024) :
    dnR (F := Ideal) dn c (ix2 e n) = dn (ix2 ⟨c.val * 256 + e.val, by omega⟩ n) := by
  refine congrArg dn (funext fun a => Fin.ext ?_)
  rw [Rect.idx_unit_val]
  match a with
  | 0 => rfl
  | 1 => exact Nat.zero_add _

/-- The summand of a row's feed-forward product. -/
def term (u : FVec Ideal S512x1024 .bf16) (up : FVec Ideal S1024x5632 .bf16) (dn : FVec Ideal S2816x1024 .bf16)
    (r : Fin 512) (n : Fin 1024) (j : Fin 2816) : EReal :=
  hidden (fun k => u (ix2 r k)) (fun k j => up (ix2 k j)) j * dn (ix2 j n)

theorem addBlk_apply (u : FVec Ideal S512x1024 .bf16) (up : FVec Ideal S1024x5632 .bf16) (dn : FVec Ideal S2816x1024 .bf16)
    (c : Fin 11) (acc : FVec Ideal S512x1024 .f32) (r : Fin 512) (n : Fin 1024) :
    addBlk (F := Ideal) u up dn c acc (ix2 r n)
      = acc (ix2 r n) + ∑ e : Fin 256, term u up dn r n ⟨c.val * 256 + e.val, by omega⟩ := by
  unfold addBlk
  pointwise [k1_pay6]
  simp only [upG_apply, upV_apply, dnR_apply, sg_sub]
  rfl

theorem blk0_apply (u : FVec Ideal S512x1024 .bf16) (up : FVec Ideal S1024x5632 .bf16) (dn : FVec Ideal S2816x1024 .bf16)
    (r : Fin 512) (n : Fin 1024) :
    blk0 (F := Ideal) u up dn (ix2 r n) = ∑ e : Fin 256, term u up dn r n ⟨(0 : Fin 11).val * 256 + e.val, by omega⟩ := by
  unfold blk0
  pointwise [k3_pay10, k3_pay9, k1_pay24]
  simp only [upG_apply, upV_apply, dnR_apply, sg_sub]
  rfl

theorem allBlks_apply (u : FVec Ideal S512x1024 .bf16) (up : FVec Ideal S1024x5632 .bf16) (dn : FVec Ideal S2816x1024 .bf16)
    (r : Fin 512) (n : Fin 1024) :
    allBlks (F := Ideal) u up dn (ix2 r n)
      = ffn (fun k => u (ix2 r k)) (fun k j => up (ix2 k j)) (fun j n => dn (ix2 j n)) n := by
  refine Eq.trans ?_ (upto_all (term u up dn r n))
  unfold allBlks
  simp only [addBlk_apply, blk0_apply, upto, zero_add]
  rfl

end Cert.Proof.FF
-- ==== Proof.FF.Body.lean ====
/-
  What each call of the prompt's path leaves in its output blocks, as a vocabulary of named stages: the modulation, the
  first feed-forward layer, the projection's transposed blocks, and the output projection with the second layer.
-/
module

public import proofs.«01_k».proof.Proof.Gen.Kernel2Ideal.Frame
public import proofs.«01_k».proof.Proof.FF.Chunk
public import Idealize.ShloMosaic.Lib.Pipeline.ValueKit.Acc

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable {F : FTy → Type} [FloatOps F]

/-! ## Stages -/

theorem inbM (i : Fin 9) : ∀ a, (![i.val, 0, 0, 0] : Fin 4 → ℕ) a + (![1, 1, 1, 1024] : Fin 4 → ℕ) a ≤ S9x1x1x1024.size a := fun a =>
  match a with
  | 0 => by show i.val + 1 ≤ 9; omega
  | 1 => by show 0 + 1 ≤ 1; omega
  | 2 => by show 0 + 1 ≤ 1; omega
  | 3 => by show 0 + 1024 ≤ 1024; omega

/-- Modulation vector `i` of a block of nine. -/
def modAt (x : Vec F S9x1x1x1024 .f32) (i : Fin 9) : Vec F S1x1x1x1024 .f32 :=
  View.ld x (Rect.unit (s := S9x1x1x1024) ![i.val, 0, 0, 0] ![1, 1, 1, 1024] (inbM i))

theorem inbN (i : Fin 2) : ∀ a, (![i.val, 0] : Fin 2 → ℕ) a + (![1, 1024] : Fin 2 → ℕ) a ≤ S2x1024.size a := fun a =>
  match a with
  | 0 => by show i.val + 1 ≤ 2; omega
  | 1 => by show 0 + 1024 ≤ 1024; omega

/-- Row `i` of the two norms' vectors. -/
def normAt (x : Vec F S2x1024 .f32) (i : Fin 2) : Vec F S1x1024 .f32 :=
  View.ld x (Rect.unit (s := S2x1024) ![i.val, 0] ![1, 1024] (inbN i))

theorem inbP (o n : ℕ) (h : o + n ≤ 3968) : ∀ a, (![0, o] : Fin 2 → ℕ) a + (![1024, n] : Fin 2 → ℕ) a ≤ S1024x3968.size a := fun a =>
  match a with
  | 0 => by show 0 + 1024 ≤ 1024; omega
  | 1 => by show o + n ≤ 3968; omega

/-- The projection's `n` columns from `o` on. -/
def colsAt (x : Vec F S1024x3968 .bf16) (o n : ℕ) (h : o + n ≤ 3968) : Vec F (⟨2, ![1024, n]⟩ : Shape) .bf16 :=
  View.ld x (Rect.unit (s := S1024x3968) ![0, o] ![1024, n] (inbP o n h))

/-- The first feed-forward layer of 512 rows. -/
def body1 (x0 : Vec F S512x1024 .f32) (x1 : Vec F S9x1x1x1024 .f32) (x2 : Vec F S1024x5632 .bf16)
    (x3 : Vec F S2816x1024 .bf16) (x4 x5 : Vec F S1x1024 .f32) : Vec F S512x1024 .f32 :=
  k1_pay1 (k1_pay28 (k1_pay2 x0)) (modAt x1 2) (allBlks (k1_pay3 x0 (modAt x1 1) (modAt x1 0)) x2 x3) x4 x5

/-- The rows after the mixer's output projection and its norm. -/
def mixed (x0 : Vec F S512x1024 .f32) (x1 x2 : Vec F S512x512 .bf16) (x3 : Vec F S9x1x1x1024 .f32)
    (x4 x5 : Vec F S512x1024 .bf16) (x8 x9 : Vec F S2x1024 .f32) : FVec F S512x1024 .f32 :=
  k3_pay6 (k3_pay1 (normAt x8 0)) (k3_pay2 (normAt x9 0)) (k3_pay3 x1 x4 x2 x5 x0 (modAt x3 5))
    (k3_pay4 x1 x4 x2 x5 x0 (modAt x3 5)) k3_pay5

/-- The second feed-forward layer's modulated rows. -/
def mixedU (x0 : Vec F S512x1024 .f32) (x1 x2 : Vec F S512x512 .bf16) (x3 : Vec F S9x1x1x1024 .f32)
    (x4 x5 : Vec F S512x1024 .bf16) (x8 x9 : Vec F S2x1024 .f32) : FVec F S512x1024 .bf16 :=
  k3_pay7 (k3_pay1 (normAt x8 0)) (k3_pay2 (normAt x9 0)) (k3_pay3 x1 x4 x2 x5 x0 (modAt x3 5))
    (k3_pay4 x1 x4 x2 x5 x0 (modAt x3 5)) k3_pay5 (modAt x3 7) (modAt x3 6)

/-- The output projection and the second feed-forward layer of 512 rows. -/
def body3 (x0 : Vec F S512x1024 .f32) (x1 x2 : Vec F S512x512 .bf16) (x3 : Vec F S9x1x1x1024 .f32)
    (x4 x5 : Vec F S512x1024 .bf16) (x6 : Vec F S1024x5632 .bf16) (x7 : Vec F S2816x1024 .bf16)
    (x8 x9 : Vec F S2x1024 .f32) : Vec F S512x1024 .f32 :=
  k3_pay30 (mixed x0 x1 x2 x3 x4 x5 x8 x9) k3_pay29 (modAt x3 8) (allBlks (mixedU x0 x1 x2 x3 x4 x5 x8 x9) x6 x7)
    (normAt x8 1) (normAt x9 1)

/-! ## The calls' outputs -/

theorem out1_eq (c : Dev nD) (i : grid1.Coords) (arg1 : Memref sig .tc .vmem S512x1024 .f32) (harg1 : arg1.IsWhole) (arg2 : Memref sig .tc .vmem S9x1x1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S9x1x1x1024 .f32) (x2 : Vec F S1024x5632 .bf16) (x3 : Vec F S2816x1024 .bf16) (x4 : Vec F S1x1024 .f32) (x5 : Vec F S1x1024 .f32) :
    out1_A_6 c i arg1 harg1 arg2 harg2 arg3 harg3 arg4 harg4 arg5 harg5 arg6 harg6 arg7 harg7 arg8 harg8 x0 x1 x2 x3 x4 x5 = body1 x0 x1 x2 x3 x4 x5 := by
  frame_out
  rfl

theorem out3_eq (c : Dev nD) (i : grid3.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S9x1x1x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S2x1024 .f32) (harg9 : arg9.IsWhole) (arg10 : Memref sig .tc .vmem S2x1024 .f32) (harg10 : arg10.IsWhole) (arg11 : Memref sig .tc .vmem S512x1024 .f32) (harg11 : arg11.IsWhole) (arg12 : Memref sig .tc .vmem S512x1024 .f32) (harg12 : arg12.IsWhole)
    (x0 : Vec F S512x1024 .f32) (x1 : Vec F S512x512 .bf16) (x2 : Vec F S512x512 .bf16) (x3 : Vec F S9x1x1x1024 .f32) (x4 : Vec F S512x1024 .bf16) (x5 : Vec F S512x1024 .bf16) (x6 : Vec F S1024x5632 .bf16) (x7 : Vec F S2816x1024 .bf16) (x8 : Vec F S2x1024 .f32) (x9 : Vec F S2x1024 .f32) :
    out3_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = body3 x0 x1 x2 x3 x4 x5 x6 x7 x8 x9 := by
  frame_out
  rfl

theorem out0_eq (x0 : Vec F S136x1024 .f32) (x1 : Vec F S1024x1024 .f32) (x2 : Vec F S1x1024 .f32) :
    out0_3 x0 x1 x2 = k0_pay1 x0 x1 x2 := by
  frame_out

theorem out2_4_eq (x0 : Vec F S512x1024 .f32) (x1 : Vec F S9x1x1x1024 .f32) (x2 : Vec F S1024x3968 .bf16) (x3 : Vec F S1792x1024 .bf16) :
    out2_4 x0 x1 x2 x3 = k2_pay6 x0 (modAt x1 4) (modAt x1 3) (colsAt x2 0 1024 (by omega)) := by
  unfold_out out2_4
  frame_out
  rfl

theorem out2_5_eq (x0 : Vec F S512x1024 .f32) (x1 : Vec F S9x1x1x1024 .f32) (x2 : Vec F S1024x3968 .bf16) (x3 : Vec F S1792x1024 .bf16) :
    out2_5 x0 x1 x2 x3 = k2_pay7 x0 (modAt x1 4) (modAt x1 3) (colsAt x2 1024 1024 (by omega)) := by
  unfold_out out2_5
  frame_out
  rfl

theorem out2_6_eq (x0 : Vec F S512x1024 .f32) (x1 : Vec F S9x1x1x1024 .f32) (x2 : Vec F S1024x3968 .bf16) (x3 : Vec F S1792x1024 .bf16) :
    out2_6 x0 x1 x2 x3 = k2_pay9 (k2_pay8 x0 (modAt x1 4) (modAt x1 3) (colsAt x2 2048 128 (by omega))) := by
  unfold_out out2_6
  frame_out
  rfl

theorem out2_8_eq (x0 : Vec F S512x1024 .f32) (x1 : Vec F S9x1x1x1024 .f32) (x2 : Vec F S1024x3968 .bf16) (x3 : Vec F S1792x1024 .bf16) :
    out2_8 x0 x1 x2 x3 = k2_pay12 (k2_pay5 x0 (modAt x1 4) (modAt x1 3)) x3 := by
  unfold_out out2_8
  frame_out
  rfl

theorem out2_9_eq (x0 : Vec F S512x1024 .f32) (x1 : Vec F S9x1x1x1024 .f32) (x2 : Vec F S1024x3968 .bf16) (x3 : Vec F S1792x1024 .bf16) :
    out2_9 x0 x1 x2 x3 = k2_pay13 (k2_pay5 x0 (modAt x1 4) (modAt x1 3)) x3 := by
  unfold_out out2_9
  frame_out
  rfl

theorem out2_10_eq (x0 : Vec F S512x1024 .f32) (x1 : Vec F S9x1x1x1024 .f32) (x2 : Vec F S1024x3968 .bf16) (x3 : Vec F S1792x1024 .bf16) :
    out2_10 x0 x1 x2 x3 = k2_pay14 (k2_pay5 x0 (modAt x1 4) (modAt x1 3)) x3 := by
  unfold_out out2_10
  frame_out
  rfl

end Cert.Proof.FF
-- ==== Proof.FF.Read.lean ====
/-
  The calls' output blocks over the extended reals, entry by entry: each is the row function of the layer's mathematics
  at the block's own rows.
-/
module

public import proofs.«01_k».proof.Proof.FF.Body

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

theorem modAt_apply (x : FVec Ideal S9x1x1x1024 .f32) (i : Fin 9) (n : Fin 1024) :
    modAt (F := Ideal) x i (ix4 0 0 0 n) = x (ix4 i 0 0 n) := by
  refine congrArg x (funext fun a => Fin.ext ?_)
  rw [Rect.idx_unit_val]
  match a with
  | 0 => rfl
  | 1 => rfl
  | 2 => rfl
  | 3 => exact Nat.zero_add _

theorem normAt_apply (x : FVec Ideal S2x1024 .f32) (i : Fin 2) (n : Fin 1024) :
    normAt (F := Ideal) x i (ix2 0 n) = x (ix2 i n) := by
  refine congrArg x (funext fun a => Fin.ext ?_)
  rw [Rect.idx_unit_val]
  match a with
  | 0 => rfl
  | 1 => exact Nat.zero_add _

/-- Modulation vector `i` of a block. -/
abbrev mrow (x : FVec Ideal S9x1x1x1024 .f32) (i : Fin 9) : Fin 1024 → EReal := fun k => x (ix4 i 0 0 k)

/-- The modulation's block. -/
theorem k0_apply (c : FVec Ideal S136x1024 .f32) (w : FVec Ideal S1024x1024 .f32) (b : FVec Ideal S1x1024 .f32)
    (r : Fin 136) (n : Fin 1024) :
    k0_pay1 (F := Ideal) c w b (ix2 r n) = adaRaw (fun k => c (ix2 r k)) (fun k => w (ix2 k n)) (b (ix2 0 n)) := by
  unfold adaRaw
  pointwise [k0_pay1]
  simp only [sg_sub]

theorem k1_pay3_row (x : FVec Ideal S512x1024 .f32) (m : FVec Ideal S9x1x1x1024 .f32) (i j : Fin 9) (r : Fin 512) (k : Fin 1024) :
    k1_pay3 (F := Ideal) x (modAt m i) (modAt m j) (ix2 r k) = modul (row x r) (mrow m i) (mrow m j) k := by
  pointwise [k1_pay3, k1_pay2]
  simp only [modAt_apply]
  rfl

/-- The first feed-forward layer, a row at a time. -/
theorem body1_apply (x0 : FVec Ideal S512x1024 .f32) (x1 : FVec Ideal S9x1x1x1024 .f32) (x2 : FVec Ideal S1024x5632 .bf16)
    (x3 : FVec Ideal S2816x1024 .bf16) (x4 x5 : FVec Ideal S1x1024 .f32) (r : Fin 512) (n : Fin 1024) :
    body1 (F := Ideal) x0 x1 x2 x3 x4 x5 (ix2 r n)
      = ffLayer (row x0 r) (mrow x1 1) (mrow x1 0) (mrow x1 2) (fun k j => x2 (ix2 k j)) (fun j n => x3 (ix2 j n))
          (fun k => x4 (ix2 0 k)) (fun k => x5 (ix2 0 k)) n := by
  unfold body1
  pointwise [k1_pay1, k1_pay28, k1_pay2]
  simp only [modAt_apply, allBlks_apply, k1_pay3_row]
  rfl

/-- The residual rows and the mixer's two halves times the two halves of the output projection. -/
abbrev halves (x1 x2 : FVec Ideal S512x512 .bf16) (x4 x5 : FVec Ideal S512x1024 .bf16) (r : Fin 512) (n : Fin 1024) : EReal :=
  rowDot (fun k : Fin 512 => x1 (ix2 r k)) (fun k => x4 (ix2 k n)) + rowDot (fun k : Fin 512 => x2 (ix2 r k)) fun k => x5 (ix2 k n)

theorem k3_pay3_apply (x0 : FVec Ideal S512x1024 .f32) (x1 x2 : FVec Ideal S512x512 .bf16) (x3 : FVec Ideal S9x1x1x1024 .f32)
    (x4 x5 : FVec Ideal S512x1024 .bf16) (r : Fin 512) (n : Fin 1024) :
    k3_pay3 (F := Ideal) x1 x4 x2 x5 x0 (modAt x3 5) (ix2 r n)
      = dev (fun n => cAlpha * row x0 r n + mrow x3 5 n * halves x1 x2 x4 x5 r n) n := by
  pointwise [k3_pay3]
  simp only [modAt_apply]
  rfl

/-- The rows after the mixer. -/
theorem mixed_apply (x0 : FVec Ideal S512x1024 .f32) (x1 x2 : FVec Ideal S512x512 .bf16) (x3 : FVec Ideal S9x1x1x1024 .f32)
    (x4 x5 : FVec Ideal S512x1024 .bf16) (x8 x9 : FVec Ideal S2x1024 .f32) (r : Fin 512) (n : Fin 1024) :
    mixed (F := Ideal) x0 x1 x2 x3 x4 x5 x8 x9 (ix2 r n)
      = postMix (row x0 r) (halves x1 x2 x4 x5 r) (mrow x3 5) (row x8 0) (row x9 0) n := by
  unfold mixed
  pointwise [k3_pay6, k3_pay1, k3_pay2, k3_pay4, k3_pay5]
  simp only [normAt_apply, k3_pay3_apply]
  rfl

/-- The second layer's modulated rows. -/
theorem mixedU_apply (x0 : FVec Ideal S512x1024 .f32) (x1 x2 : FVec Ideal S512x512 .bf16) (x3 : FVec Ideal S9x1x1x1024 .f32)
    (x4 x5 : FVec Ideal S512x1024 .bf16) (x8 x9 : FVec Ideal S2x1024 .f32) (r : Fin 512) (n : Fin 1024) :
    mixedU (F := Ideal) x0 x1 x2 x3 x4 x5 x8 x9 (ix2 r n)
      = modul (postMix (row x0 r) (halves x1 x2 x4 x5 r) (mrow x3 5) (row x8 0) (row x9 0)) (mrow x3 7) (mrow x3 6) n := by
  have h := mixed_apply x0 x1 x2 x3 x4 x5 x8 x9 r n
  unfold mixed at h
  unfold mixedU modul
  rw [← h]
  pointwise [k3_pay7]
  simp only [modAt_apply]

/-- The output projection and the second feed-forward layer, a row at a time. -/
theorem body3_apply (x0 : FVec Ideal S512x1024 .f32) (x1 x2 : FVec Ideal S512x512 .bf16) (x3 : FVec Ideal S9x1x1x1024 .f32)
    (x4 x5 : FVec Ideal S512x1024 .bf16) (x6 : FVec Ideal S1024x5632 .bf16) (x7 : FVec Ideal S2816x1024 .bf16)
    (x8 x9 : FVec Ideal S2x1024 .f32) (r : Fin 512) (n : Fin 1024) :
    body3 (F := Ideal) x0 x1 x2 x3 x4 x5 x6 x7 x8 x9 (ix2 r n)
      = ffLayer (postMix (row x0 r) (halves x1 x2 x4 x5 r) (mrow x3 5) (row x8 0) (row x9 0)) (mrow x3 7) (mrow x3 6)
          (mrow x3 8) (fun k j => x6 (ix2 k j)) (fun j n => x7 (ix2 j n)) (row x8 1) (row x9 1) n := by
  unfold body3
  pointwise [k3_pay30, k3_pay29]
  simp only [modAt_apply, normAt_apply, allBlks_apply, mixed_apply, mixedU_apply]
  rfl

theorem colsAt_apply (x : FVec Ideal S1024x3968 .bf16) (o n : ℕ) (h : o + n ≤ 3968) (k : Fin 1024) (f : Fin n) :
    colsAt (F := Ideal) x o n h (ix2 k f) = x (ix2 k ⟨o + f.val, by omega⟩) := by
  refine congrArg x (funext fun a => Fin.ext ?_)
  rw [Rect.idx_unit_val]
  match a with
  | 0 => exact Nat.zero_add _
  | 1 => rfl

/-! The projection's row-major blocks: the queries and the gate. -/

theorem k2_pay6_apply (x : FVec Ideal S512x1024 .f32) (m : FVec Ideal S9x1x1x1024 .f32) (w : FVec Ideal S1024x3968 .bf16)
    (r : Fin 512) (f : Fin 1024) :
    k2_pay6 (F := Ideal) x (modAt m 4) (modAt m 3) (colsAt w 0 1024 (by omega)) (ix2 r f)
      = rowDot (modul (row x r) (mrow m 4) (mrow m 3)) fun k => w (ix2 k ⟨0 + f.val, by omega⟩) := by
  pointwise [k2_pay6, k2_pay5]
  simp only [modAt_apply, colsAt_apply]
  show rowDot (modul (row x r) (mrow m 4) (mrow m 3)) (fun k => w (ix2 k ⟨0 + f.val, by omega⟩)) = _
  exact rowDot_congr rfl (funext fun k => congrArg (fun z => w (ix2 k z)) (Fin.ext (Nat.zero_add _)))

theorem k2_pay7_apply (x : FVec Ideal S512x1024 .f32) (m : FVec Ideal S9x1x1x1024 .f32) (w : FVec Ideal S1024x3968 .bf16)
    (r : Fin 512) (f : Fin 1024) :
    k2_pay7 (F := Ideal) x (modAt m 4) (modAt m 3) (colsAt w 1024 1024 (by omega)) (ix2 r f)
      = rowDot (modul (row x r) (mrow m 4) (mrow m 3)) fun k => w (ix2 k ⟨1024 + f.val, by omega⟩) := by
  pointwise [k2_pay7, k2_pay5]
  simp only [modAt_apply, colsAt_apply]
  rfl

theorem k2_pay9_apply (x : FVec Ideal S512x1024 .f32) (m : FVec Ideal S9x1x1x1024 .f32) (w : FVec Ideal S1024x3968 .bf16)
    (r : Fin 512) (f : Fin 128) :
    k2_pay9 (F := Ideal) (k2_pay8 x (modAt m 4) (modAt m 3) (colsAt w 2048 128 (by omega))) (ix2 r f)
      = sg (rowDot (modul (row x r) (mrow m 4) (mrow m 3)) fun k => w (ix2 k ⟨2048 + f.val, by omega⟩)) := by
  pointwise [k2_pay9, k2_pay8, k2_pay5]
  simp only [modAt_apply, colsAt_apply, sg_sub]
  rfl

/-- The projection's transposed blocks. -/
theorem k2_pay12_apply (x : FVec Ideal S512x1024 .f32) (m : FVec Ideal S9x1x1x1024 .f32) (w : FVec Ideal S1792x1024 .bf16)
    (f : Fin 1024) (r : Fin 512) :
    k2_pay12 (F := Ideal) (k2_pay5 x (modAt m 4) (modAt m 3)) w (ix3 0 f r)
      = rowDot (modul (row x r) (mrow m 4) (mrow m 3)) fun k => w (ix2 ⟨f.val, by omega⟩ k) := by
  pointwise [k2_pay12, k2_pay11, k2_pay5]
  simp only [modAt_apply]
  exact Finset.sum_congr rfl fun k _ => mul_comm _ _

theorem k2_pay13_apply (x : FVec Ideal S512x1024 .f32) (m : FVec Ideal S9x1x1x1024 .f32) (w : FVec Ideal S1792x1024 .bf16)
    (f : Fin 512) (r : Fin 512) :
    k2_pay13 (F := Ideal) (k2_pay5 x (modAt m 4) (modAt m 3)) w (ix3 0 f r)
      = rowDot (modul (row x r) (mrow m 4) (mrow m 3)) fun k => w (ix2 ⟨1024 + f.val, by omega⟩ k) := by
  pointwise [k2_pay13, k2_pay11, k2_pay5]
  simp only [modAt_apply]
  exact Finset.sum_congr rfl fun k _ => mul_comm _ _

theorem k2_pay14_apply (x : FVec Ideal S512x1024 .f32) (m : FVec Ideal S9x1x1x1024 .f32) (w : FVec Ideal S1792x1024 .bf16)
    (f : Fin 256) (r : Fin 512) :
    k2_pay14 (F := Ideal) (k2_pay5 x (modAt m 4) (modAt m 3)) w (ix3 0 f r)
      = rowDot (modul (row x r) (mrow m 4) (mrow m 3)) fun k => w (ix2 ⟨1536 + f.val, by omega⟩ k) := by
  pointwise [k2_pay14, k2_pay11, k2_pay5]
  simp only [modAt_apply]
  exact Finset.sum_congr rfl fun k _ => mul_comm _ _

end Cert.Proof.FF
-- ==== Proof.FF.Blocks.lean ====
/-
  The blocks the prompt's four calls find at each grid point, read from the arrays.
-/
module

public import proofs.«01_k».proof.Proof.FF.Read
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable (V : (c : Dev nD) → (b : Ref sig .tc) → Buf (Elt Ideal) ((c : Thread nD τ).loc b)) (c : Dev nD)

theorem lt0 (t : Fin grid0.N) : t.val < 9 := t.isLt
theorem lt1 (t : Fin grid1.N) : t.val < 64 := t.isLt
theorem lt2 (t : Fin grid2.N) : t.val < 64 := t.isLt
theorem lt3 (t : Fin grid3.N) : t.val < 64 := t.isLt

/-! ## The blocks the calls find -/

theorem blk0_0 (t : Fin grid0.N) (a : Fin 136) (e : Fin 1024) :
    iblk0 (F := Ideal) V c 0 t (ix2 a e) = V c main_v1 (ix2 a e) := by
  have hi : ∀ t : Fin grid0.N, win0_0.index t = ![0, 0] := by decide +kernel
  blk_ext [iblk0, hi t]

theorem blk0_1 (t : Fin grid0.N) (a : Fin 1024) (e : Fin 1024) :
    iblk0 (F := Ideal) V c 1 t (ix2 a e) = V c main_v2 (ix2 a ⟨t.val * 1024 + e.val, by have := lt0 t; omega⟩) := by
  have hi : ∀ t : Fin grid0.N, win0_1.index t = ![0, t.val] := by decide +kernel
  blk_ext [iblk0, hi t]

theorem blk0_2 (t : Fin grid0.N) (a : Fin 1) (e : Fin 1024) :
    iblk0 (F := Ideal) V c 2 t (ix2 a e) = V c main_v4 (ix2 a ⟨t.val * 1024 + e.val, by have := lt0 t; omega⟩) := by
  have hi : ∀ t : Fin grid0.N, win0_2.index t = ![0, t.val] := by decide +kernel
  blk_ext [iblk0, hi t]

theorem blk1_0 (t : Fin grid1.N) (a : Fin 512) (e : Fin 1024) :
    iblk1 (F := Ideal) V c 0 t (ix2 a e) = V c main_v0 (ix2 ⟨t.val * 512 + a.val, by have := lt1 t; omega⟩ e) := by
  have hi : ∀ t : Fin grid1.N, win1_0.index t = ![t.val, 0] := by decide +kernel
  blk_ext [iblk1, hi t]

theorem blk1_1 (t : Fin grid1.N) (i : Fin 9) (e : Fin 1024) :
    iblk1 (F := Ideal) V c 1 t (ix4 i 0 0 e) = V c main_v9 (ix4 i ⟨t.val / 8, by have := lt1 t; omega⟩ 0 e) := by
  have hi : ∀ t : Fin grid1.N, win1_1.index t = ![0, t.val / 8, 0, 0] := by decide +kernel
  blk_ext [iblk1, hi t]

theorem blk1_2 (t : Fin grid1.N) (a : Fin 1024) (e : Fin 5632) :
    iblk1 (F := Ideal) V c 2 t (ix2 a e) = V c main_v11 (ix2 a e) := by
  have hi : ∀ t : Fin grid1.N, win1_2.index t = ![0, 0] := by decide +kernel
  blk_ext [iblk1, hi t]

theorem blk1_3 (t : Fin grid1.N) (a : Fin 2816) (e : Fin 1024) :
    iblk1 (F := Ideal) V c 3 t (ix2 a e) = V c main_v13 (ix2 a e) := by
  have hi : ∀ t : Fin grid1.N, win1_3.index t = ![0, 0] := by decide +kernel
  blk_ext [iblk1, hi t]

theorem blk1_4 (t : Fin grid1.N) (a : Fin 1) (e : Fin 1024) :
    iblk1 (F := Ideal) V c 4 t (ix2 a e) = V c main_v100 (ix2 a e) := by
  have hi : ∀ t : Fin grid1.N, win1_4.index t = ![0, 0] := by decide +kernel
  blk_ext [iblk1, hi t]

theorem blk1_5 (t : Fin grid1.N) (a : Fin 1) (e : Fin 1024) :
    iblk1 (F := Ideal) V c 5 t (ix2 a e) = V c main_v101 (ix2 a e) := by
  have hi : ∀ t : Fin grid1.N, win1_5.index t = ![0, 0] := by decide +kernel
  blk_ext [iblk1, hi t]

theorem blk2_0 (t : Fin grid2.N) (a : Fin 512) (e : Fin 1024) :
    iblk2 (F := Ideal) V c 0 t (ix2 a e) = V c main_v102 (ix2 ⟨t.val * 512 + a.val, by have := lt2 t; omega⟩ e) := by
  have hi : ∀ t : Fin grid2.N, win2_0.index t = ![t.val, 0] := by decide +kernel
  blk_ext [iblk2, hi t]

theorem blk2_1 (t : Fin grid2.N) (i : Fin 9) (e : Fin 1024) :
    iblk2 (F := Ideal) V c 1 t (ix4 i 0 0 e) = V c main_v9 (ix4 i ⟨t.val / 8, by have := lt2 t; omega⟩ 0 e) := by
  have hi : ∀ t : Fin grid2.N, win2_1.index t = ![0, t.val / 8, 0, 0] := by decide +kernel
  blk_ext [iblk2, hi t]

theorem blk2_2 (t : Fin grid2.N) (a : Fin 1024) (e : Fin 3968) :
    iblk2 (F := Ideal) V c 2 t (ix2 a e) = V c main_v87 (ix2 a e) := by
  have hi : ∀ t : Fin grid2.N, win2_2.index t = ![0, 0] := by decide +kernel
  blk_ext [iblk2, hi t]

theorem blk2_3 (t : Fin grid2.N) (a : Fin 1792) (e : Fin 1024) :
    iblk2 (F := Ideal) V c 3 t (ix2 a e) = V c main_v89 (ix2 a e) := by
  have hi : ∀ t : Fin grid2.N, win2_3.index t = ![0, 0] := by decide +kernel
  blk_ext [iblk2, hi t]

theorem blk3_0 (t : Fin grid3.N) (a : Fin 512) (e : Fin 1024) :
    iblk3 (F := Ideal) V c 0 t (ix2 a e) = V c main_v102 (ix2 ⟨t.val * 512 + a.val, by have := lt3 t; omega⟩ e) := by
  have hi : ∀ t : Fin grid3.N, win3_0.index t = ![t.val, 0] := by decide +kernel
  blk_ext [iblk3, hi t]

theorem blk3_1 (t : Fin grid3.N) (a : Fin 512) (e : Fin 512) :
    iblk3 (F := Ideal) V c 1 t (ix2 a e) = V c main_v110 (ix2 ⟨t.val * 512 + a.val, by have := lt3 t; omega⟩ e) := by
  have hi : ∀ t : Fin grid3.N, win3_1.index t = ![t.val, 0] := by decide +kernel
  blk_ext [iblk3, hi t]

theorem blk3_2 (t : Fin grid3.N) (a : Fin 512) (e : Fin 512) :
    iblk3 (F := Ideal) V c 2 t (ix2 a e) = V c main_v111 (ix2 ⟨t.val * 512 + a.val, by have := lt3 t; omega⟩ e) := by
  have hi : ∀ t : Fin grid3.N, win3_2.index t = ![t.val, 0] := by decide +kernel
  blk_ext [iblk3, hi t]

theorem blk3_3 (t : Fin grid3.N) (i : Fin 9) (e : Fin 1024) :
    iblk3 (F := Ideal) V c 3 t (ix4 i 0 0 e) = V c main_v9 (ix4 i ⟨t.val / 8, by have := lt3 t; omega⟩ 0 e) := by
  have hi : ∀ t : Fin grid3.N, win3_3.index t = ![0, t.val / 8, 0, 0] := by decide +kernel
  blk_ext [iblk3, hi t]

theorem blk3_4 (t : Fin grid3.N) (a : Fin 512) (e : Fin 1024) :
    iblk3 (F := Ideal) V c 4 t (ix2 a e) = V c main_v92 (ix2 a e) := by
  have hi : ∀ t : Fin grid3.N, win3_4.index t = ![0, 0] := by decide +kernel
  blk_ext [iblk3, hi t]

theorem blk3_5 (t : Fin grid3.N) (a : Fin 512) (e : Fin 1024) :
    iblk3 (F := Ideal) V c 5 t (ix2 a e) = V c main_v97 (ix2 a e) := by
  have hi : ∀ t : Fin grid3.N, win3_5.index t = ![0, 0] := by decide +kernel
  blk_ext [iblk3, hi t]

theorem blk3_6 (t : Fin grid3.N) (a : Fin 1024) (e : Fin 5632) :
    iblk3 (F := Ideal) V c 6 t (ix2 a e) = V c main_v15 (ix2 a e) := by
  have hi : ∀ t : Fin grid3.N, win3_6.index t = ![0, 0] := by decide +kernel
  blk_ext [iblk3, hi t]

theorem blk3_7 (t : Fin grid3.N) (a : Fin 2816) (e : Fin 1024) :
    iblk3 (F := Ideal) V c 7 t (ix2 a e) = V c main_v17 (ix2 a e) := by
  have hi : ∀ t : Fin grid3.N, win3_7.index t = ![0, 0] := by decide +kernel
  blk_ext [iblk3, hi t]

theorem blk3_8 (t : Fin grid3.N) (a : Fin 2) (e : Fin 1024) :
    iblk3 (F := Ideal) V c 8 t (ix2 a e) = V c main_v112 (ix2 a e) := by
  have hi : ∀ t : Fin grid3.N, win3_8.index t = ![0, 0] := by decide +kernel
  blk_ext [iblk3, hi t]

theorem blk3_9 (t : Fin grid3.N) (a : Fin 2) (e : Fin 1024) :
    iblk3 (F := Ideal) V c 9 t (ix2 a e) = V c main_v113 (ix2 a e) := by
  have hi : ∀ t : Fin grid3.N, win3_9.index t = ![0, 0] := by decide +kernel
  blk_ext [iblk3, hi t]

end Cert.Proof.FF
-- ==== Proof.FF.Arrays.lean ====
/-
  The arrays the prompt's four calls leave, each as a function of the arrays the call finds.
-/
module

public import proofs.«01_k».proof.Proof.FF.Blocks
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable (V : (c : Dev nD) → (b : Ref sig .tc) → Buf (Elt Ideal) ((c : Thread nD τ).loc b)) (c : Dev nD)

/-! ## The arrays -/

/-- Modulation vector `i` of row `r`'s prompt. -/
abbrev pmod (md : FVec Ideal S9x8x1x1024 .f32) (i : Fin 9) (r : Fin 32768) : Fin 1024 → EReal :=
  fun k => md (ix4 i ⟨r.val / 4096, by omega⟩ 0 k)

/-- The modulation vectors' array. -/
def adaArr (cs : FVec Ideal S136x1024 .f32) (w : FVec Ideal S1024x9216 .f32) (b : FVec Ideal S1x9216 .f32) :
    FVec Ideal S136x9216 .f32 :=
  fun i => adaRaw (fun k => cs (ix2 (i 0) k)) (fun k => w (ix2 k (i 1))) (b (ix2 0 (i 1)))

/-- The rows after the first feed-forward layer. -/
def ffArr (x : FVec Ideal S32768x1024 .f32) (md : FVec Ideal S9x8x1x1024 .f32) (up : FVec Ideal S1024x5632 .bf16)
    (dn : FVec Ideal S2816x1024 .bf16) (g b : FVec Ideal S1x1024 .f32) : FVec Ideal S32768x1024 .f32 :=
  fun i => ffLayer (row x (i 0)) (pmod md 1 (i 0)) (pmod md 0 (i 0)) (pmod md 2 (i 0)) (fun k j => up (ix2 k j))
    (fun j n => dn (ix2 j n)) (row g 0) (row b 0) (i 1)

/-- The projection's columns from `o` on, transposed. -/
def projArr (F' o : ℕ) (h : o + F' ≤ 1792) (x : FVec Ideal S32768x1024 .f32) (md : FVec Ideal S9x8x1x1024 .f32)
    (wt : FVec Ideal S1792x1024 .bf16) : (⟨3, ![8, F', 4096]⟩ : Shape).Idx → EReal :=
  fun i =>
    have h0 : (i 0).val < 8 := (i 0).isLt
    have h1 : (i 1).val < F' := (i 1).isLt
    have h2 : (i 2).val < 4096 := (i 2).isLt
    rowDot (modul (row x ⟨(i 0).val * 4096 + (i 2).val, by omega⟩) (fun k => md (ix4 4 (i 0) 0 k)) (fun k => md (ix4 3 (i 0) 0 k)))
      fun k => wt (ix2 ⟨o + (i 1).val, by omega⟩ k)

/-- The projection's columns from `o` on, row-major. -/
def colArr (n o : ℕ) (h : o + n ≤ 3968) (x : FVec Ideal S32768x1024 .f32) (md : FVec Ideal S9x8x1x1024 .f32)
    (w : FVec Ideal S1024x3968 .bf16) : (⟨2, ![32768, n]⟩ : Shape).Idx → EReal :=
  fun i =>
    have h1 : (i 1).val < n := (i 1).isLt
    rowDot (modul (row x (i 0)) (pmod md 4 (i 0)) (pmod md 3 (i 0))) fun k => w (ix2 k ⟨o + (i 1).val, by omega⟩)

/-- The gate's columns. -/
def gateArr (x : FVec Ideal S32768x1024 .f32) (md : FVec Ideal S9x8x1x1024 .f32) (w : FVec Ideal S1024x3968 .bf16) :
    FVec Ideal S32768x128 .f32 :=
  fun i => sg (colArr 128 2048 (by omega) x md w i)

/-- The mixer's two halves times the output projection's, for a row. -/
abbrev halvesArr (x1 x2 : FVec Ideal S32768x512 .bf16) (x4 x5 : FVec Ideal S512x1024 .bf16) (r : Fin 32768) (n : Fin 1024) : EReal :=
  rowDot (fun k : Fin 512 => x1 (ix2 r k)) (fun k => x4 (ix2 k n)) + rowDot (fun k : Fin 512 => x2 (ix2 r k)) fun k => x5 (ix2 k n)

/-- The rows after the output projection and the second feed-forward layer. -/
def outArr (x : FVec Ideal S32768x1024 .f32) (o1 o2 : FVec Ideal S32768x512 .bf16) (md : FVec Ideal S9x8x1x1024 .f32)
    (w1 w2 : FVec Ideal S512x1024 .bf16) (up : FVec Ideal S1024x5632 .bf16) (dn : FVec Ideal S2816x1024 .bf16)
    (g b : FVec Ideal S2x1024 .f32) : FVec Ideal S32768x1024 .f32 :=
  fun i => ffLayer (postMix (row x (i 0)) (halvesArr o1 o2 w1 w2 (i 0)) (pmod md 5 (i 0)) (row g 0) (row b 0)) (pmod md 7 (i 0))
    (pmod md 6 (i 0)) (pmod md 8 (i 0)) (fun k j => up (ix2 k j)) (fun j n => dn (ix2 j n)) (row g 1) (row b 1) (i 1)

theorem arr0 :
    (dat0 (F := Ideal) V c).arrAt 3 cfg0.N = adaArr (V c main_v1) (V c main_v2) (V c main_v4) := by
  have hi : ∀ t : Fin grid0.N, win0_3.index t = ![0, t.val] := by decide +kernel
  refine (dat0 V c).arrAt_eq_of_covers 3 _ (by decide +kernel) fun t hf y => ?_
  blk_simp
  rw [after0_3, out0_eq]
  have h1 : (y 1).val < 1024 := (y 1).isLt
  have hy : (y : S136x1024.Idx) = ix2 (y 0) (y 1) := eq_ix2 y
  refine (congrArg (k0_pay1 (F := Ideal) (iblk0 V c 0 t) (iblk0 V c 1 t) (iblk0 V c 2 t)) hy).trans ((k0_apply _ _ _
    (y 0) (y 1)).trans (Eq.trans ?_ (congrArg (adaArr (V c main_v1) (V c main_v2) (V c main_v4))
      (show ix2 (y 0) ⟨t.val * 1024 + (y 1).val, by have := lt0 t; omega⟩ = _ from funext fun a => Fin.ext ?_))))
  · exact ada_congr (funext fun k => blk0_0 V c t (y 0) k) (funext fun k => blk0_1 V c t k (y 1)) (blk0_2 V c t 0 (y 1))
  · match a with
    | 0 => exact ((win0_3.rect_emb_val t y 0).trans ((congrArg (· * 136 + (y 0).val) (congrFun (hi t) 0)).trans
        (show 0 * 136 + (y 0).val = (y 0).val by omega))).symm
    | 1 => exact ((win0_3.rect_emb_val t y 1).trans (congrArg (· * 1024 + (y 1).val) (congrFun (hi t) 1))).symm

theorem arr1 : (dat1 (F := Ideal) V c).arrAt 6 cfg1.N
    = ffArr (V c main_v0) (V c main_v9) (V c main_v11) (V c main_v13) (V c main_v100) (V c main_v101) := by
  have hi : ∀ t : Fin grid1.N, win1_6.index t = ![t.val, 0] := by decide +kernel
  refine (dat1 V c).arrAt_eq_of_covers 6 _ (by decide +kernel) fun t hf y => ?_
  blk_simp
  rw [after1_6]
  unfold outsAt1
  rw [out1_eq]
  have hy : (y : S512x1024.Idx) = ix2 (y 0) (y 1) := eq_ix2 y
  have h0 : (y 0).val < 512 := (y 0).isLt
  refine (congrArg (body1 (F := Ideal) (iblk1 V c 0 t) (iblk1 V c 1 t) (iblk1 V c 2 t) (iblk1 V c 3 t) (iblk1 V c 4 t)
    (iblk1 V c 5 t)) hy).trans ((body1_apply _ _ _ _ _ _ (y 0) (y 1)).trans (Eq.trans ?_ (congrArg (ffArr (V c main_v0)
      (V c main_v9) (V c main_v11) (V c main_v13) (V c main_v100) (V c main_v101))
      (show ix2 ⟨t.val * 512 + (y 0).val, by have := lt1 t; omega⟩ (y 1) = _ from funext fun a => Fin.ext ?_))))
  · have e : (t.val * 512 + (y 0).val) / 4096 = t.val / 8 := by omega
    have hm : ∀ i : Fin 9, mrow (iblk1 V c 1 t) i = pmod (V c main_v9) i ⟨t.val * 512 + (y 0).val, by have := lt1 t; omega⟩ :=
      fun i => funext fun k => (blk1_1 V c t i k).trans (congrArg (fun z => V c main_v9 (ix4 i z 0 k)) (Fin.ext e.symm))
    exact ffLayer_congr (funext fun k => blk1_0 V c t (y 0) k) (hm 1) (hm 0) (hm 2)
      (funext fun k => funext fun j => blk1_2 V c t k j) (funext fun j => funext fun n => blk1_3 V c t j n)
      (funext fun k => blk1_4 V c t 0 k) (funext fun k => blk1_5 V c t 0 k) (y 1)
  · match a with
    | 0 => exact ((win1_6.rect_emb_val t y 0).trans (congrArg (· * 512 + (y 0).val) (congrFun (hi t) 0))).symm
    | 1 => exact ((win1_6.rect_emb_val t y 1).trans ((congrArg (· * 1024 + (y 1).val) (congrFun (hi t) 1)).trans
        (show 0 * 1024 + (y 1).val = (y 1).val by omega))).symm

theorem arr3 : (dat3 (F := Ideal) V c).arrAt 10 cfg3.N
    = outArr (V c main_v102) (V c main_v110) (V c main_v111) (V c main_v9) (V c main_v92) (V c main_v97) (V c main_v15)
        (V c main_v17) (V c main_v112) (V c main_v113) := by
  have hi : ∀ t : Fin grid3.N, win3_10.index t = ![t.val, 0] := by decide +kernel
  refine (dat3 V c).arrAt_eq_of_covers 10 _ (by decide +kernel) fun t hf y => ?_
  blk_simp
  rw [after3_10]
  unfold outsAt3
  rw [out3_eq]
  have hy : (y : S512x1024.Idx) = ix2 (y 0) (y 1) := eq_ix2 y
  have h0 : (y 0).val < 512 := (y 0).isLt
  refine (congrArg (body3 (F := Ideal) (iblk3 V c 0 t) (iblk3 V c 1 t) (iblk3 V c 2 t) (iblk3 V c 3 t) (iblk3 V c 4 t)
    (iblk3 V c 5 t) (iblk3 V c 6 t) (iblk3 V c 7 t) (iblk3 V c 8 t) (iblk3 V c 9 t)) hy).trans
    ((body3_apply _ _ _ _ _ _ _ _ _ _ (y 0) (y 1)).trans (Eq.trans ?_ (congrArg (outArr (V c main_v102) (V c main_v110)
      (V c main_v111) (V c main_v9) (V c main_v92) (V c main_v97) (V c main_v15) (V c main_v17) (V c main_v112) (V c main_v113))
      (show ix2 ⟨t.val * 512 + (y 0).val, by have := lt3 t; omega⟩ (y 1) = _ from funext fun a => Fin.ext ?_))))
  · have e : (t.val * 512 + (y 0).val) / 4096 = t.val / 8 := by omega
    have hm : ∀ i : Fin 9, mrow (iblk3 V c 3 t) i = pmod (V c main_v9) i ⟨t.val * 512 + (y 0).val, by have := lt3 t; omega⟩ :=
      fun i => funext fun k => (blk3_3 V c t i k).trans (congrArg (fun z => V c main_v9 (ix4 i z 0 k)) (Fin.ext e.symm))
    exact ffLayer_congr (postMix_congr (funext fun k => blk3_0 V c t (y 0) k)
      (funext fun n => congrArg₂ (· + ·)
        (rowDot_congr (funext fun k => blk3_1 V c t (y 0) k) (funext fun k => blk3_4 V c t k n))
        (rowDot_congr (funext fun k => blk3_2 V c t (y 0) k) (funext fun k => blk3_5 V c t k n)))
      (hm 5) (funext fun k => blk3_8 V c t 0 k) (funext fun k => blk3_9 V c t 0 k)) (hm 7) (hm 6) (hm 8)
      (funext fun k => funext fun j => blk3_6 V c t k j) (funext fun j => funext fun n => blk3_7 V c t j n)
      (funext fun k => blk3_8 V c t 1 k) (funext fun k => blk3_9 V c t 1 k) (y 1)
  · match a with
    | 0 => exact ((win3_10.rect_emb_val t y 0).trans (congrArg (· * 512 + (y 0).val) (congrFun (hi t) 0))).symm
    | 1 => exact ((win3_10.rect_emb_val t y 1).trans ((congrArg (· * 1024 + (y 1).val) (congrFun (hi t) 1)).trans
        (show 0 * 1024 + (y 1).val = (y 1).val by omega))).symm

theorem arr2_4 : (dat2 (F := Ideal) V c).arrAt 4 cfg2.N
    = colArr 1024 0 (by omega) (V c main_v102) (V c main_v9) (V c main_v87) := by
  have hi : ∀ t : Fin grid2.N, win2_4.index t = ![t.val, 0] := by decide +kernel
  refine (dat2 V c).arrAt_eq_of_covers 4 _ (by decide +kernel) fun t hf y => ?_
  blk_simp
  rw [after2_4, out2_4_eq]
  have hy : (y : S512x1024.Idx) = ix2 (y 0) (y 1) := eq_ix2 y
  have h0 : (y 0).val < 512 := (y 0).isLt
  have h1 : (y 1).val < 1024 := (y 1).isLt
  refine (congrArg (k2_pay6 (F := Ideal) (iblk2 V c 0 t) (modAt (iblk2 V c 1 t) 4) (modAt (iblk2 V c 1 t) 3)
    (colsAt (iblk2 V c 2 t) 0 1024 (by omega))) hy).trans ((k2_pay6_apply _ _ _ (y 0) (y 1)).trans (Eq.trans ?_ (congrArg (colArr 1024 0 (by omega)
      (V c main_v102) (V c main_v9) (V c main_v87))
      (show ix2 ⟨t.val * 512 + (y 0).val, by have := lt2 t; omega⟩ (y 1) = _ from funext fun a => Fin.ext ?_))))
  · have e : (t.val * 512 + (y 0).val) / 4096 = t.val / 8 := by omega
    have hm : ∀ i : Fin 9, mrow (iblk2 V c 1 t) i = pmod (V c main_v9) i ⟨t.val * 512 + (y 0).val, by have := lt2 t; omega⟩ :=
      fun i => funext fun k => (blk2_1 V c t i k).trans (congrArg (fun z => V c main_v9 (ix4 i z 0 k)) (Fin.ext e.symm))
    exact (rowDot_congr (funext fun k => congr_modul (funext fun k => blk2_0 V c t (y 0) k) (hm 4) (hm 3) k)
      (funext fun k => blk2_2 V c t k _))
  · match a with
    | 0 => exact ((win2_4.rect_emb_val t y 0).trans (congrArg (· * 512 + (y 0).val) (congrFun (hi t) 0))).symm
    | 1 => exact ((win2_4.rect_emb_val t y 1).trans ((congrArg (· * 1024 + (y 1).val) (congrFun (hi t) 1)).trans
        (show 0 * 1024 + (y 1).val = (y 1).val by omega))).symm

theorem arr2_5 : (dat2 (F := Ideal) V c).arrAt 5 cfg2.N
    = colArr 1024 1024 (by omega) (V c main_v102) (V c main_v9) (V c main_v87) := by
  have hi : ∀ t : Fin grid2.N, win2_5.index t = ![t.val, 0] := by decide +kernel
  refine (dat2 V c).arrAt_eq_of_covers 5 _ (by decide +kernel) fun t hf y => ?_
  blk_simp
  rw [after2_5, out2_5_eq]
  have hy : (y : S512x1024.Idx) = ix2 (y 0) (y 1) := eq_ix2 y
  have h0 : (y 0).val < 512 := (y 0).isLt
  have h1 : (y 1).val < 1024 := (y 1).isLt
  refine (congrArg (k2_pay7 (F := Ideal) (iblk2 V c 0 t) (modAt (iblk2 V c 1 t) 4) (modAt (iblk2 V c 1 t) 3)
    (colsAt (iblk2 V c 2 t) 1024 1024 (by omega))) hy).trans ((k2_pay7_apply _ _ _ (y 0) (y 1)).trans (Eq.trans ?_ (congrArg (colArr 1024 1024 (by omega)
      (V c main_v102) (V c main_v9) (V c main_v87))
      (show ix2 ⟨t.val * 512 + (y 0).val, by have := lt2 t; omega⟩ (y 1) = _ from funext fun a => Fin.ext ?_))))
  · have e : (t.val * 512 + (y 0).val) / 4096 = t.val / 8 := by omega
    have hm : ∀ i : Fin 9, mrow (iblk2 V c 1 t) i = pmod (V c main_v9) i ⟨t.val * 512 + (y 0).val, by have := lt2 t; omega⟩ :=
      fun i => funext fun k => (blk2_1 V c t i k).trans (congrArg (fun z => V c main_v9 (ix4 i z 0 k)) (Fin.ext e.symm))
    exact (rowDot_congr (funext fun k => congr_modul (funext fun k => blk2_0 V c t (y 0) k) (hm 4) (hm 3) k)
      (funext fun k => blk2_2 V c t k _))
  · match a with
    | 0 => exact ((win2_5.rect_emb_val t y 0).trans (congrArg (· * 512 + (y 0).val) (congrFun (hi t) 0))).symm
    | 1 => exact ((win2_5.rect_emb_val t y 1).trans ((congrArg (· * 1024 + (y 1).val) (congrFun (hi t) 1)).trans
        (show 0 * 1024 + (y 1).val = (y 1).val by omega))).symm

theorem arr2_6 : (dat2 (F := Ideal) V c).arrAt 6 cfg2.N
    = gateArr (V c main_v102) (V c main_v9) (V c main_v87) := by
  have hi : ∀ t : Fin grid2.N, win2_6.index t = ![t.val, 0] := by decide +kernel
  refine (dat2 V c).arrAt_eq_of_covers 6 _ (by decide +kernel) fun t hf y => ?_
  blk_simp
  rw [after2_6, out2_6_eq]
  have hy : (y : S512x128.Idx) = ix2 (y 0) (y 1) := eq_ix2 y
  have h0 : (y 0).val < 512 := (y 0).isLt
  have h1 : (y 1).val < 128 := (y 1).isLt
  refine (congrArg (k2_pay9 (F := Ideal) (k2_pay8 (iblk2 V c 0 t) (modAt (iblk2 V c 1 t) 4) (modAt (iblk2 V c 1 t) 3)
    (colsAt (iblk2 V c 2 t) 2048 128 (by omega)))) hy).trans ((k2_pay9_apply _ _ _ (y 0) (y 1)).trans (Eq.trans ?_ (congrArg (gateArr
      (V c main_v102) (V c main_v9) (V c main_v87))
      (show ix2 ⟨t.val * 512 + (y 0).val, by have := lt2 t; omega⟩ (y 1) = _ from funext fun a => Fin.ext ?_))))
  · have e : (t.val * 512 + (y 0).val) / 4096 = t.val / 8 := by omega
    have hm : ∀ i : Fin 9, mrow (iblk2 V c 1 t) i = pmod (V c main_v9) i ⟨t.val * 512 + (y 0).val, by have := lt2 t; omega⟩ :=
      fun i => funext fun k => (blk2_1 V c t i k).trans (congrArg (fun z => V c main_v9 (ix4 i z 0 k)) (Fin.ext e.symm))
    exact congrArg sg (rowDot_congr (funext fun k => congr_modul (funext fun k => blk2_0 V c t (y 0) k) (hm 4) (hm 3) k)
      (funext fun k => blk2_2 V c t k _))
  · match a with
    | 0 => exact ((win2_6.rect_emb_val t y 0).trans (congrArg (· * 512 + (y 0).val) (congrFun (hi t) 0))).symm
    | 1 => exact ((win2_6.rect_emb_val t y 1).trans ((congrArg (· * 128 + (y 1).val) (congrFun (hi t) 1)).trans
        (show 0 * 128 + (y 1).val = (y 1).val by omega))).symm

theorem arr2_8 : (dat2 (F := Ideal) V c).arrAt 8 cfg2.N
    = projArr 1024 0 (by omega) (V c main_v102) (V c main_v9) (V c main_v89) := by
  have hi : ∀ t : Fin grid2.N, win2_8.index t = ![t.val / 8, 0, t.val % 8] := by decide +kernel
  refine (dat2 V c).arrAt_eq_of_covers 8 _ (by decide +kernel) fun t hf y => ?_
  blk_simp
  rw [after2_8, out2_8_eq]
  have hz := @Subsingleton.elim (Fin 1) _ (y 0) 0
  have hy : (y : S1x1024x512.Idx) = ix3 (0 : Fin 1) (y 1) (y 2) := (eq_ix3 y).trans (congrArg (fun z : Fin 1 => ix3 z (y 1) (y 2)) hz)
  have h0 : (y 0).val < 1 := (y 0).isLt
  have h2 : (y 2).val < 512 := (y 2).isLt
  refine (congrArg (k2_pay12 (F := Ideal) (k2_pay5 (iblk2 V c 0 t) (modAt (iblk2 V c 1 t) 4) (modAt (iblk2 V c 1 t) 3))
    (iblk2 V c 3 t)) hy).trans ((k2_pay12_apply _ _ _ (y 1) (y 2)).trans (Eq.trans ?_ (congrArg (projArr 1024 0 (by omega)
      (V c main_v102) (V c main_v9) (V c main_v89))
      (show ix3 ⟨t.val / 8, by have := lt2 t; omega⟩ (y 1) ⟨t.val % 8 * 512 + (y 2).val, by omega⟩ = _ from funext fun a => Fin.ext ?_))))
  · have e : t.val * 512 + (y 2).val = t.val / 8 * 4096 + (t.val % 8 * 512 + (y 2).val) := by omega
    have hx : row (iblk2 V c 0 t) (y 2) = row (V c main_v102)
        ⟨t.val / 8 * 4096 + (t.val % 8 * 512 + (y 2).val), by have := lt2 t; omega⟩ :=
      funext fun k => (blk2_0 V c t (y 2) k).trans (congrArg (fun z => V c main_v102 (ix2 z k)) (Fin.ext e))
    have hm : ∀ i : Fin 9, mrow (iblk2 V c 1 t) i = fun k => V c main_v9 (ix4 i ⟨t.val / 8, by have := lt2 t; omega⟩ 0 k) :=
      fun i => funext fun k => blk2_1 V c t i k
    exact rowDot_congr (funext fun k => congr_modul hx (hm 4) (hm 3) k) (funext fun k => (blk2_3 V c t _ k).trans (congrArg (fun z => V c main_v89 (ix2 z k)) (Fin.ext (Nat.zero_add _).symm)))
  · match a with
    | 0 => exact ((win2_8.rect_emb_val t y 0).trans ((congrArg (· * 1 + (y 0).val) (congrFun (hi t) 0)).trans
        (show t.val / 8 * 1 + (y 0).val = t.val / 8 by omega))).symm
    | 1 => exact ((win2_8.rect_emb_val t y 1).trans ((congrArg (· * 1024 + (y 1).val) (congrFun (hi t) 1)).trans
        (show 0 * 1024 + (y 1).val = (y 1).val by omega))).symm
    | 2 => exact ((win2_8.rect_emb_val t y 2).trans (congrArg (· * 512 + (y 2).val) (congrFun (hi t) 2))).symm

theorem arr2_9 : (dat2 (F := Ideal) V c).arrAt 9 cfg2.N
    = projArr 512 1024 (by omega) (V c main_v102) (V c main_v9) (V c main_v89) := by
  have hi : ∀ t : Fin grid2.N, win2_9.index t = ![t.val / 8, 0, t.val % 8] := by decide +kernel
  refine (dat2 V c).arrAt_eq_of_covers 9 _ (by decide +kernel) fun t hf y => ?_
  blk_simp
  rw [after2_9, out2_9_eq]
  have hz := @Subsingleton.elim (Fin 1) _ (y 0) 0
  have hy : (y : S1x512x512.Idx) = ix3 (0 : Fin 1) (y 1) (y 2) := (eq_ix3 y).trans (congrArg (fun z : Fin 1 => ix3 z (y 1) (y 2)) hz)
  have h0 : (y 0).val < 1 := (y 0).isLt
  have h2 : (y 2).val < 512 := (y 2).isLt
  refine (congrArg (k2_pay13 (F := Ideal) (k2_pay5 (iblk2 V c 0 t) (modAt (iblk2 V c 1 t) 4) (modAt (iblk2 V c 1 t) 3))
    (iblk2 V c 3 t)) hy).trans ((k2_pay13_apply _ _ _ (y 1) (y 2)).trans (Eq.trans ?_ (congrArg (projArr 512 1024 (by omega)
      (V c main_v102) (V c main_v9) (V c main_v89))
      (show ix3 ⟨t.val / 8, by have := lt2 t; omega⟩ (y 1) ⟨t.val % 8 * 512 + (y 2).val, by omega⟩ = _ from funext fun a => Fin.ext ?_))))
  · have e : t.val * 512 + (y 2).val = t.val / 8 * 4096 + (t.val % 8 * 512 + (y 2).val) := by omega
    have hx : row (iblk2 V c 0 t) (y 2) = row (V c main_v102)
        ⟨t.val / 8 * 4096 + (t.val % 8 * 512 + (y 2).val), by have := lt2 t; omega⟩ :=
      funext fun k => (blk2_0 V c t (y 2) k).trans (congrArg (fun z => V c main_v102 (ix2 z k)) (Fin.ext e))
    have hm : ∀ i : Fin 9, mrow (iblk2 V c 1 t) i = fun k => V c main_v9 (ix4 i ⟨t.val / 8, by have := lt2 t; omega⟩ 0 k) :=
      fun i => funext fun k => blk2_1 V c t i k
    exact rowDot_congr (funext fun k => congr_modul hx (hm 4) (hm 3) k) (funext fun k => blk2_3 V c t _ k)
  · match a with
    | 0 => exact ((win2_9.rect_emb_val t y 0).trans ((congrArg (· * 1 + (y 0).val) (congrFun (hi t) 0)).trans
        (show t.val / 8 * 1 + (y 0).val = t.val / 8 by omega))).symm
    | 1 => exact ((win2_9.rect_emb_val t y 1).trans ((congrArg (· * 512 + (y 1).val) (congrFun (hi t) 1)).trans
        (show 0 * 512 + (y 1).val = (y 1).val by omega))).symm
    | 2 => exact ((win2_9.rect_emb_val t y 2).trans (congrArg (· * 512 + (y 2).val) (congrFun (hi t) 2))).symm

theorem arr2_10 : (dat2 (F := Ideal) V c).arrAt 10 cfg2.N
    = projArr 256 1536 (by omega) (V c main_v102) (V c main_v9) (V c main_v89) := by
  have hi : ∀ t : Fin grid2.N, win2_10.index t = ![t.val / 8, 0, t.val % 8] := by decide +kernel
  refine (dat2 V c).arrAt_eq_of_covers 10 _ (by decide +kernel) fun t hf y => ?_
  blk_simp
  rw [after2_10, out2_10_eq]
  have hz := @Subsingleton.elim (Fin 1) _ (y 0) 0
  have hy : (y : S1x256x512.Idx) = ix3 (0 : Fin 1) (y 1) (y 2) := (eq_ix3 y).trans (congrArg (fun z : Fin 1 => ix3 z (y 1) (y 2)) hz)
  have h0 : (y 0).val < 1 := (y 0).isLt
  have h2 : (y 2).val < 512 := (y 2).isLt
  refine (congrArg (k2_pay14 (F := Ideal) (k2_pay5 (iblk2 V c 0 t) (modAt (iblk2 V c 1 t) 4) (modAt (iblk2 V c 1 t) 3))
    (iblk2 V c 3 t)) hy).trans ((k2_pay14_apply _ _ _ (y 1) (y 2)).trans (Eq.trans ?_ (congrArg (projArr 256 1536 (by omega)
      (V c main_v102) (V c main_v9) (V c main_v89))
      (show ix3 ⟨t.val / 8, by have := lt2 t; omega⟩ (y 1) ⟨t.val % 8 * 512 + (y 2).val, by omega⟩ = _ from funext fun a => Fin.ext ?_))))
  · have e : t.val * 512 + (y 2).val = t.val / 8 * 4096 + (t.val % 8 * 512 + (y 2).val) := by omega
    have hx : row (iblk2 V c 0 t) (y 2) = row (V c main_v102)
        ⟨t.val / 8 * 4096 + (t.val % 8 * 512 + (y 2).val), by have := lt2 t; omega⟩ :=
      funext fun k => (blk2_0 V c t (y 2) k).trans (congrArg (fun z => V c main_v102 (ix2 z k)) (Fin.ext e))
    have hm : ∀ i : Fin 9, mrow (iblk2 V c 1 t) i = fun k => V c main_v9 (ix4 i ⟨t.val / 8, by have := lt2 t; omega⟩ 0 k) :=
      fun i => funext fun k => blk2_1 V c t i k
    exact rowDot_congr (funext fun k => congr_modul hx (hm 4) (hm 3) k) (funext fun k => blk2_3 V c t _ k)
  · match a with
    | 0 => exact ((win2_10.rect_emb_val t y 0).trans ((congrArg (· * 1 + (y 0).val) (congrFun (hi t) 0)).trans
        (show t.val / 8 * 1 + (y 0).val = t.val / 8 by omega))).symm
    | 1 => exact ((win2_10.rect_emb_val t y 1).trans ((congrArg (· * 256 + (y 1).val) (congrFun (hi t) 1)).trans
        (show 0 * 256 + (y 1).val = (y 1).val by omega))).symm
    | 2 => exact ((win2_10.rect_emb_val t y 2).trans (congrArg (· * 512 + (y 2).val) (congrFun (hi t) 2))).symm

end Cert.Proof.FF
-- ==== Proof.FF.Spec.lean ====
/-
  The path around the attention as functions of its arguments, a token at a time, for the prompts and the samples
  alike, and the output projection's product in the two halves the kernel takes it in.
-/
module

public import proofs.«01_k».proof.Proof.FF.Math

@[expose] public section

noncomputable section

namespace Cert.Proof.FF

open Idealize.ShloMosaic

/-- The arguments of `B` sequences of `T` tokens: the prompts' or the samples'. -/
structure Args (B T : ℕ) where
  x : (⟨3, ![B, T, 1024]⟩ : Shape).Idx → EReal
  o : (⟨3, ![B, T, 1024]⟩ : Shape).Idx → EReal
  c : (⟨2, ![B, 1024]⟩ : Shape).Idx → EReal
  wAda : (⟨3, ![1, 1024, 9216]⟩ : Shape).Idx → EReal
  bAda : (⟨2, ![1, 9216]⟩ : Shape).Idx → EReal
  up1 : (⟨3, ![1, 1024, 5632]⟩ : Shape).Idx → EReal
  dn1 : (⟨3, ![1, 2816, 1024]⟩ : Shape).Idx → EReal
  wIn : (⟨3, ![1, 1024, 2840]⟩ : Shape).Idx → EReal
  wO : (⟨3, ![1, 1024, 1024]⟩ : Shape).Idx → EReal
  up2 : (⟨3, ![1, 1024, 5632]⟩ : Shape).Idx → EReal
  dn2 : (⟨3, ![1, 2816, 1024]⟩ : Shape).Idx → EReal
  g : (⟨3, ![1, 3, 1024]⟩ : Shape).Idx → EReal
  b : (⟨3, ![1, 3, 1024]⟩ : Shape).Idx → EReal

namespace Args

variable {B T : ℕ} (A : Args B T)

/-- Modulation vector `i` of sequence `b`. -/
def mods (b : Fin B) (i : Fin 9) (n : Fin 1024) : EReal :=
  ada (fun k => A.c (ix2 b k)) (fun k => A.wAda (ix3 0 k ⟨i.val * 1024 + n.val, by omega⟩))
    (A.bAda (ix2 0 ⟨i.val * 1024 + n.val, by omega⟩))

/-- Norm `i`'s weights and offsets. -/
abbrev gain (i : Fin 3) : Fin 1024 → EReal := fun k => A.g (ix3 0 i k)
abbrev bias (i : Fin 3) : Fin 1024 → EReal := fun k => A.b (ix3 0 i k)

variable (M : Fin 9 → Fin 1024 → EReal) (b : Fin B) (t : Fin T)

/-- A token after the first feed-forward layer, under the modulation vectors `M`. -/
def x1 : Fin 1024 → EReal :=
  ffLayer (fun k => A.x (ix3 b t k)) (M 1) (M 0) (M 2) (fun k j => A.up1 (ix3 0 k j)) (fun j n => A.dn1 (ix3 0 j n)) (A.gain 0) (A.bias 0)

/-- A token's projection. -/
def h (j : Fin 2840) : EReal := rowDot (modul (A.x1 M b t) (M 4) (M 3)) fun k => A.wIn (ix3 0 k j)

/-- A token after the mixer. -/
def x2 : Fin 1024 → EReal :=
  postMix (A.x1 M b t) (fun n => rowDot (fun k => A.o (ix3 b t k)) fun k => A.wO (ix3 0 k n)) (M 5) (A.gain 1) (A.bias 1)

/-- A token after the second feed-forward layer. -/
def y : Fin 1024 → EReal :=
  ffLayer (A.x2 M b t) (M 7) (M 6) (M 8) (fun k j => A.up2 (ix3 0 k j)) (fun j n => A.dn2 (ix3 0 j n)) (A.gain 2) (A.bias 2)

end Args

/-! ## The output projection's product in two halves -/

/-- The head-major row that slot-major row `k` is: `(slot, head, lane)` to `(head, slot, lane)`. -/
abbrev slotRow (k : Fin 512) : Fin 512 := ⟨k.val / 64 % 2 * 256 + k.val / 128 * 64 + k.val % 64, by omega⟩

/-- Slot-major to head-major: `(slot, head, lane)` to `(head, slot, lane)`, four slots of two heads. -/
def slotEquiv : Fin 512 ≃ Fin 512 where
  toFun k := ⟨k.val / 64 % 2 * 256 + k.val / 128 * 64 + k.val % 64, by omega⟩
  invFun k := ⟨k.val / 64 % 4 * 128 + k.val / 256 * 64 + k.val % 64, by omega⟩
  left_inv := by unfold Function.LeftInverse; decide +kernel
  right_inv := by unfold Function.RightInverse Function.LeftInverse; decide +kernel

/-- The first 512 products, and the last 512 taken slot-major, make the whole product. -/
theorem rowDot_halves (u w : Fin 1024 → EReal) :
    rowDot (fun k : Fin 512 => u ⟨k.val, by omega⟩) (fun k => w ⟨k.val, by omega⟩)
      + rowDot (fun k : Fin 512 => u ⟨512 + (slotEquiv k).val, by omega⟩) (fun k => w ⟨512 + (slotEquiv k).val, by omega⟩)
      = rowDot u w := by
  unfold rowDot
  rw [Equiv.sum_comp slotEquiv fun k : Fin 512 => u ⟨512 + k.val, by omega⟩ * w ⟨512 + k.val, by omega⟩]
  exact (Fin.sum_univ_add (a := 512) (b := 512) fun k : Fin (512 + 512) => u k * w k).symm

end Cert.Proof.FF
-- ==== Proof.FF.Host.lean ====
/-
  What the prompt path's host code hands its calls, entry by entry.
-/
module

public import proofs.«01_k».proof.Proof.Gen.Kernel2Ideal.Frame
public import proofs.«01_k».proof.Proof.FF.Spec
public import Idealize.ShloMosaic.Lib.StableHlo.ReadAt
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable (m : (ℓ : Loc nD τ sig) → Buf (Elt Ideal) ℓ) (ρ : Dev nD → PrngReg) (c : Dev nD)

/-- Argument `r` as launched. -/
abbrev argOf (r : Ref sig .tc) : Buf (Elt Ideal) ((c : Thread nD τ).loc r) := m ((c : Thread nD τ).loc r)

/-! ## Before the first call -/

theorem w1_v0 (r : Fin 32768) (k : Fin 1024) :
    W1 (F := Ideal) m ρ c main_v0 (ix2 r k) = argOf m c main_arg0 (ix3 ⟨r.val / 4096, by omega⟩ ⟨r.val % 4096, by omega⟩ k) := by
  unfold W1 hostOps0
  after_reads_at

theorem w1_v1 (r : Fin 136) (k : Fin 1024) :
    W1 (F := Ideal) m ρ c main_v1 (ix2 r k) = if h : r.val < 8 then argOf m c main_arg2 (ix2 ⟨r.val, h⟩ k)
      else argOf m c main_arg3 (ix2 ⟨r.val - 8, by omega⟩ k) := by
  unfold W1 hostOps0
  after_reads_at

theorem w1_v2 (k : Fin 1024) (n : Fin 9216) :
    W1 (F := Ideal) m ρ c main_v2 (ix2 k n) = argOf m c main_arg4 (ix3 0 k n) := by
  unfold W1 hostOps0
  after_reads_at

theorem w1_v4 (n : Fin 9216) :
    W1 (F := Ideal) m ρ c main_v4 (ix2 0 n) = argOf m c main_arg5 (ix2 0 n) := by
  unfold W1 hostOps0
  after_reads_at

/-! ## Between the first call and the second -/

theorem w3_v9 (i : Fin 9) (b : Fin 8) (k : Fin 1024) :
    W3 (F := Ideal) m ρ c main_v9 (ix4 i b 0 k) = W2 (F := Ideal) m ρ c main_v5 (ix2 ⟨b.val, by omega⟩ ⟨i.val * 1024 + k.val, by omega⟩) := by
  unfold W3 hostOps1
  after_reads_at

theorem w3_v11 (k : Fin 1024) (j : Fin 5632) :
    W3 (F := Ideal) m ρ c main_v11 (ix2 k j) = W2 (F := Ideal) m ρ c main_arg6 (ix3 0 k j) := by
  unfold W3 hostOps1
  after_reads_at

theorem w3_v13 (j : Fin 2816) (n : Fin 1024) :
    W3 (F := Ideal) m ρ c main_v13 (ix2 j n) = W2 (F := Ideal) m ρ c main_arg7 (ix3 0 j n) := by
  unfold W3 hostOps1
  after_reads_at

theorem w3_v15 (k : Fin 1024) (j : Fin 5632) :
    W3 (F := Ideal) m ρ c main_v15 (ix2 k j) = W2 (F := Ideal) m ρ c main_arg10 (ix3 0 k j) := by
  unfold W3 hostOps1
  after_reads_at

theorem w3_v17 (j : Fin 2816) (n : Fin 1024) :
    W3 (F := Ideal) m ρ c main_v17 (ix2 j n) = W2 (F := Ideal) m ρ c main_arg11 (ix3 0 j n) := by
  unfold W3 hostOps1
  after_reads_at

theorem w3_v18 (k : Fin 1024) (j : Fin 2840) :
    W3 (F := Ideal) m ρ c main_v18 (ix2 k j) = W2 (F := Ideal) m ρ c main_arg8 (ix3 0 k j) := by
  unfold W3 hostOps1
  after_reads_at

/-! The projection's transposed part: the stick-breaking keys and values, the compressed pair's, the window's. -/

theorem w5_v89_sb (f : Fin 1024) (k : Fin 1024) :
    W5 (F := Ideal) m ρ c main_v89 (ix2 ⟨f.val, by omega⟩ k) = W2 (F := Ideal) m ρ c main_arg8 (ix3 0 k ⟨512 + f.val, by omega⟩) := by
  have hf := f.isLt
  unfold W5 hostOps1_2
  after_reads_at
  rw [dif_neg (by omega), dif_neg (by omega), dif_neg (by omega), dif_pos (by omega)]
  after_reads_at
  refine congrArg (W2 (F := Ideal) m ρ c main_arg8) (congrArg (ix3 0 k) (Fin.ext ?_))
  show 512 + (2176 + f.val - 1024 - 1024 - 128) = 512 + f.val
  omega

theorem w5_v89_nsa (f : Fin 512) (k : Fin 1024) :
    W5 (F := Ideal) m ρ c main_v89 (ix2 ⟨1024 + f.val, by omega⟩ k) = W2 (F := Ideal) m ρ c main_arg8 (ix3 0 k ⟨2048 + f.val, by omega⟩) := by
  have hf := f.isLt
  unfold W5 hostOps1_2
  after_reads_at
  rw [dif_neg (by omega), dif_neg (by omega), dif_neg (by omega), dif_neg (by omega), dif_pos (by omega)]
  after_reads_at
  refine congrArg (W2 (F := Ideal) m ρ c main_arg8) (congrArg (ix3 0 k) (Fin.ext ?_))
  show 2048 + (2176 + (1024 + f.val) - 1024 - 1024 - 128 - 1024) = 2048 + f.val
  omega

theorem w5_v89_win (f : Fin 256) (k : Fin 1024) :
    W5 (F := Ideal) m ρ c main_v89 (ix2 ⟨1536 + f.val, by omega⟩ k) = W2 (F := Ideal) m ρ c main_arg8 (ix3 0 k ⟨2560 + f.val, by omega⟩) := by
  have hf := f.isLt
  unfold W5 hostOps1_2
  after_reads_at
  rw [dif_neg (by omega), dif_neg (by omega), dif_neg (by omega), dif_neg (by omega), dif_neg (by omega)]
  after_reads_at
  refine congrArg (W2 (F := Ideal) m ρ c main_arg8) (congrArg (ix3 0 k) (Fin.ext ?_))
  show 2560 + (2176 + (1536 + f.val) - 1024 - 1024 - 128 - 1024 - 512) = 2560 + f.val
  omega

theorem w5_v92 (k : Fin 512) (n : Fin 1024) :
    W5 (F := Ideal) m ρ c main_v92 (ix2 k n) = W4 (F := Ideal) m ρ c main_arg9 (ix3 0 ⟨k.val, by omega⟩ n) := by
  unfold W5 hostOps1_2
  after_reads_at

theorem w5_v97 (k : Fin 512) (n : Fin 1024) :
    W5 (F := Ideal) m ρ c main_v97 (ix2 k n) = W4 (F := Ideal) m ρ c main_arg9 (ix3 0 ⟨512 + (slotRow k).val, by omega⟩ n) := by
  unfold W5 hostOps1_2
  after_reads_at

theorem w5_v98 (i : Fin 3) (n : Fin 1024) :
    W5 (F := Ideal) m ρ c main_v98 (ix2 i n) = W4 (F := Ideal) m ρ c main_arg12 (ix3 0 i n) := by
  unfold W5 hostOps1_2
  after_reads_at

theorem w5_v99 (i : Fin 3) (n : Fin 1024) :
    W5 (F := Ideal) m ρ c main_v99 (ix2 i n) = W4 (F := Ideal) m ρ c main_arg13 (ix3 0 i n) := by
  unfold W5 hostOps1_2
  after_reads_at

theorem w5_v100 (n : Fin 1024) :
    W5 (F := Ideal) m ρ c main_v100 (ix2 0 n) = W4 (F := Ideal) m ρ c main_arg12 (ix3 0 0 n) := by
  unfold W5 hostOps1_2
  after_reads_at

theorem w5_v101 (n : Fin 1024) :
    W5 (F := Ideal) m ρ c main_v101 (ix2 0 n) = W4 (F := Ideal) m ρ c main_arg13 (ix3 0 0 n) := by
  unfold W5 hostOps1_2
  after_reads_at

/-! ## Before the last call -/

theorem w8_v110 (r : Fin 32768) (k : Fin 512) :
    W8 (F := Ideal) m ρ c main_v110 (ix2 r k)
      = W7 (F := Ideal) m ρ c main_arg1 (ix3 ⟨r.val / 4096, by omega⟩ ⟨r.val % 4096, by omega⟩ ⟨k.val, by omega⟩) := by
  unfold W8 hostOps3
  after_reads_at

theorem w8_v111 (r : Fin 32768) (k : Fin 512) :
    W8 (F := Ideal) m ρ c main_v111 (ix2 r k)
      = W7 (F := Ideal) m ρ c main_arg1 (ix3 ⟨r.val / 4096, by omega⟩ ⟨r.val % 4096, by omega⟩ ⟨512 + (slotRow k).val, by omega⟩) := by
  unfold W8 hostOps3
  after_reads_at

theorem w8_v112 (i : Fin 2) (n : Fin 1024) :
    W8 (F := Ideal) m ρ c main_v112 (ix2 i n) = W7 (F := Ideal) m ρ c main_v98 (ix2 ⟨1 + i.val, by omega⟩ n) := by
  unfold W8 hostOps3
  after_reads_at

theorem w8_v113 (i : Fin 2) (n : Fin 1024) :
    W8 (F := Ideal) m ρ c main_v113 (ix2 i n) = W7 (F := Ideal) m ρ c main_v99 (ix2 ⟨1 + i.val, by omega⟩ n) := by
  unfold W8 hostOps3
  after_reads_at

/-! ## The results -/

theorem w10_v135 (b : Fin 8) (t : Fin 4096) (n : Fin 1024) :
    W10 (F := Ideal) m ρ c main_v135 (ix3 b t n) = W9 (F := Ideal) m ρ c main_v114 (ix2 ⟨b.val * 4096 + t.val, by omega⟩ n) := by
  unfold W10 hostOps4
  after_reads_at

theorem w10_v136 (b : Fin 8) (t : Fin 4096) (s : Fin 2) (h : Fin 8) (d : Fin 64) :
    W10 (F := Ideal) m ρ c main_v136 (ix6 0 b t s h d)
      = W9 (F := Ideal) m ρ c main_v103_4 (ix3 b ⟨s.val * 512 + h.val * 64 + d.val, by omega⟩ t) := by
  unfold W10 hostOps4
  after_reads_at

theorem w10_v137 (b : Fin 8) (t : Fin 4096) (s : Fin 4) (h : Fin 2) (d : Fin 64) :
    W10 (F := Ideal) m ρ c main_v137 (ix6 0 b t s h d)
      = W9 (F := Ideal) m ρ c main_v103_5 (ix3 b ⟨s.val * 128 + h.val * 64 + d.val, by omega⟩ t) := by
  unfold W10 hostOps4
  after_reads_at

theorem w10_v138 (b : Fin 8) (t : Fin 512) (s : Fin 2) (h : Fin 2) (d : Fin 64) :
    W10 (F := Ideal) m ρ c main_v138 (ix6 0 b t s h d)
      = W9 (F := Ideal) m ρ c main_v103_6 (ix3 b ⟨s.val * 128 + h.val * 64 + d.val, by omega⟩ ⟨3584 + t.val, by omega⟩) := by
  unfold W10 hostOps4
  after_reads_at

set_option maxHeartbeats 4000000 in
theorem w10_v130 (b : Fin 8) (t : Fin 4096) (h : Fin 8) (d : Fin 64) :
    W10 (F := Ideal) m ρ c main_v130 (ix4 b t h d)
      = W9 (F := Ideal) m ρ c main_v103_0 (ix2 ⟨b.val * 4096 + t.val, by omega⟩ ⟨h.val * 128 + (h.val % 2 * 64 + d.val), by omega⟩) := by
  unfold W10 hostOps4
  after_reads_at
  by_cases e : h.val % 2 < 1
  · rw [dif_pos e]
    after_reads_at
    refine congrArg (W9 (F := Ideal) m ρ c main_v103_0) (congrArg (ix2 _) (Fin.ext ?_))
    dsimp only
    omega
  · rw [dif_neg e]
    after_reads_at
    refine congrArg (W9 (F := Ideal) m ρ c main_v103_0) (congrArg (ix2 _) (Fin.ext ?_))
    dsimp only
    omega

theorem w10_v132 (b : Fin 8) (t : Fin 4096) (h : Fin 8) (d : Fin 64) :
    W10 (F := Ideal) m ρ c main_v132 (ix4 b t h d)
      = W9 (F := Ideal) m ρ c main_v103_1 (ix2 ⟨b.val * 4096 + t.val, by omega⟩ ⟨h.val * 128 + d.val, by omega⟩) := by
  unfold W10 hostOps4
  after_reads_at

theorem w10_v134 (b : Fin 8) (t : Fin 4096) (h : Fin 8) (j : Fin 3) :
    W10 (F := Ideal) m ρ c main_v134 (ix4 b t h j)
      = W9 (F := Ideal) m ρ c main_v103_2 (ix2 ⟨b.val * 4096 + t.val, by omega⟩ ⟨h.val * 3 + j.val, by omega⟩) := by
  unfold W10 hostOps4
  after_reads_at

end Cert.Proof.FF
-- ==== Proof.FF.Scatter.lean ====
/-
  The two overwriting scatters of the projection's host code, read at an entry: a window of 64 lanes at one head, and a
  window of 64 lanes at every head.
-/
module

public import Idealize.ShloMosaic.Lib.Routing.OpsSet
public import Idealize.ShloMosaic.Lib.Pointwise.IndexBridge

@[expose] public section

noncomputable section

namespace Cert.Proof.FF

open Idealize.ShloMosaic Idealize.ShloMosaic.Routing

/-- `x.at[:, p, q:q+64].set(u)`, read at an entry. -/
theorem scatter_head {α : Type} (d : ScatterDims ⟨3, ![1024, 8, 128]⟩ ⟨1, ![2]⟩ ⟨2, ![1024, 64]⟩) (huw : d.updateWindowDims = [0, 1])
    (hiw : d.insertedWindowDims = [1]) (hsd : d.scatterDimsToOperandDims = [1, 2]) (hiv : d.indexVectorDim = 0)
    (x : (⟨3, ![1024, 8, 128]⟩ : Shape).Idx → α) (idx : IVec ⟨1, ![2]⟩ 32) (u : (⟨2, ![1024, 64]⟩ : Shape).Idx → α) (p q : ℕ)
    (hp : (idx (ix1 (0 : Fin 2))).toInt = p) (hq : (idx (ix1 (1 : Fin 2))).toInt = q) (k : Fin 1024) (h : Fin 8) (l : Fin 128) :
    Host.scatter d (fun _ b => b) x idx u (ix3 k h l)
      = if hl : h.val = p ∧ q ≤ l.val ∧ l.val < q + 64 then u (ix2 k ⟨l.val - q, by omega⟩) else x (ix3 k h l) := by
  obtain ⟨uw, iw, sd, iv, wf⟩ := d
  dsimp only at huw hiw hsd hiv
  subst huw hiw hsd hiv
  have lands : ∀ j : (⟨2, ![1024, 64]⟩ : Shape).Idx,
      ScatterDims.resultIdx? ⟨[0, 1], [1], [1, 2], 0, wf⟩ j idx = some (ix3 k h l)
        ↔ (j 0).val = k.val ∧ p = h.val ∧ q + (j 1).val = l.val := fun j => by
    have s0 : ScatterDims.start ⟨[0, 1], [1], [1, 2], 0, wf⟩ j idx 0 = 0 := rfl
    have s1 : ScatterDims.start ⟨[0, 1], [1], [1, 2], 0, wf⟩ j idx 1 = p := by
      refine Eq.trans (congrArg (fun z => (idx z).toInt) (funext fun b => ?_)) hp
      match b with
      | 0 => rfl
    have s2 : ScatterDims.start ⟨[0, 1], [1], [1, 2], 0, wf⟩ j idx 2 = q := by
      refine Eq.trans (congrArg (fun z => (idx z).toInt) (funext fun b => ?_)) hq
      match b with
      | 0 => rfl
    have t0 : ScatterDims.window ⟨[0, 1], [1], [1, 2], 0, wf⟩ j 0 = (j 0).val := rfl
    have t1 : ScatterDims.window ⟨[0, 1], [1], [1, 2], 0, wf⟩ j 1 = 0 := rfl
    have t2 : ScatterDims.window ⟨[0, 1], [1], [1, 2], 0, wf⟩ j 2 = (j 1).val := rfl
    rw [resultIdx?_eq_some]
    constructor
    · intro g
      have g0 := g 0
      have g1 := g 1
      have g2 := g 2
      rw [s0, t0] at g0
      rw [s1, t1] at g1
      rw [s2, t2] at g2
      have g0' : (0 : ℤ) + ((j 0).val : ℤ) = (k.val : ℤ) := g0
      have g1' : (p : ℤ) + ((0 : ℕ) : ℤ) = (h.val : ℤ) := g1
      have g2' : (q : ℤ) + ((j 1).val : ℤ) = (l.val : ℤ) := g2
      omega
    · rintro ⟨g0, g1, g2⟩ a
      match a with
      | 0 => rw [s0, t0]; show (0 : ℤ) + ((j 0).val : ℤ) = (k.val : ℤ); omega
      | 1 => rw [s1, t1]; show (p : ℤ) + ((0 : ℕ) : ℤ) = (h.val : ℤ); omega
      | 2 => rw [s2, t2]; show (q : ℤ) + ((j 1).val : ℤ) = (l.val : ℤ); omega
  by_cases hl : h.val = p ∧ q ≤ l.val ∧ l.val < q + 64
  · rw [dif_pos hl]
    refine scatter_set_hit _ x idx u _ _ (fun j hj => congrArg u ?_) (ix2 k ⟨l.val - q, by omega⟩)
      ((lands _).2 ⟨rfl, hl.1.symm, by show q + (l.val - q) = l.val; omega⟩)
    obtain ⟨g0, -, g2⟩ := (lands j).1 hj
    refine funext fun a => Fin.ext ?_
    match a with
    | 0 => exact g0
    | 1 => show (j 1).val = l.val - q; omega
  · rw [dif_neg hl]
    refine scatter_set_miss _ x idx u _ fun j hj => hl ?_
    obtain ⟨-, g1, g2⟩ := (lands j).1 hj
    have : (j 1).val < 64 := (j 1).isLt
    omega

/-- `x.at[:, :, q:q+64].set(u)`, read at an entry. -/
theorem scatter_heads {α : Type} (d : ScatterDims ⟨3, ![1024, 8, 128]⟩ ⟨1, ![1]⟩ ⟨3, ![1024, 8, 64]⟩) (huw : d.updateWindowDims = [0, 1, 2])
    (hiw : d.insertedWindowDims = []) (hsd : d.scatterDimsToOperandDims = [2]) (hiv : d.indexVectorDim = 0)
    (x : (⟨3, ![1024, 8, 128]⟩ : Shape).Idx → α) (idx : IVec ⟨1, ![1]⟩ 32) (u : (⟨3, ![1024, 8, 64]⟩ : Shape).Idx → α) (q : ℕ)
    (hq : (idx (ix1 (0 : Fin 1))).toInt = q) (k : Fin 1024) (h : Fin 8) (l : Fin 128) :
    Host.scatter d (fun _ b => b) x idx u (ix3 k h l)
      = if hl : q ≤ l.val ∧ l.val < q + 64 then u (ix3 k h ⟨l.val - q, by omega⟩) else x (ix3 k h l) := by
  obtain ⟨uw, iw, sd, iv, wf⟩ := d
  dsimp only at huw hiw hsd hiv
  subst huw hiw hsd hiv
  have lands : ∀ j : (⟨3, ![1024, 8, 64]⟩ : Shape).Idx,
      ScatterDims.resultIdx? ⟨[0, 1, 2], [], [2], 0, wf⟩ j idx = some (ix3 k h l)
        ↔ (j 0).val = k.val ∧ (j 1).val = h.val ∧ q + (j 2).val = l.val := fun j => by
    have s0 : ScatterDims.start ⟨[0, 1, 2], [], [2], 0, wf⟩ j idx 0 = 0 := rfl
    have s1 : ScatterDims.start ⟨[0, 1, 2], [], [2], 0, wf⟩ j idx 1 = 0 := rfl
    have s2 : ScatterDims.start ⟨[0, 1, 2], [], [2], 0, wf⟩ j idx 2 = q := by
      refine Eq.trans (congrArg (fun z => (idx z).toInt) (funext fun b => ?_)) hq
      match b with
      | 0 => rfl
    have t0 : ScatterDims.window ⟨[0, 1, 2], [], [2], 0, wf⟩ j 0 = (j 0).val := rfl
    have t1 : ScatterDims.window ⟨[0, 1, 2], [], [2], 0, wf⟩ j 1 = (j 1).val := rfl
    have t2 : ScatterDims.window ⟨[0, 1, 2], [], [2], 0, wf⟩ j 2 = (j 2).val := rfl
    rw [resultIdx?_eq_some]
    constructor
    · intro g
      have g0 := g 0
      have g1 := g 1
      have g2 := g 2
      rw [s0, t0] at g0
      rw [s1, t1] at g1
      rw [s2, t2] at g2
      have g0' : (0 : ℤ) + ((j 0).val : ℤ) = (k.val : ℤ) := g0
      have g1' : (0 : ℤ) + ((j 1).val : ℤ) = (h.val : ℤ) := g1
      have g2' : (q : ℤ) + ((j 2).val : ℤ) = (l.val : ℤ) := g2
      omega
    · rintro ⟨g0, g1, g2⟩ a
      match a with
      | 0 => rw [s0, t0]; show (0 : ℤ) + ((j 0).val : ℤ) = (k.val : ℤ); omega
      | 1 => rw [s1, t1]; show (0 : ℤ) + ((j 1).val : ℤ) = (h.val : ℤ); omega
      | 2 => rw [s2, t2]; show (q : ℤ) + ((j 2).val : ℤ) = (l.val : ℤ); omega
  by_cases hl : q ≤ l.val ∧ l.val < q + 64
  · rw [dif_pos hl]
    refine scatter_set_hit _ x idx u _ _ (fun j hj => congrArg u ?_) (ix3 k h ⟨l.val - q, by omega⟩)
      ((lands _).2 ⟨rfl, rfl, by show q + (l.val - q) = l.val; omega⟩)
    obtain ⟨g0, g1, g2⟩ := (lands j).1 hj
    refine funext fun a => Fin.ext ?_
    match a with
    | 0 => exact g0
    | 1 => exact g1
    | 2 => show (j 2).val = l.val - q; omega
  · rw [dif_neg hl]
    refine scatter_set_miss _ x idx u _ fun j hj => hl ?_
    obtain ⟨-, -, g2⟩ := (lands j).1 hj
    have : (j 2).val < 64 := (j 2).isLt
    omega

end Cert.Proof.FF
-- ==== Proof.FF.HostQ.lean ====
/-
  The queries' and the gate's columns of the projection's weights as the prompt path's host code lays them out, entry by
  entry.
-/
module

public import proofs.«01_k».proof.Proof.Gen.Kernel2Ideal.Frame
public import proofs.«01_k».proof.Proof.FF.Spec
public import proofs.«01_k».proof.Proof.FF.Scatter
public import Idealize.ShloMosaic.Lib.StableHlo.ReadAt
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.ShloMosaic.Tactic

variable (m : (ℓ : Loc nD τ sig) → Buf (Elt Ideal) ℓ) (ρ : Dev nD → PrngReg) (c : Dev nD)

/-! The projection's row-major part: the queries, each in its head's lanes and scaled, and the gate. -/

/-- The projection's weights before the third call. -/
abbrev wIn2 : FVec Ideal S1x1024x2840 .f32 := W2 (F := Ideal) m ρ c main_arg8

theorem w5_v87_sb (k : Fin 1024) (h : Fin 8) (d : Fin 64) :
    @Eq EReal (W5 (F := Ideal) m ρ c main_v87 (ix2 k ⟨h.val * 128 + (h.val % 2 * 64 + d.val), by omega⟩))
      (wIn2 m ρ c (ix3 0 k ⟨h.val * 64 + d.val, by omega⟩) * cScale) := by
  have hh := h.isLt
  have hd := d.isLt
  unfold W5 hostOps1_2
  after_reads_at
  rw [dif_pos (by omega)]
  after_reads_at
  refine (scatter_head _ rfl rfl rfl rfl _ _ _ 7 64 ?_ ?_ _ _ _).trans ?_
  · after_reads_at
    rfl
  · after_reads_at
    rfl
  by_cases e7 : h.val = 7
  · rw [dif_pos ⟨by omega, by first | omega | (dsimp only; omega), by first | omega | (dsimp only; omega)⟩]
    refine congrArg (fun z => wIn2 m ρ c (ix3 0 k z) * cScale) (Fin.ext ?_)
    show 448 + ((h.val * 128 + (h.val % 2 * 64 + d.val)) % 128 - 64) = h.val * 64 + d.val
    omega
  rw [dif_neg fun g => e7 (by have := g.1; omega)]
  refine (scatter_head _ rfl rfl rfl rfl _ _ _ 6 0 ?_ ?_ _ _ _).trans ?_
  · after_reads_at
    rfl
  · after_reads_at
    rfl
  by_cases e6 : h.val = 6
  · rw [dif_pos ⟨by omega, by first | omega | (dsimp only; omega), by first | omega | (dsimp only; omega)⟩]
    refine congrArg (fun z => wIn2 m ρ c (ix3 0 k z) * cScale) (Fin.ext ?_)
    show 384 + ((h.val * 128 + (h.val % 2 * 64 + d.val)) % 128 - 0) = h.val * 64 + d.val
    omega
  rw [dif_neg fun g => e6 (by have := g.1; omega)]
  refine (scatter_head _ rfl rfl rfl rfl _ _ _ 5 64 ?_ ?_ _ _ _).trans ?_
  · after_reads_at
    rfl
  · after_reads_at
    rfl
  by_cases e5 : h.val = 5
  · rw [dif_pos ⟨by omega, by first | omega | (dsimp only; omega), by first | omega | (dsimp only; omega)⟩]
    refine congrArg (fun z => wIn2 m ρ c (ix3 0 k z) * cScale) (Fin.ext ?_)
    show 320 + ((h.val * 128 + (h.val % 2 * 64 + d.val)) % 128 - 64) = h.val * 64 + d.val
    omega
  rw [dif_neg fun g => e5 (by have := g.1; omega)]
  refine (scatter_head _ rfl rfl rfl rfl _ _ _ 4 0 ?_ ?_ _ _ _).trans ?_
  · after_reads_at
    rfl
  · after_reads_at
    rfl
  by_cases e4 : h.val = 4
  · rw [dif_pos ⟨by omega, by first | omega | (dsimp only; omega), by first | omega | (dsimp only; omega)⟩]
    refine congrArg (fun z => wIn2 m ρ c (ix3 0 k z) * cScale) (Fin.ext ?_)
    show 256 + ((h.val * 128 + (h.val % 2 * 64 + d.val)) % 128 - 0) = h.val * 64 + d.val
    omega
  rw [dif_neg fun g => e4 (by have := g.1; omega)]
  refine (scatter_head _ rfl rfl rfl rfl _ _ _ 3 64 ?_ ?_ _ _ _).trans ?_
  · after_reads_at
    rfl
  · after_reads_at
    rfl
  by_cases e3 : h.val = 3
  · rw [dif_pos ⟨by omega, by first | omega | (dsimp only; omega), by first | omega | (dsimp only; omega)⟩]
    refine congrArg (fun z => wIn2 m ρ c (ix3 0 k z) * cScale) (Fin.ext ?_)
    show 192 + ((h.val * 128 + (h.val % 2 * 64 + d.val)) % 128 - 64) = h.val * 64 + d.val
    omega
  rw [dif_neg fun g => e3 (by have := g.1; omega)]
  refine (scatter_head _ rfl rfl rfl rfl _ _ _ 2 0 ?_ ?_ _ _ _).trans ?_
  · after_reads_at
    rfl
  · after_reads_at
    rfl
  by_cases e2 : h.val = 2
  · rw [dif_pos ⟨by omega, by first | omega | (dsimp only; omega), by first | omega | (dsimp only; omega)⟩]
    refine congrArg (fun z => wIn2 m ρ c (ix3 0 k z) * cScale) (Fin.ext ?_)
    show 128 + ((h.val * 128 + (h.val % 2 * 64 + d.val)) % 128 - 0) = h.val * 64 + d.val
    omega
  rw [dif_neg fun g => e2 (by have := g.1; omega)]
  refine (scatter_head _ rfl rfl rfl rfl _ _ _ 1 64 ?_ ?_ _ _ _).trans ?_
  · after_reads_at
    rfl
  · after_reads_at
    rfl
  by_cases e1 : h.val = 1
  · rw [dif_pos ⟨by omega, by first | omega | (dsimp only; omega), by first | omega | (dsimp only; omega)⟩]
    refine congrArg (fun z => wIn2 m ρ c (ix3 0 k z) * cScale) (Fin.ext ?_)
    show 64 + ((h.val * 128 + (h.val % 2 * 64 + d.val)) % 128 - 64) = h.val * 64 + d.val
    omega
  rw [dif_neg fun g => e1 (by have := g.1; omega)]
  refine (scatter_head _ rfl rfl rfl rfl _ _ _ 0 0 ?_ ?_ _ _ _).trans ?_
  · after_reads_at
    rfl
  · after_reads_at
    rfl
  by_cases e0 : h.val = 0
  · rw [dif_pos ⟨by omega, by first | omega | (dsimp only; omega), by first | omega | (dsimp only; omega)⟩]
    refine congrArg (fun z => wIn2 m ρ c (ix3 0 k z) * cScale) (Fin.ext ?_)
    show ((h.val * 128 + (h.val % 2 * 64 + d.val)) % 128 - 0) = h.val * 64 + d.val
    omega
  rw [dif_neg fun g => e0 (by have := g.1; omega)]
  omega

theorem w5_v87_nsa (k : Fin 1024) (h : Fin 8) (d : Fin 64) :
    @Eq EReal (W5 (F := Ideal) m ρ c main_v87 (ix2 k ⟨1024 + (h.val * 128 + d.val), by omega⟩))
      (wIn2 m ρ c (ix3 0 k ⟨1536 + (h.val * 64 + d.val), by omega⟩) * cScale) := by
  have hh := h.isLt
  have hd := d.isLt
  unfold W5 hostOps1_2
  after_reads_at
  rw [dif_pos (by omega)]
  after_reads_at
  refine (scatter_heads _ rfl rfl rfl rfl _ _ _ 0 ?_ _ _ _).trans ?_
  · rfl
  · rw [dif_pos ⟨Nat.zero_le _, by dsimp only; omega⟩]
    refine congrArg (fun z => wIn2 m ρ c (ix3 0 k z) * cScale) (Fin.ext ?_)
    show 1536 + (h.val * 64 + ((h.val * 128 + d.val) % 128 - 0)) = 1536 + (h.val * 64 + d.val)
    omega

theorem w5_v87_gate (k : Fin 1024) (j : Fin 24) :
    @Eq EReal (W5 (F := Ideal) m ρ c main_v87 (ix2 k ⟨2048 + j.val, by omega⟩)) (wIn2 m ρ c (ix3 0 k ⟨2816 + j.val, by omega⟩)) := by
  have hj := j.isLt
  unfold W5 hostOps1_2
  after_reads_at
  rw [dif_neg (by omega), dif_neg (by omega), dif_pos (by omega)]
  after_reads_at
  rw [dif_pos (by omega)]
  refine congrArg (fun z => wIn2 m ρ c (ix3 0 k z)) (Fin.ext ?_)
  dsimp only
  omega

end Cert.Proof.FF
-- ==== Proof.FF.Run.lean ====
/-
  The prompt path's run over the extended reals: every execution ends with the results at what the fold of the host
  stretches and the four calls leaves in them, and with the arguments unchanged.
-/
module

public import proofs.«01_k».proof.Proof.Gen.Kernel2Ideal.Frame
public import Idealize.ShloMosaic.Lib.Pipeline.ValueKit

@[expose] public section

set_option maxRecDepth 16384

noncomputable section

namespace Cert.Proof.FF

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The prompt path terminates, its results at the last boundary's contents. -/
theorem run : θ_run defs (onTc (τ := τ) (main (F := Ideal))) ⟨m, fun _ => 0, ρ⟩ (fun r => ∀ c : Dev nD,
      r.2.mem ((c.tc : Thread nD τ).loc main_v135) = W10 (F := Ideal) m ρ c main_v135
      ∧ r.2.mem ((c.tc : Thread nD τ).loc main_v136) = W10 (F := Ideal) m ρ c main_v136
      ∧ r.2.mem ((c.tc : Thread nD τ).loc main_v137) = W10 (F := Ideal) m ρ c main_v137
      ∧ r.2.mem ((c.tc : Thread nD τ).loc main_v138) = W10 (F := Ideal) m ρ c main_v138
      ∧ r.2.mem ((c.tc : Thread nD τ).loc main_v130) = W10 (F := Ideal) m ρ c main_v130
      ∧ r.2.mem ((c.tc : Thread nD τ).loc main_v132) = W10 (F := Ideal) m ρ c main_v132
      ∧ r.2.mem ((c.tc : Thread nD τ).loc main_v134) = W10 (F := Ideal) m ρ c main_v134
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v135 (by decide)),
       h c _ (mem_uc main_v136 (by decide)),
       h c _ (mem_uc main_v137 (by decide)),
       h c _ (mem_uc main_v138 (by decide)),
       h c _ (mem_uc main_v130 (by decide)),
       h c _ (mem_uc main_v132 (by decide)),
       h c _ (mem_uc main_v134 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.Proof.FF
-- ==== Proof.FF.Ref.lean ====
/-
  The prompt path's reference over the extended reals, a row at a time.
-/
module

public import proofs.«01_k».proof.Proof.Gen.Reference2Ideal.Run
public import proofs.«01_k».proof.Proof.FF.Spec

@[expose] public section

set_option maxRecDepth 16384

noncomputable section

namespace Cert.Proof.FF.Ref

open Cert.Reference2Ideal Cert.Reference2Ideal.Gen Cert.Reference2Ideal.Value
open Idealize.ShloMosaic Idealize.ShloMosaic.TcCoe Idealize.ShloMosaic.Tactic Idealize.ShloMosaic.StableHlo

variable (V : Valuation τ sig (Elt Ideal))

/-- Argument `r`'s contents. -/
abbrev at' (r : Ref sig .tc) : (Proc.devRef .tc r : DevRef τ sig).ty.Contents (Elt Ideal) := V (Proc.devRef .tc r)

/-- A token's row of an array. -/
abbrev tok (x : FVec Ideal S8x4096x1024 .f32) (b : Fin 8) (t : Fin 4096) : Fin 1024 → EReal := fun k => x (ix3 b t k)

/-- Modulation vector `i` of prompt `b`. -/
abbrev md (b : Fin 8) (i : Fin 9) : Fin 1024 → EReal := fun k => res_main_v7 (F := Ideal) V (ix4 b 0 i k)

theorem v7_apply (b : Fin 8) (i : Fin 9) (n : Fin 1024) :
    res_main_v7 (F := Ideal) V (ix4 b 0 i n)
      = ada (fun k => at' V main_arg2 (ix2 b k)) (fun k => at' V main_arg4 (ix3 0 k ⟨i.val * 1024 + n.val, by omega⟩))
          (at' V main_arg5 (ix2 0 ⟨i.val * 1024 + n.val, by omega⟩)) := by
  pointwise [res_main_v7]
  rfl

theorem v26_apply (b : Fin 8) (t : Fin 4096) (j : Fin 5632) :
    res_main_v26 (F := Ideal) V (ix3 b t j)
      = rowDot (modul (tok (at' V main_arg0) b t) (md V b 1) (md V b 0)) (fun k => at' V main_arg6 (ix3 0 k j)) := by
  pointwise [res_main_v26]
  rfl

theorem v34_apply (b : Fin 8) (t : Fin 4096) (n : Fin 1024) :
    res_main_v34 (F := Ideal) V (ix3 b t n)
      = cAlpha * at' V main_arg0 (ix3 b t n) + cHalf * md V b 2 n *
          ffn (modul (tok (at' V main_arg0) b t) (md V b 1) (md V b 0)) (fun k j => at' V main_arg6 (ix3 0 k j))
            (fun j n => at' V main_arg7 (ix3 0 j n)) n := by
  pointwise [res_main_v34, res_main_v27]
  simp only [v26_apply]
  rfl

theorem v62_apply (b : Fin 8) (t : Fin 4096) (n : Fin 1024) :
    res_main_v62 (F := Ideal) V (ix3 b t n)
      = lnorm (tok (res_main_v34 (F := Ideal) V) b t) (fun k => at' V main_arg12 (ix3 0 0 k)) (fun k => at' V main_arg13 (ix3 0 0 k)) n := by
  pointwise [res_main_v62, res_main_v44, res_main_v42]
  rfl

theorem v74_apply (b : Fin 8) (t : Fin 4096) (j : Fin 2840) :
    res_main_v74 (F := Ideal) V (ix3 b t j)
      = rowDot (modul (tok (res_main_v62 V) b t) (md V b 4) (md V b 3)) (fun k => at' V main_arg8 (ix3 0 k j)) := by
  pointwise [res_main_v74]
  rfl

theorem v89_apply (b : Fin 8) (t : Fin 4096) (n : Fin 1024) :
    res_main_v89 (F := Ideal) V (ix3 b t n)
      = cAlpha * res_main_v62 V (ix3 b t n) + md V b 5 n *
          rowDot (tok (at' V main_arg1) b t) (fun k => at' V main_arg9 (ix3 0 k n)) := by
  pointwise [res_main_v89]
  rfl

theorem v117_apply (b : Fin 8) (t : Fin 4096) (n : Fin 1024) :
    res_main_v117 (F := Ideal) V (ix3 b t n)
      = lnorm (tok (res_main_v89 (F := Ideal) V) b t) (fun k => at' V main_arg12 (ix3 0 1 k)) (fun k => at' V main_arg13 (ix3 0 1 k)) n := by
  pointwise [res_main_v117, res_main_v99, res_main_v97]
  rfl

theorem v136_apply (b : Fin 8) (t : Fin 4096) (j : Fin 5632) :
    res_main_v136 (F := Ideal) V (ix3 b t j)
      = rowDot (modul (tok (res_main_v117 V) b t) (md V b 7) (md V b 6)) (fun k => at' V main_arg10 (ix3 0 k j)) := by
  pointwise [res_main_v136]
  rfl

theorem v144_apply (b : Fin 8) (t : Fin 4096) (n : Fin 1024) :
    res_main_v144 (F := Ideal) V (ix3 b t n)
      = cAlpha * res_main_v117 V (ix3 b t n) + cHalf * md V b 8 n *
          ffn (modul (tok (res_main_v117 V) b t) (md V b 7) (md V b 6)) (fun k j => at' V main_arg10 (ix3 0 k j))
            (fun j n => at' V main_arg11 (ix3 0 j n)) n := by
  pointwise [res_main_v144, res_main_v137]
  simp only [v136_apply]
  rfl

/-- The layer's output. -/
def outY : FVec Ideal S8x4096x1024 .f32 :=
  addf (mulf (mulf (subf (res_main_v144 V) (broadcastInDim S8x4096x1024 ![0, 1, 2] bcast_S8x4096x1_S8x4096x1024_0_1_2 (res_main_v152 V))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v154 V) (res_main_v154 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (V (Proc.devRef .tc main_arg12)) slices_S1x3x1024_S1x1x1024_0_2_0) shapeCasts_S1x1x1024_S1024)))) (broadcastInDim S8x4096x1024 ![0, 1, 2] bcast_S1x1x1024_S8x4096x1024_0_1_2 (broadcastInDim S1x1x1024 ![2] bcast_S1024_S1x1x1024_2 (shapeCast _ (extractStridedSlice S1x1x1024 ![0, 2, 0] (V (Proc.devRef .tc main_arg13)) slices_S1x3x1024_S1x1x1024_0_2_0) shapeCasts_S1x1x1024_S1024)))

/-- The stick-breaking cache's rows. -/
def outSb : FVec Ideal S1x8x4096x2x8x64 .f32 :=
  broadcastInDim S1x8x4096x2x8x64 ![1, 2, 3, 4, 5] bcast_S8x4096x2x8x64_S1x8x4096x2x8x64_1_2_3_4_5 (shapeCast _ (extractStridedSlice S8x4096x1024 ![0, 0, 512] (res_main_v74 V) slices_S8x4096x2840_S8x4096x1024_0_0_512) shapeCasts_S8x4096x1024_S8x4096x2x8x64)

/-- The compressed and selected pairs' rows. -/
def outNsa : FVec Ideal S1x8x4096x4x2x64 .f32 :=
  broadcastInDim S1x8x4096x4x2x64 ![1, 2, 3, 4, 5] bcast_S8x4096x4x2x64_S1x8x4096x4x2x64_1_2_3_4_5 (shapeCast _ (extractStridedSlice S8x4096x512 ![0, 0, 2048] (res_main_v74 V) slices_S8x4096x2840_S8x4096x512_0_0_2048) shapeCasts_S8x4096x512_S8x4096x4x2x64)

/-- The window's rows. -/
def outWin : FVec Ideal S1x8x512x2x2x64 .f32 :=
  broadcastInDim S1x8x512x2x2x64 ![1, 2, 3, 4, 5] bcast_S8x512x2x2x64_S1x8x512x2x2x64_1_2_3_4_5 (extractStridedSlice S8x512x2x2x64 ![0, 3584, 0, 0, 0] (shapeCast _ (extractStridedSlice S8x4096x256 ![0, 0, 2560] (res_main_v74 V) slices_S8x4096x2840_S8x4096x256_0_0_2560) shapeCasts_S8x4096x256_S8x4096x2x2x64) slices_S8x4096x2x2x64_S8x512x2x2x64_0_3584_0_0_0)

/-- The stick-breaking heads' queries. -/
def outQsb : FVec Ideal S8x4096x8x64 .bf16 :=
  truncf .bf16 (shapeCast _ (mulf (extractStridedSlice S8x4096x512 ![0, 0, 0] (res_main_v74 V) slices_S8x4096x2840_S8x4096x512_0_0_0) (broadcastInDim S8x4096x512 ![] bcast_S_S8x4096x512 (constant S_ .f32 0x3E000000#32))) shapeCasts_S8x4096x512_S8x4096x8x64) bitsLt_bf16_f32

/-- The other heads' queries. -/
def outQn : FVec Ideal S8x4096x8x64 .bf16 :=
  truncf .bf16 (shapeCast _ (mulf (extractStridedSlice S8x4096x512 ![0, 0, 1536] (res_main_v74 V) slices_S8x4096x2840_S8x4096x512_0_0_1536) (broadcastInDim S8x4096x512 ![] bcast_S_S8x4096x512 (constant S_ .f32 0x3E000000#32))) shapeCasts_S8x4096x512_S8x4096x8x64) bitsLt_bf16_f32

/-- The gate. -/
def outGate : FVec Ideal S8x4096x8x3 .f32 :=
  shapeCast _ (Host.divf (broadcastInDim S8x4096x24 ![] bcast_S_S8x4096x24 (constant S_ .f32 0x3F800000#32)) (addf (broadcastInDim S8x4096x24 ![] bcast_S_S8x4096x24 (constant S_ .f32 0x3F800000#32)) (Host.exp (Host.negf (extractStridedSlice S8x4096x24 ![0, 0, 2816] (res_main_v74 V) slices_S8x4096x2840_S8x4096x24_0_0_2816))))) shapeCasts_S8x4096x24_S8x4096x8x3

theorem outY_apply (b : Fin 8) (t : Fin 4096) (n : Fin 1024) :
    outY V (ix3 b t n)
      = lnorm (tok (res_main_v144 (F := Ideal) V) b t) (fun k => at' V main_arg12 (ix3 0 2 k)) (fun k => at' V main_arg13 (ix3 0 2 k)) n := by
  pointwise [outY, res_main_v154, res_main_v152]
  rfl

theorem outSb_apply (b : Fin 8) (t : Fin 4096) (s : Fin 2) (h : Fin 8) (d : Fin 64) :
    outSb V (ix6 0 b t s h d) = res_main_v74 V (ix3 b t ⟨512 + (s.val * 512 + h.val * 64 + d.val), by omega⟩) := by
  pointwise [outSb]

theorem outNsa_apply (b : Fin 8) (t : Fin 4096) (s : Fin 4) (h : Fin 2) (d : Fin 64) :
    outNsa V (ix6 0 b t s h d) = res_main_v74 V (ix3 b t ⟨2048 + (s.val * 128 + h.val * 64 + d.val), by omega⟩) := by
  pointwise [outNsa]

theorem outWin_apply (b : Fin 8) (t : Fin 512) (s : Fin 2) (h : Fin 2) (d : Fin 64) :
    outWin V (ix6 0 b t s h d)
      = res_main_v74 V (ix3 b ⟨3584 + t.val, by omega⟩ ⟨2560 + (s.val * 128 + h.val * 64 + d.val), by omega⟩) := by
  pointwise [outWin]

/-- The projection's rows. -/
abbrev proj : FVec Ideal S8x4096x2840 .f32 := res_main_v74 (F := Ideal) V

theorem outQsb_apply (b : Fin 8) (t : Fin 4096) (h : Fin 8) (d : Fin 64) :
    outQsb V (ix4 b t h d) = proj V (ix3 b t ⟨h.val * 64 + d.val, by omega⟩) * cScale := by
  pointwise [outQsb]

theorem outQn_apply (b : Fin 8) (t : Fin 4096) (h : Fin 8) (d : Fin 64) :
    outQn V (ix4 b t h d) = proj V (ix3 b t ⟨1536 + (h.val * 64 + d.val), by omega⟩) * cScale := by
  pointwise [outQn]

theorem outGate_apply (b : Fin 8) (t : Fin 4096) (h : Fin 8) (j : Fin 3) :
    outGate V (ix4 b t h j) = sg (res_main_v74 V (ix3 b t ⟨2816 + (h.val * 3 + j.val), by omega⟩)) := by
  pointwise [outGate]
  rfl

/-! ## The results as the specification's -/

/-- The reference's arguments. -/
def args : Args 8 4096 where
  x := at' V main_arg0
  o := at' V main_arg1
  c := at' V main_arg2
  wAda := at' V main_arg4
  bAda := at' V main_arg5
  up1 := at' V main_arg6
  dn1 := at' V main_arg7
  wIn := at' V main_arg8
  wO := at' V main_arg9
  up2 := at' V main_arg10
  dn2 := at' V main_arg11
  g := at' V main_arg12
  b := at' V main_arg13

theorem md_eq (b : Fin 8) : md V b = (args V).mods b := funext fun i => funext fun n => v7_apply V b i n

theorem x1_eq (b : Fin 8) (t : Fin 4096) : tok (res_main_v62 (F := Ideal) V) b t = (args V).x1 (md V b) b t :=
  funext fun n => (v62_apply V b t n).trans
    (congrArg (fun y => lnorm y ((args V).gain 0) ((args V).bias 0) n) (funext fun k => v34_apply V b t k))

theorem h_eq (b : Fin 8) (t : Fin 4096) (j : Fin 2840) :
    res_main_v74 (F := Ideal) V (ix3 b t j) = (args V).h ((args V).mods b) b t j := by
  rw [← md_eq]
  exact (v74_apply V b t j).trans
    (congrArg (fun y => rowDot (modul y (md V b 4) (md V b 3)) fun k => at' V main_arg8 (ix3 0 k j)) (x1_eq V b t))

theorem x2_eq (b : Fin 8) (t : Fin 4096) : tok (res_main_v117 (F := Ideal) V) b t = (args V).x2 (md V b) b t :=
  funext fun n => (v117_apply V b t n).trans
    ((congrArg (fun y => lnorm y ((args V).gain 1) ((args V).bias 1) n) (funext fun k => v89_apply V b t k)).trans
      (congrArg (fun y => postMix y (fun n => rowDot (tok (at' V main_arg1) b t) fun k => at' V main_arg9 (ix3 0 k n)) (md V b 5)
        ((args V).gain 1) ((args V).bias 1) n) (x1_eq V b t)))

theorem y_eq (b : Fin 8) (t : Fin 4096) (n : Fin 1024) : outY V (ix3 b t n) = (args V).y ((args V).mods b) b t n := by
  rw [← md_eq]
  exact (outY_apply V b t n).trans
    ((congrArg (fun y => lnorm y ((args V).gain 2) ((args V).bias 2) n) (funext fun k => v144_apply V b t k)).trans
      (congrArg (fun y => ffLayer y (md V b 7) (md V b 6) (md V b 8) (fun k j => at' V main_arg10 (ix3 0 k j))
        (fun j n => at' V main_arg11 (ix3 0 j n)) ((args V).gain 2) ((args V).bias 2) n) (x2_eq V b t)))

end Cert.Proof.FF.Ref
-- ==== Proof.FF.Value.lean ====
/-
  The prompt path against its reference: at finite conditioning vectors and modulation weights the four calls leave the
  reference's results, entry by entry.
-/
module

public import proofs.«01_k».proof.Proof.FF.Arrays
public import proofs.«01_k».proof.Proof.FF.Host
public import proofs.«01_k».proof.Proof.FF.HostQ
public import proofs.«01_k».proof.Proof.FF.Run
public import proofs.«01_k».proof.Proof.FF.Ref
public import proofs.«01_k».proof.Proof.SBV.Value
public import proofs.«01_k».proof.Defs
public import Idealize.ShloMosaic.Lib.ReduceAll

@[expose] public section

set_option maxRecDepth 16384

noncomputable section

namespace Cert.Proof.FF

open Cert.Kernel2Ideal Cert.Kernel2Ideal.Gen
open Idealize.ShloMosaic Idealize.ShloMosaic.TcCoe Idealize.ShloMosaic.Tactic Idealize.SL.Sem

/-! ## Finite arguments are real -/

instance : Subsingleton Cert.Pre_finite2.S_.Idx := ⟨fun _ _ => funext fun a => a.elim0⟩

section Entry

variable (m : (ℓ : Loc nD τ sig) → Buf (Elt Ideal) ℓ) (ρ : Dev nD → PrngReg) (c : Dev nD)

/-- The kernel's arguments. -/
def kArgs : Args 8 4096 where
  x := argOf m c main_arg0
  o := argOf m c main_arg1
  c := argOf m c main_arg2
  wAda := argOf m c main_arg4
  bAda := argOf m c main_arg5
  up1 := argOf m c main_arg6
  dn1 := argOf m c main_arg7
  wIn := argOf m c main_arg8
  wO := argOf m c main_arg9
  up2 := argOf m c main_arg10
  dn2 := argOf m c main_arg11
  g := argOf m c main_arg12
  b := argOf m c main_arg13

/-- The modulation vectors of prompt `b` as the first call leaves them. -/
def kMods (b : Fin 8) (i : Fin 9) : Fin 1024 → EReal := fun k => W5 (F := Ideal) m ρ c main_v9 (ix4 i b 0 k)

/-- A flat row's prompt and position. -/
abbrev bOf (r : Fin 32768) : Fin 8 := ⟨r.val / 4096, by omega⟩
abbrev tOf (r : Fin 32768) : Fin 4096 := ⟨r.val % 4096, by omega⟩

theorem kMods_eq (hc : ∀ i, ∃ y : ℝ, (argOf m c main_arg2 : FVec Ideal S8x1024 .f32) i = (y : EReal))
    (hw : ∀ i, ∃ y : ℝ, (argOf m c main_arg4 : FVec Ideal S1x1024x9216 .f32) i = (y : EReal)) (b : Fin 8) :
    kMods m ρ c b = (kArgs m c).mods b := by
  funext i n
  refine (congrFun (W5_of m ρ c main_v9 (by decide)) _).trans ((congrFun (W4_of m ρ c main_v9 (by decide)) _).trans
    ((w3_v9 m ρ c i b n).trans ((congrFun ((W2_arr m ρ c 3).trans (arr0 (V1 m ρ) c)) _).trans ?_)))
  refine Eq.trans (b := adaRaw (fun k => argOf m c main_arg2 (ix2 b k))
    (fun k => argOf m c main_arg4 (ix3 0 k ⟨i.val * 1024 + n.val, by omega⟩))
    (argOf m c main_arg5 (ix2 0 ⟨i.val * 1024 + n.val, by omega⟩))) ?_ (adaRaw_eq _ (fun k => hc _) fun k => hw _)
  exact ada_congr (funext fun k => (w1_v1 m ρ c ⟨b.val, by omega⟩ k).trans (dif_pos b.isLt))
    (funext fun k => w1_v2 m ρ c k _) (w1_v4 m ρ c _)

/-! ## The second call -/

theorem w5_v0 (r : Fin 32768) (k : Fin 1024) :
    W5 (F := Ideal) m ρ c main_v0 (ix2 r k) = argOf m c main_arg0 (ix3 (bOf r) (tOf r) k) :=
  (congrFun ((W5_of m ρ c main_v0 (by decide)).trans ((W4_of m ρ c main_v0 (by decide)).trans
    ((W3_of m ρ c main_v0 (by decide)).trans (W2_of m ρ c main_v0 (by decide))))) _).trans (w1_v0 m ρ c r k)

/-- The first feed-forward layer's weights at the second call. -/
theorem w5_v11 (k : Fin 1024) (j : Fin 5632) : W5 (F := Ideal) m ρ c main_v11 (ix2 k j) = argOf m c main_arg6 (ix3 0 k j) :=
  (congrFun ((W5_of m ρ c main_v11 (by decide)).trans (W4_of m ρ c main_v11 (by decide))) _).trans
    ((w3_v11 m ρ c k j).trans (congrFun (W2_args m ρ c main_arg6 (by decide)) _))

theorem w5_v13 (j : Fin 2816) (n : Fin 1024) : W5 (F := Ideal) m ρ c main_v13 (ix2 j n) = argOf m c main_arg7 (ix3 0 j n) :=
  (congrFun ((W5_of m ρ c main_v13 (by decide)).trans (W4_of m ρ c main_v13 (by decide))) _).trans
    ((w3_v13 m ρ c j n).trans (congrFun (W2_args m ρ c main_arg7 (by decide)) _))

theorem x1_row (r : Fin 32768) (n : Fin 1024) :
    W6 (F := Ideal) m ρ c main_v102 (ix2 r n) = (kArgs m c).x1 (kMods m ρ c (bOf r)) (bOf r) (tOf r) n :=
  (congrFun ((W6_arr m ρ c 6).trans (arr1 (V5 m ρ) c)) (ix2 r n)).trans
    (ffLayer_congr (funext fun k => w5_v0 m ρ c r k) rfl rfl rfl (funext fun k => funext fun j => w5_v11 m ρ c k j)
      (funext fun j => funext fun n => w5_v13 m ρ c j n)
      (funext fun k => (w5_v100 m ρ c k).trans (congrFun (W4_args m ρ c main_arg12 (by decide)) _))
      (funext fun k => (w5_v101 m ρ c k).trans (congrFun (W4_args m ρ c main_arg13 (by decide)) _)) n)

/-! ## The third call -/

theorem w6_v9 : W6 (F := Ideal) m ρ c main_v9 = W5 (F := Ideal) m ρ c main_v9 := W6_of m ρ c main_v9 (by decide)

theorem w6_v89 : W6 (F := Ideal) m ρ c main_v89 = W5 (F := Ideal) m ρ c main_v89 := W6_of m ρ c main_v89 (by decide)

/-- The projection at a token, from a row of the transposed weights. -/
theorem h_row (b : Fin 8) (t : Fin 4096) (f : Fin 1792) (j : Fin 2840)
    (hj : ∀ k, W5 (F := Ideal) m ρ c main_v89 (ix2 f k) = W2 (F := Ideal) m ρ c main_arg8 (ix3 0 k j)) :
    rowDot (modul (row (V6 (F := Ideal) m ρ c main_v102) ⟨b.val * 4096 + t.val, by omega⟩)
        (fun k => V6 (F := Ideal) m ρ c main_v9 (ix4 4 b 0 k)) (fun k => V6 (F := Ideal) m ρ c main_v9 (ix4 3 b 0 k)))
      (fun k => V6 (F := Ideal) m ρ c main_v89 (ix2 f k)) = (kArgs m c).h (kMods m ρ c b) b t j := by
  have hb : bOf ⟨b.val * 4096 + t.val, by omega⟩ = b := Fin.ext (by show (b.val * 4096 + t.val) / 4096 = b.val; omega)
  have ht : tOf ⟨b.val * 4096 + t.val, by omega⟩ = t := Fin.ext (by show (b.val * 4096 + t.val) % 4096 = t.val; omega)
  have hx := fun n => x1_row m ρ c ⟨b.val * 4096 + t.val, by omega⟩ n
  rw [hb, ht] at hx
  exact rowDot_congr (funext fun n => congr_modul (funext fun k => hx k) (funext fun k => congrFun (w6_v9 m ρ c) _)
    (funext fun k => congrFun (w6_v9 m ρ c) _) n)
    (funext fun k => (congrFun (w6_v89 m ρ c) _).trans ((hj k).trans (congrFun (W2_args m ρ c main_arg8 (by decide)) _)))

theorem sb_row (b : Fin 8) (f : Fin 1024) (t : Fin 4096) :
    W9 (F := Ideal) m ρ c main_v103_4 (ix3 b f t) = (kArgs m c).h (kMods m ρ c b) b t ⟨512 + f.val, by omega⟩ :=
  (congrFun ((W9_of m ρ c main_v103_4 (by decide)).trans ((W8_of m ρ c main_v103_4 (by decide)).trans
    ((W7_arr m ρ c 8).trans (arr2_8 (V6 m ρ) c)))) (ix3 b f t)).trans
    ((rowDot_congr rfl (funext fun k => congrArg (fun z => V6 (F := Ideal) m ρ c main_v89 (ix2 z k)) (Fin.ext (by show 0 + f.val = f.val; omega)))).trans
      (h_row m ρ c b t ⟨f.val, by omega⟩ _ fun k => w5_v89_sb m ρ c f k))

theorem nsa_row (b : Fin 8) (f : Fin 512) (t : Fin 4096) :
    W9 (F := Ideal) m ρ c main_v103_5 (ix3 b f t) = (kArgs m c).h (kMods m ρ c b) b t ⟨2048 + f.val, by omega⟩ :=
  (congrFun ((W9_of m ρ c main_v103_5 (by decide)).trans ((W8_of m ρ c main_v103_5 (by decide)).trans
    ((W7_arr m ρ c 9).trans (arr2_9 (V6 m ρ) c)))) (ix3 b f t)).trans
    (h_row m ρ c b t ⟨1024 + f.val, by omega⟩ _ fun k => w5_v89_nsa m ρ c f k)

theorem win_row (b : Fin 8) (f : Fin 256) (t : Fin 4096) :
    W9 (F := Ideal) m ρ c main_v103_6 (ix3 b f t) = (kArgs m c).h (kMods m ρ c b) b t ⟨2560 + f.val, by omega⟩ :=
  (congrFun ((W9_of m ρ c main_v103_6 (by decide)).trans ((W8_of m ρ c main_v103_6 (by decide)).trans
    ((W7_arr m ρ c 10).trans (arr2_10 (V6 m ρ) c)))) (ix3 b f t)).trans
    (h_row m ρ c b t ⟨1536 + f.val, by omega⟩ _ fun k => w5_v89_win m ρ c f k)

/-! The row-major outputs: the queries and the gate. -/

theorem w6_v87 : W6 (F := Ideal) m ρ c main_v87 = W5 (F := Ideal) m ρ c main_v87 := W6_of m ρ c main_v87 (by decide)

/-- The projection at a token, from a column of the weights that the host code scaled by `s`. -/
theorem col_row (b : Fin 8) (t : Fin 4096) (n o : ℕ) (h : o + n ≤ 3968) (f : Fin n) (w : Fin 1024 → EReal)
    (hw : ∀ k, @Eq EReal (W5 (F := Ideal) m ρ c main_v87 (ix2 k ⟨o + f.val, by omega⟩)) (w k)) :
    colArr n o h (V6 (F := Ideal) m ρ c main_v102) (V6 (F := Ideal) m ρ c main_v9) (V6 (F := Ideal) m ρ c main_v87)
        (ix2 ⟨b.val * 4096 + t.val, by omega⟩ f)
      = rowDot (modul ((kArgs m c).x1 (kMods m ρ c b) b t) (kMods m ρ c b 4) (kMods m ρ c b 3)) w := by
  have hb : bOf ⟨b.val * 4096 + t.val, by omega⟩ = b := Fin.ext (by show (b.val * 4096 + t.val) / 4096 = b.val; omega)
  have ht : tOf ⟨b.val * 4096 + t.val, by omega⟩ = t := Fin.ext (by show (b.val * 4096 + t.val) % 4096 = t.val; omega)
  have hx := fun n => x1_row m ρ c ⟨b.val * 4096 + t.val, by omega⟩ n
  rw [hb, ht] at hx
  have hm : ∀ i, pmod (V6 (F := Ideal) m ρ c main_v9) i ⟨b.val * 4096 + t.val, by omega⟩ = kMods m ρ c b i := fun i =>
    funext fun k => (congrFun (w6_v9 m ρ c) _).trans (congrArg (fun z => W5 (F := Ideal) m ρ c main_v9 (ix4 i z 0 k)) hb)
  exact rowDot_congr (funext fun n => congr_modul (funext fun k => hx k) (hm 4) (hm 3) n)
    (funext fun k => (congrFun (w6_v87 m ρ c) _).trans (hw k))

/-- The projection's weights before the third call are the argument's. -/
theorem wIn2_eq (k : Fin 1024) (j : Fin 2840) : wIn2 m ρ c (ix3 0 k j) = (kArgs m c).wIn (ix3 0 k j) :=
  congrFun (W2_args m ρ c main_arg8 (by decide)) _

theorem qsb_row (b : Fin 8) (t : Fin 4096) (h : Fin 8) (d : Fin 64) :
    @Eq EReal (W9 (F := Ideal) m ρ c main_v103_0 (ix2 ⟨b.val * 4096 + t.val, by omega⟩ ⟨h.val * 128 + (h.val % 2 * 64 + d.val), by omega⟩))
      ((kArgs m c).h (kMods m ρ c b) b t ⟨h.val * 64 + d.val, by omega⟩ * cScale) :=
  (congrFun ((W9_of m ρ c main_v103_0 (by decide)).trans ((W8_of m ρ c main_v103_0 (by decide)).trans
    ((W7_arr m ρ c 4).trans (arr2_4 (V6 m ρ) c)))) (ix2 ⟨b.val * 4096 + t.val, by omega⟩ ⟨h.val * 128 + (h.val % 2 * 64 + d.val), by omega⟩)).trans
    ((col_row m ρ c b t 1024 0 (by omega) _ _ fun k => (congrArg (fun z => W5 (F := Ideal) m ρ c main_v87 (ix2 k z))
      (Fin.ext (Nat.zero_add _))).trans ((w5_v87_sb m ρ c k h d).trans (congrArg (· * cScale) (wIn2_eq m ρ c k _)))).trans (rowDot_cScale _ _))

theorem qn_row (b : Fin 8) (t : Fin 4096) (h : Fin 8) (d : Fin 64) :
    @Eq EReal (W9 (F := Ideal) m ρ c main_v103_1 (ix2 ⟨b.val * 4096 + t.val, by omega⟩ ⟨h.val * 128 + d.val, by omega⟩))
      ((kArgs m c).h (kMods m ρ c b) b t ⟨1536 + (h.val * 64 + d.val), by omega⟩ * cScale) :=
  (congrFun ((W9_of m ρ c main_v103_1 (by decide)).trans ((W8_of m ρ c main_v103_1 (by decide)).trans
    ((W7_arr m ρ c 5).trans (arr2_5 (V6 m ρ) c)))) (ix2 ⟨b.val * 4096 + t.val, by omega⟩ ⟨h.val * 128 + d.val, by omega⟩)).trans
    ((col_row m ρ c b t 1024 1024 (by omega) _ _ fun k =>
      (w5_v87_nsa m ρ c k h d).trans (congrArg (· * cScale) (wIn2_eq m ρ c k _))).trans (rowDot_cScale _ _))

theorem gate_row (b : Fin 8) (t : Fin 4096) (j : Fin 24) :
    @Eq EReal (W9 (F := Ideal) m ρ c main_v103_2 (ix2 ⟨b.val * 4096 + t.val, by omega⟩ ⟨j.val, by omega⟩))
      (sg ((kArgs m c).h (kMods m ρ c b) b t ⟨2816 + j.val, by omega⟩)) :=
  (congrFun ((W9_of m ρ c main_v103_2 (by decide)).trans ((W8_of m ρ c main_v103_2 (by decide)).trans
    ((W7_arr m ρ c 6).trans (arr2_6 (V6 m ρ) c)))) (ix2 ⟨b.val * 4096 + t.val, by omega⟩ ⟨j.val, by omega⟩)).trans
    (congrArg sg (col_row m ρ c b t 128 2048 (by omega) _ _ fun k => (w5_v87_gate m ρ c k j).trans (wIn2_eq m ρ c k _)))

/-! ## The last call -/

/-- A buffer that neither the second and third call nor the stretch after them writes. -/
theorem w8_of_w5 (r : Ref sig .tc) (h6 : ∀ w : Fin cfg1.W, Pipeline.arrRef spec1 w = r → (cfg1.win w).isOut = false)
    (h7 : ∀ w : Fin cfg2.W, Pipeline.arrRef spec2 w = r → (cfg2.win w).isOut = false) (h8 : r ∉ hostOps3_W) :
    W8 (F := Ideal) m ρ c (Proc.devRef .tc r) = W5 (F := Ideal) m ρ c (Proc.devRef .tc r) :=
  (W8_of m ρ c r h8).trans ((W7_of m ρ c r h7).trans (W6_of m ρ c r h6))

theorem w8_v102 (r : Fin 32768) (n : Fin 1024) :
    W8 (F := Ideal) m ρ c main_v102 (ix2 r n) = (kArgs m c).x1 (kMods m ρ c (bOf r)) (bOf r) (tOf r) n :=
  (congrFun ((W8_of m ρ c main_v102 (by decide)).trans (W7_of m ρ c main_v102 (by decide))) _).trans (x1_row m ρ c r n)

theorem w8_v9 : W8 (F := Ideal) m ρ c main_v9 = W5 (F := Ideal) m ρ c main_v9 :=
  w8_of_w5 m ρ c main_v9 (by decide) (by decide) (by decide)

theorem w8_v15 (k : Fin 1024) (j : Fin 5632) : W8 (F := Ideal) m ρ c main_v15 (ix2 k j) = argOf m c main_arg10 (ix3 0 k j) :=
  (congrFun ((w8_of_w5 m ρ c main_v15 (by decide) (by decide) (by decide)).trans
    ((W5_of m ρ c main_v15 (by decide)).trans (W4_of m ρ c main_v15 (by decide)))) _).trans
    ((w3_v15 m ρ c k j).trans (congrFun (W2_args m ρ c main_arg10 (by decide)) _))

theorem w8_v17 (j : Fin 2816) (n : Fin 1024) : W8 (F := Ideal) m ρ c main_v17 (ix2 j n) = argOf m c main_arg11 (ix3 0 j n) :=
  (congrFun ((w8_of_w5 m ρ c main_v17 (by decide) (by decide) (by decide)).trans
    ((W5_of m ρ c main_v17 (by decide)).trans (W4_of m ρ c main_v17 (by decide)))) _).trans
    ((w3_v17 m ρ c j n).trans (congrFun (W2_args m ρ c main_arg11 (by decide)) _))

/-- The norms' weights and offsets at the last call: rows one and two. -/
theorem w8_gain (i : Fin 2) (n : Fin 1024) :
    W8 (F := Ideal) m ρ c main_v112 (ix2 i n) = argOf m c main_arg12 (ix3 0 ⟨1 + i.val, by omega⟩ n) :=
  (w8_v112 m ρ c i n).trans ((congrFun ((W7_of m ρ c main_v98 (by decide)).trans (W6_of m ρ c main_v98 (by decide))) _).trans
    ((w5_v98 m ρ c _ n).trans (congrFun (W4_args m ρ c main_arg12 (by decide)) _)))

theorem w8_bias (i : Fin 2) (n : Fin 1024) :
    W8 (F := Ideal) m ρ c main_v113 (ix2 i n) = argOf m c main_arg13 (ix3 0 ⟨1 + i.val, by omega⟩ n) :=
  (w8_v113 m ρ c i n).trans ((congrFun ((W7_of m ρ c main_v99 (by decide)).trans (W6_of m ρ c main_v99 (by decide))) _).trans
    ((w5_v99 m ρ c _ n).trans (congrFun (W4_args m ρ c main_arg13 (by decide)) _)))

/-- The output projection's product. -/
theorem halves_row (r : Fin 32768) (n : Fin 1024) :
    halvesArr (V8 (F := Ideal) m ρ c main_v110) (V8 (F := Ideal) m ρ c main_v111) (V8 (F := Ideal) m ρ c main_v92)
        (V8 (F := Ideal) m ρ c main_v97) r n
      = rowDot (fun k => (kArgs m c).o (ix3 (bOf r) (tOf r) k)) fun k => (kArgs m c).wO (ix3 0 k n) := by
  refine Eq.trans ?_ (rowDot_halves (fun k => (kArgs m c).o (ix3 (bOf r) (tOf r) k)) fun k => (kArgs m c).wO (ix3 0 k n))
  refine congrArg₂ (· + ·) (rowDot_congr (funext fun k => ?_) (funext fun k => ?_)) (rowDot_congr (funext fun k => ?_) (funext fun k => ?_))
  · exact (w8_v110 m ρ c r k).trans (congrFun (W7_args m ρ c main_arg1 (by decide)) _)
  · exact (congrFun (w8_of_w5 m ρ c main_v92 (by decide) (by decide) (by decide)) _).trans
      ((w5_v92 m ρ c k n).trans (congrFun (W4_args m ρ c main_arg9 (by decide)) _))
  · exact (w8_v111 m ρ c r k).trans (congrFun (W7_args m ρ c main_arg1 (by decide)) _)
  · exact (congrFun (w8_of_w5 m ρ c main_v97 (by decide) (by decide) (by decide)) _).trans
      ((w5_v97 m ρ c k n).trans (congrFun (W4_args m ρ c main_arg9 (by decide)) _))

theorem y_row (r : Fin 32768) (n : Fin 1024) :
    W9 (F := Ideal) m ρ c main_v114 (ix2 r n) = (kArgs m c).y (kMods m ρ c (bOf r)) (bOf r) (tOf r) n :=
  have hm : ∀ i, pmod (V8 (F := Ideal) m ρ c main_v9) i r = kMods m ρ c (bOf r) i := fun i => funext fun k => congrFun (w8_v9 m ρ c) _
  (congrFun ((W9_arr m ρ c 10).trans (arr3 (V8 m ρ) c)) (ix2 r n)).trans
    (ffLayer_congr (postMix_congr (funext fun k => w8_v102 m ρ c r k) (funext fun n => halves_row m ρ c r n) (hm 5)
        (funext fun k => w8_gain m ρ c 0 k) (funext fun k => w8_bias m ρ c 0 k))
      (hm 7) (hm 6) (hm 8) (funext fun k => funext fun j => w8_v15 m ρ c k j) (funext fun j => funext fun n => w8_v17 m ρ c j n)
      (funext fun k => w8_gain m ρ c 1 k) (funext fun k => w8_bias m ρ c 1 k) n)

end Entry

/-! ## The claim -/

theorem finite_real [Cert.Pre_finite2.Facts] (m : (ℓ : Loc nD τ sig) → Buf (Elt Ideal) ℓ)
    (hpre : Cert.Pre_Kernel2Ideal_finite2 m) (c : Dev nD) :
    (∀ i, ∃ y : ℝ, (argOf m c main_arg2 : FVec Ideal S8x1024 .f32) i = (y : EReal))
      ∧ ∀ i, ∃ y : ℝ, (argOf m c main_arg4 : FVec Ideal S1x1024x9216 .f32) i = (y : EReal) := by
  have hb : ∀ a b : BitVec 1, IntOp.andi a b = 1#1 → a = 1#1 ∧ b = 1#1 := by decide
  have h0 := congrFun (hpre c) ix0
  obtain ⟨h1, h2⟩ := hb _ _ h0
  exact ⟨fun i => SBV.real_of_olt _ (Host.reduce_andi_all _ _ _ _ _ h1 i),
    fun i => SBV.real_of_olt _ (Host.reduce_andi_all _ _ _ _ _ h2 i)⟩

/-- The kernel's results are the reference's at finite conditioning vectors and modulation weights. -/
theorem algebraic [Cert.Pre_finite2.Facts] : Cert.algebraic_Kernel2Ideal_Reference2Ideal_pre_finite2 := by
  intro m g m' g' hpre heq
  refine ⟨fun c => Ref.outY (StableHlo.launchContents m' c), fun c => Ref.outSb (StableHlo.launchContents m' c),
    fun c => Ref.outNsa (StableHlo.launchContents m' c), fun c => Ref.outWin (StableHlo.launchContents m' c),
    fun c => Ref.outQsb (StableHlo.launchContents m' c), fun c => Ref.outQn (StableHlo.launchContents m' c),
    fun c => Ref.outGate (StableHlo.launchContents m' c), ?_, ?_⟩
  · refine (θ_run defs _ _).mono (fun r h c => ?_) (run m g)
    obtain ⟨hy, hs, hn, hw, hq, hqn, hg, hargs⟩ := h c
    obtain ⟨fc, fw⟩ := finite_real m hpre c
    have hA : Ref.args (StableHlo.launchContents m' c) = kArgs m c := by
      obtain ⟨e0, e1, e2, e3, e4, e5, e6, e7, e8, e9, e10, e11, e12, e13⟩ := heq c
      unfold Ref.args kArgs
      exact congr (congr (congr (congr (congr (congr (congr (congr (congr (congr (congr (congr (congrArg (Args.mk (B := 8) (T := 4096)) e0) e1) e2) e4)
        e5) e6) e7) e8) e9) e10) e11) e12) e13
    have hM := kMods_eq m g c fc fw
    refine ⟨hy.trans (funext fun i => ?_), hs.trans (funext fun i => ?_), hn.trans (funext fun i => ?_),
      hw.trans (funext fun i => ?_), hq.trans (funext fun i => ?_), hqn.trans (funext fun i => ?_),
      hg.trans (funext fun i => ?_), hargs⟩
    · obtain ⟨b, t, n, rfl⟩ : ∃ b t n, i = ix3 b t n := ⟨_, _, _, eq_ix3 i⟩
      have hb : bOf ⟨b.val * 4096 + t.val, by omega⟩ = b := Fin.ext (by show (b.val * 4096 + t.val) / 4096 = b.val; omega)
      have ht : tOf ⟨b.val * 4096 + t.val, by omega⟩ = t := Fin.ext (by show (b.val * 4096 + t.val) % 4096 = t.val; omega)
      have h1 := y_row m g c ⟨b.val * 4096 + t.val, by omega⟩ n
      rw [hb, ht, hM] at h1
      have h2 := Ref.y_eq (StableHlo.launchContents m' c) b t n
      rw [hA] at h2
      exact (w10_v135 m g c b t n).trans (h1.trans h2.symm)
    · obtain ⟨z, b, t, s, h, d, rfl⟩ : ∃ z b t s h d, i = ix6 z b t s h d := ⟨_, _, _, _, _, _, eq_ix6 i⟩
      obtain rfl : z = 0 := Subsingleton.elim _ _
      have h1 := sb_row m g c b ⟨s.val * 512 + h.val * 64 + d.val, by omega⟩ t
      rw [hM] at h1
      have h2 := Ref.h_eq (StableHlo.launchContents m' c) b t ⟨512 + (s.val * 512 + h.val * 64 + d.val), by omega⟩
      rw [hA] at h2
      exact (w10_v136 m g c b t s h d).trans (h1.trans (h2.symm.trans (Ref.outSb_apply _ b t s h d).symm))
    · obtain ⟨z, b, t, s, h, d, rfl⟩ : ∃ z b t s h d, i = ix6 z b t s h d := ⟨_, _, _, _, _, _, eq_ix6 i⟩
      obtain rfl : z = 0 := Subsingleton.elim _ _
      have h1 := nsa_row m g c b ⟨s.val * 128 + h.val * 64 + d.val, by omega⟩ t
      rw [hM] at h1
      have h2 := Ref.h_eq (StableHlo.launchContents m' c) b t ⟨2048 + (s.val * 128 + h.val * 64 + d.val), by omega⟩
      rw [hA] at h2
      exact (w10_v137 m g c b t s h d).trans (h1.trans (h2.symm.trans (Ref.outNsa_apply _ b t s h d).symm))
    · obtain ⟨z, b, t, s, h, d, rfl⟩ : ∃ z b t s h d, i = ix6 z b t s h d := ⟨_, _, _, _, _, _, eq_ix6 i⟩
      obtain rfl : z = 0 := Subsingleton.elim _ _
      have h1 := win_row m g c b ⟨s.val * 128 + h.val * 64 + d.val, by omega⟩ ⟨3584 + t.val, by omega⟩
      rw [hM] at h1
      have h2 := Ref.h_eq (StableHlo.launchContents m' c) b ⟨3584 + t.val, by omega⟩
        ⟨2560 + (s.val * 128 + h.val * 64 + d.val), by omega⟩
      rw [hA] at h2
      exact (w10_v138 m g c b t s h d).trans (h1.trans (h2.symm.trans (Ref.outWin_apply _ b t s h d).symm))
    · obtain ⟨b, t, h, d, rfl⟩ : ∃ b t h d, i = ix4 b t h d := ⟨_, _, _, _, eq_ix4 i⟩
      have h1 := qsb_row m g c b t h d
      rw [hM] at h1
      have h2 := Ref.h_eq (StableHlo.launchContents m' c) b t ⟨h.val * 64 + d.val, by omega⟩
      rw [hA] at h2
      exact (w10_v130 m g c b t h d).trans (h1.trans ((congrArg (· * cScale) h2.symm).trans (Ref.outQsb_apply _ b t h d).symm))
    · obtain ⟨b, t, h, d, rfl⟩ : ∃ b t h d, i = ix4 b t h d := ⟨_, _, _, _, eq_ix4 i⟩
      have h1 := qn_row m g c b t h d
      rw [hM] at h1
      have h2 := Ref.h_eq (StableHlo.launchContents m' c) b t ⟨1536 + (h.val * 64 + d.val), by omega⟩
      rw [hA] at h2
      exact (w10_v132 m g c b t h d).trans (h1.trans ((congrArg (· * cScale) h2.symm).trans (Ref.outQn_apply _ b t h d).symm))
    · obtain ⟨b, t, h, d, rfl⟩ : ∃ b t h d, i = ix4 b t h d := ⟨_, _, _, _, eq_ix4 i⟩
      have h1 := gate_row m g c b t ⟨h.val * 3 + d.val, by omega⟩
      rw [hM] at h1
      have h2 := Ref.h_eq (StableHlo.launchContents m' c) b t ⟨2816 + (h.val * 3 + d.val), by omega⟩
      rw [hA] at h2
      exact (w10_v134 m g c b t h d).trans (h1.trans ((congrArg sg h2.symm).trans (Ref.outGate_apply _ b t h d).symm))
  · exact (θ_run Cert.Reference2Ideal.defs _ _).mono (fun r h c => h c)
      (Cert.Reference2Ideal.Value.run (F := Ideal) m' g')

end Cert.Proof.FF

end
-- ==== Proof.FS.Chunk.lean ====
/-
  One block of the samples' feed-forward product: 256 hidden units, both halves of the up-projection, their gated
  activation and its product with the down-projection's rows. The eleven blocks of a body, added up, are the whole
  feed-forward product of a row.
-/
module

public import proofs.«01_k».proof.Proof.Gen.Kernel3Ideal.Skeleton
public import proofs.«01_k».proof.Proof.FF.Math
public import Idealize.ShloMosaic.Lib.Pipeline.ValueKit.Tiles
public import Idealize.ShloMosaic.Lib.Pointwise
public import Idealize.ShloMosaic.Lib.Pointwise.IndexBridge

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

variable {F : FTy → Type} [FloatOps F]

/-! ## A block at array level -/

theorem inbG (c : Fin 11) : ∀ a, (![0, c.val * 256] : Fin 2 → ℕ) a + S1024x256.size a ≤ S1024x5632.size a := fun a =>
  match a with
  | 0 => by show 0 + 1024 ≤ 1024; omega
  | 1 => by show c.val * 256 + 256 ≤ 5632; omega

theorem inbV (c : Fin 11) : ∀ a, (![0, 2816 + c.val * 256] : Fin 2 → ℕ) a + S1024x256.size a ≤ S1024x5632.size a := fun a =>
  match a with
  | 0 => by show 0 + 1024 ≤ 1024; omega
  | 1 => by show 2816 + c.val * 256 + 256 ≤ 5632; omega

theorem inbD (c : Fin 11) : ∀ a, (![c.val * 256, 0] : Fin 2 → ℕ) a + S256x1024.size a ≤ S2816x1024.size a := fun a =>
  match a with
  | 0 => by show c.val * 256 + 256 ≤ 2816; omega
  | 1 => by show 0 + 1024 ≤ 1024; omega

/-- The up-projection's columns of block `c`: the gate's and the other half's; and the down-projection's rows. -/
def upG (up : Vec F S1024x5632 .bf16) (c : Fin 11) : Vec F S1024x256 .bf16 :=
  View.ld up (Rect.unit (s := S1024x5632) ![0, c.val * 256] S1024x256.size (inbG c))
def upV (up : Vec F S1024x5632 .bf16) (c : Fin 11) : Vec F S1024x256 .bf16 :=
  View.ld up (Rect.unit (s := S1024x5632) ![0, 2816 + c.val * 256] S1024x256.size (inbV c))
def dnR (dn : Vec F S2816x1024 .bf16) (c : Fin 11) : Vec F S256x1024 .bf16 :=
  View.ld dn (Rect.unit (s := S2816x1024) ![c.val * 256, 0] S256x1024.size (inbD c))

/-- Block `c` added to what the blocks before it left. -/
def addBlk (u : FVec F S512x1024 .bf16) (up : Vec F S1024x5632 .bf16) (dn : Vec F S2816x1024 .bf16) (c : Fin 11)
    (acc : FVec F S512x1024 .f32) : FVec F S512x1024 .f32 :=
  k1_pay5 u (upG up c) (upV up c) (dnR dn c) acc

/-- Block 0 alone. -/
def blk0 (u : FVec F S512x1024 .bf16) (up : Vec F S1024x5632 .bf16) (dn : Vec F S2816x1024 .bf16) : FVec F S512x1024 .f32 :=
  k3_pay9 (k1_pay23 u (upG up 0) (upV up 0) (dnR dn 0))

/-- All eleven. -/
def allBlks (u : FVec F S512x1024 .bf16) (up : Vec F S1024x5632 .bf16) (dn : Vec F S2816x1024 .bf16) : FVec F S512x1024 .f32 :=
  addBlk u up dn 10 (addBlk u up dn 9 (addBlk u up dn 8 (addBlk u up dn 7 (addBlk u up dn 6 (addBlk u up dn 5
    (addBlk u up dn 4 (addBlk u up dn 3 (addBlk u up dn 2 (addBlk u up dn 1 (blk0 u up dn))))))))))

/-! ## The same, at an entry -/

theorem upG_apply (up : FVec Ideal S1024x5632 .bf16) (c : Fin 11) (k : Fin 1024) (e : Fin 256) :
    upG (F := Ideal) up c (ix2 k e) = up (ix2 k ⟨c.val * 256 + e.val, by omega⟩) := by
  refine congrArg up (funext fun a => Fin.ext ?_)
  rw [Rect.idx_unit_val]
  match a with
  | 0 => exact Nat.zero_add _
  | 1 => rfl

theorem upV_apply (up : FVec Ideal S1024x5632 .bf16) (c : Fin 11) (k : Fin 1024) (e : Fin 256) :
    upV (F := Ideal) up c (ix2 k e) = up (ix2 k ⟨2816 + (c.val * 256 + e.val), by omega⟩) := by
  refine congrArg up (funext fun a => Fin.ext ?_)
  rw [Rect.idx_unit_val]
  match a with
  | 0 => exact Nat.zero_add _
  | 1 => exact Nat.add_assoc _ _ _

theorem dnR_apply (dn : FVec Ideal S2816x1024 .bf16) (c : Fin 11) (e : Fin 256) (n : Fin 1024) :
    dnR (F := Ideal) dn c (ix2 e n) = dn (ix2 ⟨c.val * 256 + e.val, by omega⟩ n) := by
  refine congrArg dn (funext fun a => Fin.ext ?_)
  rw [Rect.idx_unit_val]
  match a with
  | 0 => rfl
  | 1 => exact Nat.zero_add _

/-- The summand of a row's feed-forward product. -/
def term (u : FVec Ideal S512x1024 .bf16) (up : FVec Ideal S1024x5632 .bf16) (dn : FVec Ideal S2816x1024 .bf16)
    (r : Fin 512) (n : Fin 1024) (j : Fin 2816) : EReal :=
  hidden (fun k => u (ix2 r k)) (fun k j => up (ix2 k j)) j * dn (ix2 j n)

theorem addBlk_apply (u : FVec Ideal S512x1024 .bf16) (up : FVec Ideal S1024x5632 .bf16) (dn : FVec Ideal S2816x1024 .bf16)
    (c : Fin 11) (acc : FVec Ideal S512x1024 .f32) (r : Fin 512) (n : Fin 1024) :
    addBlk (F := Ideal) u up dn c acc (ix2 r n)
      = acc (ix2 r n) + ∑ e : Fin 256, term u up dn r n ⟨c.val * 256 + e.val, by omega⟩ := by
  unfold addBlk
  pointwise [k1_pay5]
  simp only [upG_apply, upV_apply, dnR_apply, sg_sub]
  rfl

theorem blk0_apply (u : FVec Ideal S512x1024 .bf16) (up : FVec Ideal S1024x5632 .bf16) (dn : FVec Ideal S2816x1024 .bf16)
    (r : Fin 512) (n : Fin 1024) :
    blk0 (F := Ideal) u up dn (ix2 r n) = ∑ e : Fin 256, term u up dn r n ⟨(0 : Fin 11).val * 256 + e.val, by omega⟩ := by
  unfold blk0
  pointwise [k3_pay9, k1_pay23]
  simp only [upG_apply, upV_apply, dnR_apply, sg_sub]
  rfl

theorem allBlks_apply (u : FVec Ideal S512x1024 .bf16) (up : FVec Ideal S1024x5632 .bf16) (dn : FVec Ideal S2816x1024 .bf16)
    (r : Fin 512) (n : Fin 1024) :
    allBlks (F := Ideal) u up dn (ix2 r n)
      = ffn (fun k => u (ix2 r k)) (fun k j => up (ix2 k j)) (fun j n => dn (ix2 j n)) n := by
  refine Eq.trans ?_ (upto_all (term u up dn r n))
  unfold allBlks
  simp only [addBlk_apply, blk0_apply, upto, zero_add]
  rfl

end Cert.Proof.FS
-- ==== Proof.FS.Body.lean ====
/-
  What each call of the samples' path leaves in its output blocks, as a vocabulary of named stages: the modulation, the
  first feed-forward layer, the projection's blocks, and the output projection with the second layer.
-/
module

public import proofs.«01_k».proof.Proof.Gen.Kernel3Ideal.Frame
public import proofs.«01_k».proof.Proof.FS.Chunk
public import Idealize.ShloMosaic.Lib.Pipeline.ValueKit.Acc

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

variable {F : FTy → Type} [FloatOps F]

/-! ## Stages -/

theorem inbM (i : Fin 9) : ∀ a, (![i.val, 0, 0, 0] : Fin 4 → ℕ) a + (![1, 1, 512, 1024] : Fin 4 → ℕ) a ≤ S9x1x512x1024.size a := fun a =>
  match a with
  | 0 => by show i.val + 1 ≤ 9; omega
  | 1 => by show 0 + 1 ≤ 1; omega
  | 2 => by show 0 + 512 ≤ 512; omega
  | 3 => by show 0 + 1024 ≤ 1024; omega

/-- The modulation vectors `i` of the 512 rows, of a block of nine. -/
def modAt (x : Vec F S9x1x512x1024 .f32) (i : Fin 9) : Vec F S1x1x512x1024 .f32 :=
  View.ld x (Rect.unit (s := S9x1x512x1024) ![i.val, 0, 0, 0] ![1, 1, 512, 1024] (inbM i))

theorem inbN (i : Fin 2) : ∀ a, (![i.val, 0] : Fin 2 → ℕ) a + (![1, 1024] : Fin 2 → ℕ) a ≤ S2x1024.size a := fun a =>
  match a with
  | 0 => by show i.val + 1 ≤ 2; omega
  | 1 => by show 0 + 1024 ≤ 1024; omega

/-- Row `i` of the two norms' vectors. -/
def normAt (x : Vec F S2x1024 .f32) (i : Fin 2) : Vec F S1x1024 .f32 :=
  View.ld x (Rect.unit (s := S2x1024) ![i.val, 0] ![1, 1024] (inbN i))

theorem inbP (o n : ℕ) (h : o + n ≤ 3968) : ∀ a, (![0, o] : Fin 2 → ℕ) a + (![1024, n] : Fin 2 → ℕ) a ≤ S1024x3968.size a := fun a =>
  match a with
  | 0 => by show 0 + 1024 ≤ 1024; omega
  | 1 => by show o + n ≤ 3968; omega

/-- The projection's `n` columns from `o` on. -/
def colsAt (x : Vec F S1024x3968 .bf16) (o n : ℕ) (h : o + n ≤ 3968) : Vec F (⟨2, ![1024, n]⟩ : Shape) .bf16 :=
  View.ld x (Rect.unit (s := S1024x3968) ![0, o] ![1024, n] (inbP o n h))

/-- The first feed-forward layer of 512 rows. -/
def body1 (x0 : Vec F S512x1024 .f32) (x1 : Vec F S9x1x512x1024 .f32) (x2 : Vec F S1024x5632 .bf16)
    (x3 : Vec F S2816x1024 .bf16) (x4 x5 : Vec F S1x1024 .f32) : Vec F S512x1024 .f32 :=
  k1_pay1 (k1_pay26 (k1_pay2 x0)) (k1_pay27 (modAt x1 2)) (Scalar.ofBits .f32 0x3F000000#32) (allBlks (k1_pay3 x0 (modAt x1 1) (modAt x1 0)) x2 x3) x4 x5

/-- The rows after the mixer's output projection and its norm. -/
def mixed (x0 : Vec F S512x1024 .f32) (x1 x2 : Vec F S512x512 .bf16) (x3 : Vec F S9x1x512x1024 .f32)
    (x4 x5 : Vec F S512x1024 .bf16) (x8 x9 : Vec F S2x1024 .f32) : FVec F S512x1024 .f32 :=
  k3_pay6 (k3_pay2 (normAt x8 0)) (k3_pay3 (normAt x9 0)) (k3_pay4 x1 x4 x2 x5 x0 (modAt x3 5))
    (k3_pay5 x1 x4 x2 x5 x0 (modAt x3 5))

/-- The second feed-forward layer's modulated rows. -/
def mixedU (x0 : Vec F S512x1024 .f32) (x1 x2 : Vec F S512x512 .bf16) (x3 : Vec F S9x1x512x1024 .f32)
    (x4 x5 : Vec F S512x1024 .bf16) (x8 x9 : Vec F S2x1024 .f32) : FVec F S512x1024 .bf16 :=
  k3_pay7 (k3_pay2 (normAt x8 0)) (k3_pay3 (normAt x9 0)) (k3_pay4 x1 x4 x2 x5 x0 (modAt x3 5))
    (k3_pay5 x1 x4 x2 x5 x0 (modAt x3 5)) (modAt x3 7) (modAt x3 6)

/-- The output projection and the second feed-forward layer of 512 rows. -/
def body3 (x0 : Vec F S512x1024 .f32) (x1 x2 : Vec F S512x512 .bf16) (x3 : Vec F S9x1x512x1024 .f32)
    (x4 x5 : Vec F S512x1024 .bf16) (x6 : Vec F S1024x5632 .bf16) (x7 : Vec F S2816x1024 .bf16)
    (x8 x9 : Vec F S2x1024 .f32) : Vec F S512x1024 .f32 :=
  k3_pay1 (k3_pay30 (mixed x0 x1 x2 x3 x4 x5 x8 x9)) (modAt x3 8) (allBlks (mixedU x0 x1 x2 x3 x4 x5 x8 x9) x6 x7)
    (normAt x8 1) (normAt x9 1)

/-! ## The calls' outputs -/

theorem out1_eq (c : Dev nD) (i : grid1.Coords) (arg1 : Memref sig .tc .vmem S512x1024 .f32) (harg1 : arg1.IsWhole) (arg2 : Memref sig .tc .vmem S9x1x512x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x1024 .f32) (x1 : Vec F S9x1x512x1024 .f32) (x2 : Vec F S1024x5632 .bf16) (x3 : Vec F S2816x1024 .bf16) (x4 : Vec F S1x1024 .f32) (x5 : Vec F S1x1024 .f32) :
    out1_A_6 c i arg1 harg1 arg2 harg2 arg3 harg3 arg4 harg4 arg5 harg5 arg6 harg6 arg7 harg7 arg8 harg8 x0 x1 x2 x3 x4 x5 = body1 x0 x1 x2 x3 x4 x5 := by
  frame_out
  rfl

theorem out3_eq (c : Dev nD) (i : grid3.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S9x1x512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S2x1024 .f32) (harg9 : arg9.IsWhole) (arg10 : Memref sig .tc .vmem S2x1024 .f32) (harg10 : arg10.IsWhole) (arg11 : Memref sig .tc .vmem S512x1024 .f32) (harg11 : arg11.IsWhole) (arg12 : Memref sig .tc .vmem S512x1024 .f32) (harg12 : arg12.IsWhole)
    (x0 : Vec F S512x1024 .f32) (x1 : Vec F S512x512 .bf16) (x2 : Vec F S512x512 .bf16) (x3 : Vec F S9x1x512x1024 .f32) (x4 : Vec F S512x1024 .bf16) (x5 : Vec F S512x1024 .bf16) (x6 : Vec F S1024x5632 .bf16) (x7 : Vec F S2816x1024 .bf16) (x8 : Vec F S2x1024 .f32) (x9 : Vec F S2x1024 .f32) :
    out3_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = body3 x0 x1 x2 x3 x4 x5 x6 x7 x8 x9 := by
  frame_out
  rfl

theorem out0_eq (x0 : Vec F S136x1024 .f32) (x1 : Vec F S1024x1024 .f32) (x2 : Vec F S1x1024 .f32) :
    out0_3 x0 x1 x2 = k0_pay1 x0 x1 x2 := by
  frame_out

theorem out2_6_eq (x0 : Vec F S512x1024 .f32) (x1 : Vec F S9x1x512x1024 .f32) (x2 : Vec F S1024x3968 .bf16) :
    out2_6 x0 x1 x2 = k2_pay2 (k2_pay5 x0 (modAt x1 4) (modAt x1 3)) (colsAt x2 2176 1024 (by omega)) := by
  unfold_out out2_6
  frame_out
  rfl

theorem out2_7_eq (x0 : Vec F S512x1024 .f32) (x1 : Vec F S9x1x512x1024 .f32) (x2 : Vec F S1024x3968 .bf16) :
    out2_7 x0 x1 x2 = k2_pay3 (k2_pay5 x0 (modAt x1 4) (modAt x1 3)) (colsAt x2 3200 512 (by omega)) := by
  unfold_out out2_7
  frame_out
  rfl

theorem out2_8_eq (x0 : Vec F S512x1024 .f32) (x1 : Vec F S9x1x512x1024 .f32) (x2 : Vec F S1024x3968 .bf16) :
    out2_8 x0 x1 x2 = k2_pay4 (k2_pay5 x0 (modAt x1 4) (modAt x1 3)) (colsAt x2 3712 256 (by omega)) := by
  unfold_out out2_8
  frame_out
  rfl

end Cert.Proof.FS
-- ==== Proof.FS.Read.lean ====
/-
  The calls' output blocks over the extended reals, entry by entry: each is the row function of the layer's mathematics
  at the block's own rows.
-/
module

public import proofs.«01_k».proof.Proof.FS.Body

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

theorem modAt_apply (x : FVec Ideal S9x1x512x1024 .f32) (i : Fin 9) (r : Fin 512) (n : Fin 1024) :
    modAt (F := Ideal) x i (ix4 0 0 r n) = x (ix4 i 0 r n) := by
  refine congrArg x (funext fun a => Fin.ext ?_)
  rw [Rect.idx_unit_val]
  match a with
  | 0 => rfl
  | 1 => rfl
  | 2 => exact Nat.zero_add _
  | 3 => exact Nat.zero_add _

theorem normAt_apply (x : FVec Ideal S2x1024 .f32) (i : Fin 2) (n : Fin 1024) :
    normAt (F := Ideal) x i (ix2 0 n) = x (ix2 i n) := by
  refine congrArg x (funext fun a => Fin.ext ?_)
  rw [Rect.idx_unit_val]
  match a with
  | 0 => rfl
  | 1 => exact Nat.zero_add _

/-- Modulation vector `i` of row `r`. -/
abbrev mrow (x : FVec Ideal S9x1x512x1024 .f32) (i : Fin 9) (r : Fin 512) : Fin 1024 → EReal := fun k => x (ix4 i 0 r k)

/-- The modulation's block. -/
theorem k0_apply (c : FVec Ideal S136x1024 .f32) (w : FVec Ideal S1024x1024 .f32) (b : FVec Ideal S1x1024 .f32)
    (r : Fin 136) (n : Fin 1024) :
    k0_pay1 (F := Ideal) c w b (ix2 r n) = adaRaw (fun k => c (ix2 r k)) (fun k => w (ix2 k n)) (b (ix2 0 n)) := by
  unfold adaRaw
  pointwise [k0_pay1]
  simp only [sg_sub]

theorem k1_pay3_row (x : FVec Ideal S512x1024 .f32) (m : FVec Ideal S9x1x512x1024 .f32) (i j : Fin 9) (r : Fin 512) (k : Fin 1024) :
    k1_pay3 (F := Ideal) x (modAt m i) (modAt m j) (ix2 r k) = modul (row x r) (mrow m i r) (mrow m j r) k := by
  pointwise [k1_pay3, k1_pay2]
  simp only [modAt_apply]
  rfl

/-- The first feed-forward layer, a row at a time. -/
theorem body1_apply (x0 : FVec Ideal S512x1024 .f32) (x1 : FVec Ideal S9x1x512x1024 .f32) (x2 : FVec Ideal S1024x5632 .bf16)
    (x3 : FVec Ideal S2816x1024 .bf16) (x4 x5 : FVec Ideal S1x1024 .f32) (r : Fin 512) (n : Fin 1024) :
    body1 (F := Ideal) x0 x1 x2 x3 x4 x5 (ix2 r n)
      = ffLayer (row x0 r) (mrow x1 1 r) (mrow x1 0 r) (mrow x1 2 r) (fun k j => x2 (ix2 k j)) (fun j n => x3 (ix2 j n))
          (fun k => x4 (ix2 0 k)) (fun k => x5 (ix2 0 k)) n := by
  unfold body1
  pointwise [k1_pay1, k1_pay26, k1_pay27, k1_pay2]
  simp only [modAt_apply, allBlks_apply, k1_pay3_row]
  rfl

/-- The residual rows and the mixer's two halves times the two halves of the output projection. -/
abbrev halves (x1 x2 : FVec Ideal S512x512 .bf16) (x4 x5 : FVec Ideal S512x1024 .bf16) (r : Fin 512) (n : Fin 1024) : EReal :=
  rowDot (fun k : Fin 512 => x1 (ix2 r k)) (fun k => x4 (ix2 k n)) + rowDot (fun k : Fin 512 => x2 (ix2 r k)) fun k => x5 (ix2 k n)

theorem k3_pay4_apply (x0 : FVec Ideal S512x1024 .f32) (x1 x2 : FVec Ideal S512x512 .bf16) (x3 : FVec Ideal S9x1x512x1024 .f32)
    (x4 x5 : FVec Ideal S512x1024 .bf16) (r : Fin 512) (n : Fin 1024) :
    k3_pay4 (F := Ideal) x1 x4 x2 x5 x0 (modAt x3 5) (ix2 r n)
      = dev (fun n => cAlpha * row x0 r n + mrow x3 5 r n * halves x1 x2 x4 x5 r n) n := by
  pointwise [k3_pay4]
  simp only [modAt_apply]
  rfl

/-- The rows after the mixer. -/
theorem mixed_apply (x0 : FVec Ideal S512x1024 .f32) (x1 x2 : FVec Ideal S512x512 .bf16) (x3 : FVec Ideal S9x1x512x1024 .f32)
    (x4 x5 : FVec Ideal S512x1024 .bf16) (x8 x9 : FVec Ideal S2x1024 .f32) (r : Fin 512) (n : Fin 1024) :
    mixed (F := Ideal) x0 x1 x2 x3 x4 x5 x8 x9 (ix2 r n)
      = postMix (row x0 r) (halves x1 x2 x4 x5 r) (mrow x3 5 r) (row x8 0) (row x9 0) n := by
  unfold mixed
  pointwise [k3_pay6, k3_pay2, k3_pay3, k3_pay5]
  simp only [normAt_apply, k3_pay4_apply]
  rfl

/-- The second layer's modulated rows. -/
theorem mixedU_apply (x0 : FVec Ideal S512x1024 .f32) (x1 x2 : FVec Ideal S512x512 .bf16) (x3 : FVec Ideal S9x1x512x1024 .f32)
    (x4 x5 : FVec Ideal S512x1024 .bf16) (x8 x9 : FVec Ideal S2x1024 .f32) (r : Fin 512) (n : Fin 1024) :
    mixedU (F := Ideal) x0 x1 x2 x3 x4 x5 x8 x9 (ix2 r n)
      = modul (postMix (row x0 r) (halves x1 x2 x4 x5 r) (mrow x3 5 r) (row x8 0) (row x9 0)) (mrow x3 7 r) (mrow x3 6 r) n := by
  have h := mixed_apply x0 x1 x2 x3 x4 x5 x8 x9 r n
  unfold mixed at h
  unfold mixedU modul
  rw [← h]
  pointwise [k3_pay7]
  simp only [modAt_apply]

/-- The output projection and the second feed-forward layer, a row at a time. -/
theorem body3_apply (x0 : FVec Ideal S512x1024 .f32) (x1 x2 : FVec Ideal S512x512 .bf16) (x3 : FVec Ideal S9x1x512x1024 .f32)
    (x4 x5 : FVec Ideal S512x1024 .bf16) (x6 : FVec Ideal S1024x5632 .bf16) (x7 : FVec Ideal S2816x1024 .bf16)
    (x8 x9 : FVec Ideal S2x1024 .f32) (r : Fin 512) (n : Fin 1024) :
    body3 (F := Ideal) x0 x1 x2 x3 x4 x5 x6 x7 x8 x9 (ix2 r n)
      = ffLayer (postMix (row x0 r) (halves x1 x2 x4 x5 r) (mrow x3 5 r) (row x8 0) (row x9 0)) (mrow x3 7 r) (mrow x3 6 r)
          (mrow x3 8 r) (fun k j => x6 (ix2 k j)) (fun j n => x7 (ix2 j n)) (row x8 1) (row x9 1) n := by
  unfold body3
  pointwise [k3_pay1, k3_pay30]
  simp only [modAt_apply, normAt_apply, allBlks_apply, mixed_apply, mixedU_apply]
  rfl

theorem colsAt_apply (x : FVec Ideal S1024x3968 .bf16) (o n : ℕ) (h : o + n ≤ 3968) (k : Fin 1024) (f : Fin n) :
    colsAt (F := Ideal) x o n h (ix2 k f) = x (ix2 k ⟨o + f.val, by omega⟩) := by
  refine congrArg x (funext fun a => Fin.ext ?_)
  rw [Rect.idx_unit_val]
  match a with
  | 0 => exact Nat.zero_add _
  | 1 => rfl

/-! The projection's blocks. -/

theorem k2_pay2_apply (x : FVec Ideal S512x1024 .f32) (m : FVec Ideal S9x1x512x1024 .f32) (w : FVec Ideal S1024x3968 .bf16)
    (r : Fin 512) (f : Fin 1024) :
    k2_pay2 (F := Ideal) (k2_pay5 x (modAt m 4) (modAt m 3)) (colsAt w 2176 1024 (by omega)) (ix2 r f)
      = rowDot (modul (row x r) (mrow m 4 r) (mrow m 3 r)) fun k => w (ix2 k ⟨2176 + f.val, by omega⟩) := by
  pointwise [k2_pay2, k2_pay5]
  simp only [modAt_apply, colsAt_apply]
  rfl

theorem k2_pay3_apply (x : FVec Ideal S512x1024 .f32) (m : FVec Ideal S9x1x512x1024 .f32) (w : FVec Ideal S1024x3968 .bf16)
    (r : Fin 512) (f : Fin 512) :
    k2_pay3 (F := Ideal) (k2_pay5 x (modAt m 4) (modAt m 3)) (colsAt w 3200 512 (by omega)) (ix2 r f)
      = rowDot (modul (row x r) (mrow m 4 r) (mrow m 3 r)) fun k => w (ix2 k ⟨3200 + f.val, by omega⟩) := by
  pointwise [k2_pay3, k2_pay5]
  simp only [modAt_apply, colsAt_apply]
  rfl

theorem k2_pay4_apply (x : FVec Ideal S512x1024 .f32) (m : FVec Ideal S9x1x512x1024 .f32) (w : FVec Ideal S1024x3968 .bf16)
    (r : Fin 512) (f : Fin 256) :
    k2_pay4 (F := Ideal) (k2_pay5 x (modAt m 4) (modAt m 3)) (colsAt w 3712 256 (by omega)) (ix2 r f)
      = rowDot (modul (row x r) (mrow m 4 r) (mrow m 3 r)) fun k => w (ix2 k ⟨3712 + f.val, by omega⟩) := by
  pointwise [k2_pay4, k2_pay5]
  simp only [modAt_apply, colsAt_apply]
  rfl

end Cert.Proof.FS
-- ==== Proof.FS.Blocks.lean ====
/-
  The blocks the samples' four calls find at each grid point, read from the arrays.
-/
module

public import proofs.«01_k».proof.Proof.FS.Read
public import Idealize.ShloMosaic.Lib.Pipeline.ValueKit

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

variable (V : (c : Dev nD) → (b : Ref sig .tc) → Buf (Elt Ideal) ((c : Thread nD τ).loc b)) (c : Dev nD)

theorem lt0 (t : Fin grid0.N) : t.val < 9 := t.isLt

/-! ## The first call's blocks -/

theorem blk0_0 (t : Fin grid0.N) (a : Fin 136) (e : Fin 1024) :
    iblk0 (F := Ideal) V c 0 t (ix2 a e) = V c main_v1 (ix2 a e) := by
  have hi : ∀ t : Fin grid0.N, win0_0.index t = ![0, 0] := by decide +kernel
  blk_ext [iblk0, hi t]

theorem blk0_1 (t : Fin grid0.N) (a : Fin 1024) (e : Fin 1024) :
    iblk0 (F := Ideal) V c 1 t (ix2 a e) = V c main_v4 (ix2 a ⟨t.val * 1024 + e.val, by have := lt0 t; omega⟩) := by
  have hi : ∀ t : Fin grid0.N, win0_1.index t = ![0, t.val] := by decide +kernel
  blk_ext [iblk0, hi t]

theorem blk0_2 (t : Fin grid0.N) (a : Fin 1) (e : Fin 1024) :
    iblk0 (F := Ideal) V c 2 t (ix2 a e) = V c main_v6 (ix2 a ⟨t.val * 1024 + e.val, by have := lt0 t; omega⟩) := by
  have hi : ∀ t : Fin grid0.N, win0_2.index t = ![0, t.val] := by decide +kernel
  blk_ext [iblk0, hi t]

/-! ## The other calls' blocks, each a whole array -/

theorem blk1_0 (t : Fin grid1.N) (a : Fin 512) (e : Fin 1024) :
    iblk1 (F := Ideal) V c 0 t (ix2 a e) = V c main_v0 (ix2 a e) := by
  have hi : ∀ t : Fin grid1.N, win1_0.index t = ![0, 0] := by decide +kernel
  blk_ext [iblk1, hi t]

theorem blk1_1 (t : Fin grid1.N) (i : Fin 9) (r : Fin 512) (e : Fin 1024) :
    iblk1 (F := Ideal) V c 1 t (ix4 i 0 r e) = V c main_v13 (ix4 i 0 r e) := by
  have hi : ∀ t : Fin grid1.N, win1_1.index t = ![0, 0, 0, 0] := by decide +kernel
  blk_ext [iblk1, hi t]

theorem blk1_2 (t : Fin grid1.N) (a : Fin 1024) (e : Fin 5632) :
    iblk1 (F := Ideal) V c 2 t (ix2 a e) = V c main_v15 (ix2 a e) := by
  have hi : ∀ t : Fin grid1.N, win1_2.index t = ![0, 0] := by decide +kernel
  blk_ext [iblk1, hi t]

theorem blk1_3 (t : Fin grid1.N) (a : Fin 2816) (e : Fin 1024) :
    iblk1 (F := Ideal) V c 3 t (ix2 a e) = V c main_v17 (ix2 a e) := by
  have hi : ∀ t : Fin grid1.N, win1_3.index t = ![0, 0] := by decide +kernel
  blk_ext [iblk1, hi t]

theorem blk1_4 (t : Fin grid1.N) (a : Fin 1) (e : Fin 1024) :
    iblk1 (F := Ideal) V c 4 t (ix2 a e) = V c main_v102 (ix2 a e) := by
  have hi : ∀ t : Fin grid1.N, win1_4.index t = ![0, 0] := by decide +kernel
  blk_ext [iblk1, hi t]

theorem blk1_5 (t : Fin grid1.N) (a : Fin 1) (e : Fin 1024) :
    iblk1 (F := Ideal) V c 5 t (ix2 a e) = V c main_v103 (ix2 a e) := by
  have hi : ∀ t : Fin grid1.N, win1_5.index t = ![0, 0] := by decide +kernel
  blk_ext [iblk1, hi t]

theorem blk2_0 (t : Fin grid2.N) (a : Fin 512) (e : Fin 1024) :
    iblk2 (F := Ideal) V c 0 t (ix2 a e) = V c main_v104 (ix2 a e) := by
  have hi : ∀ t : Fin grid2.N, win2_0.index t = ![0, 0] := by decide +kernel
  blk_ext [iblk2, hi t]

theorem blk2_1 (t : Fin grid2.N) (i : Fin 9) (r : Fin 512) (e : Fin 1024) :
    iblk2 (F := Ideal) V c 1 t (ix4 i 0 r e) = V c main_v13 (ix4 i 0 r e) := by
  have hi : ∀ t : Fin grid2.N, win2_1.index t = ![0, 0, 0, 0] := by decide +kernel
  blk_ext [iblk2, hi t]

theorem blk2_2 (t : Fin grid2.N) (a : Fin 1024) (e : Fin 3968) :
    iblk2 (F := Ideal) V c 2 t (ix2 a e) = V c main_v91 (ix2 a e) := by
  have hi : ∀ t : Fin grid2.N, win2_2.index t = ![0, 0] := by decide +kernel
  blk_ext [iblk2, hi t]

theorem blk3_0 (t : Fin grid3.N) (a : Fin 512) (e : Fin 1024) :
    iblk3 (F := Ideal) V c 0 t (ix2 a e) = V c main_v104 (ix2 a e) := by
  have hi : ∀ t : Fin grid3.N, win3_0.index t = ![0, 0] := by decide +kernel
  blk_ext [iblk3, hi t]

theorem blk3_1 (t : Fin grid3.N) (a : Fin 512) (e : Fin 512) :
    iblk3 (F := Ideal) V c 1 t (ix2 a e) = V c main_v112 (ix2 a e) := by
  have hi : ∀ t : Fin grid3.N, win3_1.index t = ![0, 0] := by decide +kernel
  blk_ext [iblk3, hi t]

theorem blk3_2 (t : Fin grid3.N) (a : Fin 512) (e : Fin 512) :
    iblk3 (F := Ideal) V c 2 t (ix2 a e) = V c main_v113 (ix2 a e) := by
  have hi : ∀ t : Fin grid3.N, win3_2.index t = ![0, 0] := by decide +kernel
  blk_ext [iblk3, hi t]

theorem blk3_3 (t : Fin grid3.N) (i : Fin 9) (r : Fin 512) (e : Fin 1024) :
    iblk3 (F := Ideal) V c 3 t (ix4 i 0 r e) = V c main_v13 (ix4 i 0 r e) := by
  have hi : ∀ t : Fin grid3.N, win3_3.index t = ![0, 0, 0, 0] := by decide +kernel
  blk_ext [iblk3, hi t]

theorem blk3_4 (t : Fin grid3.N) (a : Fin 512) (e : Fin 1024) :
    iblk3 (F := Ideal) V c 4 t (ix2 a e) = V c main_v94 (ix2 a e) := by
  have hi : ∀ t : Fin grid3.N, win3_4.index t = ![0, 0] := by decide +kernel
  blk_ext [iblk3, hi t]

theorem blk3_5 (t : Fin grid3.N) (a : Fin 512) (e : Fin 1024) :
    iblk3 (F := Ideal) V c 5 t (ix2 a e) = V c main_v99 (ix2 a e) := by
  have hi : ∀ t : Fin grid3.N, win3_5.index t = ![0, 0] := by decide +kernel
  blk_ext [iblk3, hi t]

theorem blk3_6 (t : Fin grid3.N) (a : Fin 1024) (e : Fin 5632) :
    iblk3 (F := Ideal) V c 6 t (ix2 a e) = V c main_v19 (ix2 a e) := by
  have hi : ∀ t : Fin grid3.N, win3_6.index t = ![0, 0] := by decide +kernel
  blk_ext [iblk3, hi t]

theorem blk3_7 (t : Fin grid3.N) (a : Fin 2816) (e : Fin 1024) :
    iblk3 (F := Ideal) V c 7 t (ix2 a e) = V c main_v21 (ix2 a e) := by
  have hi : ∀ t : Fin grid3.N, win3_7.index t = ![0, 0] := by decide +kernel
  blk_ext [iblk3, hi t]

theorem blk3_8 (t : Fin grid3.N) (a : Fin 2) (e : Fin 1024) :
    iblk3 (F := Ideal) V c 8 t (ix2 a e) = V c main_v114 (ix2 a e) := by
  have hi : ∀ t : Fin grid3.N, win3_8.index t = ![0, 0] := by decide +kernel
  blk_ext [iblk3, hi t]

theorem blk3_9 (t : Fin grid3.N) (a : Fin 2) (e : Fin 1024) :
    iblk3 (F := Ideal) V c 9 t (ix2 a e) = V c main_v115 (ix2 a e) := by
  have hi : ∀ t : Fin grid3.N, win3_9.index t = ![0, 0] := by decide +kernel
  blk_ext [iblk3, hi t]

end Cert.Proof.FS
-- ==== Proof.FS.Arrays.lean ====
/-
  The arrays the samples' four calls leave, each as a function of the arrays the call finds.
-/
module

public import proofs.«01_k».proof.Proof.FS.Blocks
public import Idealize.ShloMosaic.Lib.Pipeline.ValueKit

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

variable (V : (c : Dev nD) → (b : Ref sig .tc) → Buf (Elt Ideal) ((c : Thread nD τ).loc b)) (c : Dev nD)

/-! ## The arrays -/

/-- The modulation vectors' array. -/
def adaArr (cs : FVec Ideal S136x1024 .f32) (w : FVec Ideal S1024x9216 .f32) (b : FVec Ideal S1x9216 .f32) :
    FVec Ideal S136x9216 .f32 :=
  fun i => adaRaw (fun k => cs (ix2 (i 0) k)) (fun k => w (ix2 k (i 1))) (b (ix2 0 (i 1)))

/-- The rows after the first feed-forward layer. -/
def ffArr (x : FVec Ideal S512x1024 .f32) (md : FVec Ideal S9x1x512x1024 .f32) (up : FVec Ideal S1024x5632 .bf16)
    (dn : FVec Ideal S2816x1024 .bf16) (g b : FVec Ideal S1x1024 .f32) : FVec Ideal S512x1024 .f32 :=
  fun i => ffLayer (row x (i 0)) (mrow md 1 (i 0)) (mrow md 0 (i 0)) (mrow md 2 (i 0)) (fun k j => up (ix2 k j))
    (fun j n => dn (ix2 j n)) (row g 0) (row b 0) (i 1)

/-- The projection's `n` columns from `o` on. -/
def projArr (n o : ℕ) (h : o + n ≤ 3968) (x : FVec Ideal S512x1024 .f32) (md : FVec Ideal S9x1x512x1024 .f32)
    (w : FVec Ideal S1024x3968 .bf16) : (⟨2, ![512, n]⟩ : Shape).Idx → EReal :=
  fun i =>
    have h1 : (i 1).val < n := (i 1).isLt
    rowDot (modul (row x (i 0)) (mrow md 4 (i 0)) (mrow md 3 (i 0))) fun k => w (ix2 k ⟨o + (i 1).val, by omega⟩)

/-- The mixer's two halves times the output projection's, for a row. -/
abbrev halvesArr (x1 x2 : FVec Ideal S512x512 .bf16) (x4 x5 : FVec Ideal S512x1024 .bf16) (r : Fin 512) (n : Fin 1024) : EReal :=
  rowDot (fun k : Fin 512 => x1 (ix2 r k)) (fun k => x4 (ix2 k n)) + rowDot (fun k : Fin 512 => x2 (ix2 r k)) fun k => x5 (ix2 k n)

/-- The rows after the output projection and the second feed-forward layer. -/
def outArr (x : FVec Ideal S512x1024 .f32) (o1 o2 : FVec Ideal S512x512 .bf16) (md : FVec Ideal S9x1x512x1024 .f32)
    (w1 w2 : FVec Ideal S512x1024 .bf16) (up : FVec Ideal S1024x5632 .bf16) (dn : FVec Ideal S2816x1024 .bf16)
    (g b : FVec Ideal S2x1024 .f32) : FVec Ideal S512x1024 .f32 :=
  fun i => ffLayer (postMix (row x (i 0)) (halvesArr o1 o2 w1 w2 (i 0)) (mrow md 5 (i 0)) (row g 0) (row b 0)) (mrow md 7 (i 0))
    (mrow md 6 (i 0)) (mrow md 8 (i 0)) (fun k j => up (ix2 k j)) (fun j n => dn (ix2 j n)) (row g 1) (row b 1) (i 1)

theorem arr0 :
    (dat0 (F := Ideal) V c).arrAt 3 cfg0.N = adaArr (V c main_v1) (V c main_v4) (V c main_v6) := by
  have hi : ∀ t : Fin grid0.N, win0_3.index t = ![0, t.val] := by decide +kernel
  refine (dat0 V c).arrAt_eq_of_covers 3 _ (by decide +kernel) fun t hf y => ?_
  blk_simp
  rw [after0_3, out0_eq]
  have h1 : (y 1).val < 1024 := (y 1).isLt
  have hy : (y : S136x1024.Idx) = ix2 (y 0) (y 1) := eq_ix2 y
  refine (congrArg (k0_pay1 (F := Ideal) (iblk0 V c 0 t) (iblk0 V c 1 t) (iblk0 V c 2 t)) hy).trans ((k0_apply _ _ _
    (y 0) (y 1)).trans (Eq.trans ?_ (congrArg (adaArr (V c main_v1) (V c main_v4) (V c main_v6))
      (show ix2 (y 0) ⟨t.val * 1024 + (y 1).val, by have := lt0 t; omega⟩ = _ from funext fun a => Fin.ext ?_))))
  · exact ada_congr (funext fun k => blk0_0 V c t (y 0) k) (funext fun k => blk0_1 V c t k (y 1)) (blk0_2 V c t 0 (y 1))
  · match a with
    | 0 => exact ((win0_3.rect_emb_val t y 0).trans ((congrArg (· * 136 + (y 0).val) (congrFun (hi t) 0)).trans
        (show 0 * 136 + (y 0).val = (y 0).val by omega))).symm
    | 1 => exact ((win0_3.rect_emb_val t y 1).trans (congrArg (· * 1024 + (y 1).val) (congrFun (hi t) 1))).symm

theorem arr1 : (dat1 (F := Ideal) V c).arrAt 6 cfg1.N
    = ffArr (V c main_v0) (V c main_v13) (V c main_v15) (V c main_v17) (V c main_v102) (V c main_v103) := by
  have hi : ∀ t : Fin grid1.N, win1_6.index t = ![0, 0] := by decide +kernel
  refine (dat1 V c).arrAt_eq_of_covers 6 _ (by decide +kernel) fun t hf y => ?_
  blk_simp
  rw [after1_6]
  unfold outsAt1
  rw [out1_eq]
  have hy : (y : S512x1024.Idx) = ix2 (y 0) (y 1) := eq_ix2 y
  have h0 : (y 0).val < 512 := (y 0).isLt
  refine (congrArg (body1 (F := Ideal) (iblk1 V c 0 t) (iblk1 V c 1 t) (iblk1 V c 2 t) (iblk1 V c 3 t) (iblk1 V c 4 t)
    (iblk1 V c 5 t)) hy).trans ((body1_apply _ _ _ _ _ _ (y 0) (y 1)).trans (Eq.trans ?_ (congrArg (ffArr (V c main_v0)
      (V c main_v13) (V c main_v15) (V c main_v17) (V c main_v102) (V c main_v103))
      (show ix2 (y 0) (y 1) = _ from funext fun a => Fin.ext ?_))))
  · have hm : ∀ i : Fin 9, mrow (iblk1 V c 1 t) i (y 0) = mrow (V c main_v13) i (y 0) :=
      fun i => funext fun k => blk1_1 V c t i (y 0) k
    exact ffLayer_congr (funext fun k => blk1_0 V c t (y 0) k) (hm 1) (hm 0) (hm 2)
      (funext fun k => funext fun j => blk1_2 V c t k j) (funext fun j => funext fun n => blk1_3 V c t j n)
      (funext fun k => blk1_4 V c t 0 k) (funext fun k => blk1_5 V c t 0 k) (y 1)
  · match a with
    | 0 => exact ((win1_6.rect_emb_val t y 0).trans ((congrArg (· * 512 + (y 0).val) (congrFun (hi t) 0)).trans
        (show 0 * 512 + (y 0).val = (y 0).val by omega))).symm
    | 1 => exact ((win1_6.rect_emb_val t y 1).trans ((congrArg (· * 1024 + (y 1).val) (congrFun (hi t) 1)).trans
        (show 0 * 1024 + (y 1).val = (y 1).val by omega))).symm

theorem arr3 : (dat3 (F := Ideal) V c).arrAt 10 cfg3.N
    = outArr (V c main_v104) (V c main_v112) (V c main_v113) (V c main_v13) (V c main_v94) (V c main_v99) (V c main_v19)
        (V c main_v21) (V c main_v114) (V c main_v115) := by
  have hi : ∀ t : Fin grid3.N, win3_10.index t = ![0, 0] := by decide +kernel
  refine (dat3 V c).arrAt_eq_of_covers 10 _ (by decide +kernel) fun t hf y => ?_
  blk_simp
  rw [after3_10]
  unfold outsAt3
  rw [out3_eq]
  have hy : (y : S512x1024.Idx) = ix2 (y 0) (y 1) := eq_ix2 y
  have h0 : (y 0).val < 512 := (y 0).isLt
  refine (congrArg (body3 (F := Ideal) (iblk3 V c 0 t) (iblk3 V c 1 t) (iblk3 V c 2 t) (iblk3 V c 3 t) (iblk3 V c 4 t)
    (iblk3 V c 5 t) (iblk3 V c 6 t) (iblk3 V c 7 t) (iblk3 V c 8 t) (iblk3 V c 9 t)) hy).trans
    ((body3_apply _ _ _ _ _ _ _ _ _ _ (y 0) (y 1)).trans (Eq.trans ?_ (congrArg (outArr (V c main_v104) (V c main_v112)
      (V c main_v113) (V c main_v13) (V c main_v94) (V c main_v99) (V c main_v19) (V c main_v21) (V c main_v114) (V c main_v115))
      (show ix2 (y 0) (y 1) = _ from funext fun a => Fin.ext ?_))))
  · have hm : ∀ i : Fin 9, mrow (iblk3 V c 3 t) i (y 0) = mrow (V c main_v13) i (y 0) :=
      fun i => funext fun k => blk3_3 V c t i (y 0) k
    exact ffLayer_congr (postMix_congr (funext fun k => blk3_0 V c t (y 0) k)
      (funext fun n => congrArg₂ (· + ·)
        (rowDot_congr (funext fun k => blk3_1 V c t (y 0) k) (funext fun k => blk3_4 V c t k n))
        (rowDot_congr (funext fun k => blk3_2 V c t (y 0) k) (funext fun k => blk3_5 V c t k n)))
      (hm 5) (funext fun k => blk3_8 V c t 0 k) (funext fun k => blk3_9 V c t 0 k)) (hm 7) (hm 6) (hm 8)
      (funext fun k => funext fun j => blk3_6 V c t k j) (funext fun j => funext fun n => blk3_7 V c t j n)
      (funext fun k => blk3_8 V c t 1 k) (funext fun k => blk3_9 V c t 1 k) (y 1)
  · match a with
    | 0 => exact ((win3_10.rect_emb_val t y 0).trans ((congrArg (· * 512 + (y 0).val) (congrFun (hi t) 0)).trans
        (show 0 * 512 + (y 0).val = (y 0).val by omega))).symm
    | 1 => exact ((win3_10.rect_emb_val t y 1).trans ((congrArg (· * 1024 + (y 1).val) (congrFun (hi t) 1)).trans
        (show 0 * 1024 + (y 1).val = (y 1).val by omega))).symm

theorem arr2_6 : (dat2 (F := Ideal) V c).arrAt 6 cfg2.N = projArr 1024 2176 (by omega) (V c main_v104) (V c main_v13) (V c main_v91) := by
  have hi : ∀ t : Fin grid2.N, win2_6.index t = ![0, 0] := by decide +kernel
  refine (dat2 V c).arrAt_eq_of_covers 6 _ (by decide +kernel) fun t hf y => ?_
  blk_simp
  rw [after2_6, out2_6_eq]
  have hy : (y : S512x1024.Idx) = ix2 (y 0) (y 1) := eq_ix2 y
  refine (congrArg (k2_pay2 (F := Ideal) (k2_pay5 (iblk2 V c 0 t) (modAt (iblk2 V c 1 t) 4) (modAt (iblk2 V c 1 t) 3))
    (colsAt (iblk2 V c 2 t) 2176 1024 (by omega))) hy).trans ((k2_pay2_apply _ _ _ (y 0) (y 1)).trans (Eq.trans ?_ (congrArg
      (projArr 1024 2176 (by omega) (V c main_v104) (V c main_v13) (V c main_v91))
      (show ix2 (y 0) (y 1) = _ from funext fun a => Fin.ext ?_))))
  · have hm : ∀ i : Fin 9, mrow (iblk2 V c 1 t) i (y 0) = mrow (V c main_v13) i (y 0) :=
      fun i => funext fun k => blk2_1 V c t i (y 0) k
    exact rowDot_congr (funext fun k => congr_modul (funext fun k => blk2_0 V c t (y 0) k) (hm 4) (hm 3) k)
      (funext fun k => blk2_2 V c t k _)
  · match a with
    | 0 => exact ((win2_6.rect_emb_val t y 0).trans ((congrArg (· * 512 + (y 0).val) (congrFun (hi t) 0)).trans
        (show 0 * 512 + (y 0).val = (y 0).val by omega))).symm
    | 1 => exact ((win2_6.rect_emb_val t y 1).trans ((congrArg (· * 1024 + (y 1).val) (congrFun (hi t) 1)).trans
        (show 0 * 1024 + (y 1).val = (y 1).val by omega))).symm

theorem arr2_7 : (dat2 (F := Ideal) V c).arrAt 7 cfg2.N = projArr 512 3200 (by omega) (V c main_v104) (V c main_v13) (V c main_v91) := by
  have hi : ∀ t : Fin grid2.N, win2_7.index t = ![0, 0] := by decide +kernel
  refine (dat2 V c).arrAt_eq_of_covers 7 _ (by decide +kernel) fun t hf y => ?_
  blk_simp
  rw [after2_7, out2_7_eq]
  have hy : (y : S512x512.Idx) = ix2 (y 0) (y 1) := eq_ix2 y
  refine (congrArg (k2_pay3 (F := Ideal) (k2_pay5 (iblk2 V c 0 t) (modAt (iblk2 V c 1 t) 4) (modAt (iblk2 V c 1 t) 3))
    (colsAt (iblk2 V c 2 t) 3200 512 (by omega))) hy).trans ((k2_pay3_apply _ _ _ (y 0) (y 1)).trans (Eq.trans ?_ (congrArg
      (projArr 512 3200 (by omega) (V c main_v104) (V c main_v13) (V c main_v91))
      (show ix2 (y 0) (y 1) = _ from funext fun a => Fin.ext ?_))))
  · have hm : ∀ i : Fin 9, mrow (iblk2 V c 1 t) i (y 0) = mrow (V c main_v13) i (y 0) :=
      fun i => funext fun k => blk2_1 V c t i (y 0) k
    exact rowDot_congr (funext fun k => congr_modul (funext fun k => blk2_0 V c t (y 0) k) (hm 4) (hm 3) k)
      (funext fun k => blk2_2 V c t k _)
  · match a with
    | 0 => exact ((win2_7.rect_emb_val t y 0).trans ((congrArg (· * 512 + (y 0).val) (congrFun (hi t) 0)).trans
        (show 0 * 512 + (y 0).val = (y 0).val by omega))).symm
    | 1 => exact ((win2_7.rect_emb_val t y 1).trans ((congrArg (· * 512 + (y 1).val) (congrFun (hi t) 1)).trans
        (show 0 * 512 + (y 1).val = (y 1).val by omega))).symm

theorem arr2_8 : (dat2 (F := Ideal) V c).arrAt 8 cfg2.N = projArr 256 3712 (by omega) (V c main_v104) (V c main_v13) (V c main_v91) := by
  have hi : ∀ t : Fin grid2.N, win2_8.index t = ![0, 0] := by decide +kernel
  refine (dat2 V c).arrAt_eq_of_covers 8 _ (by decide +kernel) fun t hf y => ?_
  blk_simp
  rw [after2_8, out2_8_eq]
  have hy : (y : S512x256.Idx) = ix2 (y 0) (y 1) := eq_ix2 y
  refine (congrArg (k2_pay4 (F := Ideal) (k2_pay5 (iblk2 V c 0 t) (modAt (iblk2 V c 1 t) 4) (modAt (iblk2 V c 1 t) 3))
    (colsAt (iblk2 V c 2 t) 3712 256 (by omega))) hy).trans ((k2_pay4_apply _ _ _ (y 0) (y 1)).trans (Eq.trans ?_ (congrArg
      (projArr 256 3712 (by omega) (V c main_v104) (V c main_v13) (V c main_v91))
      (show ix2 (y 0) (y 1) = _ from funext fun a => Fin.ext ?_))))
  · have hm : ∀ i : Fin 9, mrow (iblk2 V c 1 t) i (y 0) = mrow (V c main_v13) i (y 0) :=
      fun i => funext fun k => blk2_1 V c t i (y 0) k
    exact rowDot_congr (funext fun k => congr_modul (funext fun k => blk2_0 V c t (y 0) k) (hm 4) (hm 3) k)
      (funext fun k => blk2_2 V c t k _)
  · match a with
    | 0 => exact ((win2_8.rect_emb_val t y 0).trans ((congrArg (· * 512 + (y 0).val) (congrFun (hi t) 0)).trans
        (show 0 * 512 + (y 0).val = (y 0).val by omega))).symm
    | 1 => exact ((win2_8.rect_emb_val t y 1).trans ((congrArg (· * 256 + (y 1).val) (congrFun (hi t) 1)).trans
        (show 0 * 256 + (y 1).val = (y 1).val by omega))).symm

end Cert.Proof.FS
-- ==== Proof.FS.Host.lean ====
/-
  What the samples' host code hands its calls, entry by entry.
-/
module

public import proofs.«01_k».proof.Proof.Gen.Kernel3Ideal.Frame
public import proofs.«01_k».proof.Proof.FF.Spec
public import Idealize.ShloMosaic.Lib.StableHlo.ReadAt
public import Idealize.ShloMosaic.Lib.Pipeline.ValueKit

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic

variable (m : (ℓ : Loc nD τ sig) → Buf (Elt Ideal) ℓ) (ρ : Dev nD → PrngReg) (c : Dev nD)

/-- Argument `r` as launched. -/
abbrev argOf (r : Ref sig .tc) : Buf (Elt Ideal) ((c : Thread nD τ).loc r) := m ((c : Thread nD τ).loc r)

/-! ## Before the first call -/

theorem w1_v0 (r : Fin 512) (k : Fin 1024) :
    W1 (F := Ideal) m ρ c main_v0 (ix2 r k)
      = argOf m c main_arg0 (ix3 ⟨r.val / 4, by omega⟩ ⟨r.val % 4, by omega⟩ k) := by
  unfold W1 hostOps0
  after_reads_at

theorem w1_v1 (r : Fin 136) (k : Fin 1024) :
    W1 (F := Ideal) m ρ c main_v1 (ix2 r k)
      = if h : r.val < 8 then argOf m c main_arg2 (ix2 ⟨r.val, h⟩ k)
        else argOf m c main_arg3 (ix2 ⟨r.val - 8, by omega⟩ k) := by
  unfold W1 hostOps0
  after_reads_at

/-- The window's old rows, tokens last. -/
theorem w1_v3 (b : Fin 128) (f : Fin 256) (t : Fin 512) :
    W1 (F := Ideal) m ρ c main_v3 (ix4 0 b f t)
      = argOf m c main_arg14 (ix6 0 b t ⟨f.val / 128, by omega⟩ ⟨f.val / 64 % 2, by omega⟩ ⟨f.val % 64, by omega⟩) := by
  unfold W1 hostOps0
  after_reads_at

theorem w1_v4 (k : Fin 1024) (n : Fin 9216) :
    W1 (F := Ideal) m ρ c main_v4 (ix2 k n)
      = argOf m c main_arg4 (ix3 0 k n) := by
  unfold W1 hostOps0
  after_reads_at

theorem w1_v6 (n : Fin 9216) :
    W1 (F := Ideal) m ρ c main_v6 (ix2 0 n)
      = argOf m c main_arg5 (ix2 0 n) := by
  unfold W1 hostOps0
  after_reads_at

/-! ## Between the first call and the second -/

/-- The modulation vectors, one for each of a sample's four tokens. -/
theorem w3_v13 (i : Fin 9) (r : Fin 512) (k : Fin 1024) :
    W3 (F := Ideal) m ρ c main_v13 (ix4 i 0 r k)
      = W2 (F := Ideal) m ρ c main_v7 (ix2 ⟨8 + r.val / 4, by omega⟩ ⟨i.val * 1024 + k.val, by omega⟩) := by
  unfold W3 hostOps1
  after_reads_at

theorem w3_v15 (k : Fin 1024) (j : Fin 5632) :
    W3 (F := Ideal) m ρ c main_v15 (ix2 k j)
      = W2 (F := Ideal) m ρ c main_arg6 (ix3 0 k j) := by
  unfold W3 hostOps1
  after_reads_at

theorem w3_v17 (j : Fin 2816) (n : Fin 1024) :
    W3 (F := Ideal) m ρ c main_v17 (ix2 j n)
      = W2 (F := Ideal) m ρ c main_arg7 (ix3 0 j n) := by
  unfold W3 hostOps1
  after_reads_at

theorem w3_v19 (k : Fin 1024) (j : Fin 5632) :
    W3 (F := Ideal) m ρ c main_v19 (ix2 k j)
      = W2 (F := Ideal) m ρ c main_arg10 (ix3 0 k j) := by
  unfold W3 hostOps1
  after_reads_at

theorem w3_v21 (j : Fin 2816) (n : Fin 1024) :
    W3 (F := Ideal) m ρ c main_v21 (ix2 j n)
      = W2 (F := Ideal) m ρ c main_arg11 (ix3 0 j n) := by
  unfold W3 hostOps1
  after_reads_at

/-! The projection's columns: the stick-breaking keys and values, the compressed pair's, the window's. -/

theorem w5_v91_sb (k : Fin 1024) (f : Fin 1024) :
    W5 (F := Ideal) m ρ c main_v91 (ix2 k ⟨2176 + f.val, by omega⟩) = W2 (F := Ideal) m ρ c main_arg8 (ix3 0 k ⟨512 + f.val, by omega⟩) := by
  have hf := f.isLt
  unfold W5 hostOps1_2
  after_reads_at
  rw [dif_neg (by omega), dif_neg (by omega), dif_neg (by omega), dif_pos (by omega)]
  after_reads_at
  refine congrArg (W2 (F := Ideal) m ρ c main_arg8) (congrArg (ix3 0 k) (Fin.ext ?_))
  show 512 + (2176 + f.val - 1024 - 1024 - 128) = 512 + f.val
  omega

theorem w5_v91_nsa (k : Fin 1024) (f : Fin 512) :
    W5 (F := Ideal) m ρ c main_v91 (ix2 k ⟨3200 + f.val, by omega⟩) = W2 (F := Ideal) m ρ c main_arg8 (ix3 0 k ⟨2048 + f.val, by omega⟩) := by
  have hf := f.isLt
  unfold W5 hostOps1_2
  after_reads_at
  rw [dif_neg (by omega), dif_neg (by omega), dif_neg (by omega), dif_neg (by omega), dif_pos (by omega)]
  after_reads_at
  refine congrArg (W2 (F := Ideal) m ρ c main_arg8) (congrArg (ix3 0 k) (Fin.ext ?_))
  show 2048 + (3200 + f.val - 1024 - 1024 - 128 - 1024) = 2048 + f.val
  omega

theorem w5_v91_win (k : Fin 1024) (f : Fin 256) :
    W5 (F := Ideal) m ρ c main_v91 (ix2 k ⟨3712 + f.val, by omega⟩) = W2 (F := Ideal) m ρ c main_arg8 (ix3 0 k ⟨2560 + f.val, by omega⟩) := by
  have hf := f.isLt
  unfold W5 hostOps1_2
  after_reads_at
  rw [dif_neg (by omega), dif_neg (by omega), dif_neg (by omega), dif_neg (by omega), dif_neg (by omega)]
  after_reads_at
  refine congrArg (W2 (F := Ideal) m ρ c main_arg8) (congrArg (ix3 0 k) (Fin.ext ?_))
  show 2560 + (3712 + f.val - 1024 - 1024 - 128 - 1024 - 512) = 2560 + f.val
  omega

theorem w5_v94 (k : Fin 512) (n : Fin 1024) :
    W5 (F := Ideal) m ρ c main_v94 (ix2 k n)
      = W4 (F := Ideal) m ρ c main_arg9 (ix3 0 ⟨k.val, by omega⟩ n) := by
  unfold W5 hostOps1_2
  after_reads_at

theorem w5_v99 (k : Fin 512) (n : Fin 1024) :
    W5 (F := Ideal) m ρ c main_v99 (ix2 k n)
      = W4 (F := Ideal) m ρ c main_arg9 (ix3 0 ⟨512 + (slotRow k).val, by omega⟩ n) := by
  unfold W5 hostOps1_2
  after_reads_at

theorem w5_v100 (i : Fin 3) (n : Fin 1024) :
    W5 (F := Ideal) m ρ c main_v100 (ix2 i n)
      = W4 (F := Ideal) m ρ c main_arg12 (ix3 0 i n) := by
  unfold W5 hostOps1_2
  after_reads_at

theorem w5_v101 (i : Fin 3) (n : Fin 1024) :
    W5 (F := Ideal) m ρ c main_v101 (ix2 i n)
      = W4 (F := Ideal) m ρ c main_arg13 (ix3 0 i n) := by
  unfold W5 hostOps1_2
  after_reads_at

theorem w5_v102 (n : Fin 1024) :
    W5 (F := Ideal) m ρ c main_v102 (ix2 0 n)
      = W4 (F := Ideal) m ρ c main_arg12 (ix3 0 0 n) := by
  unfold W5 hostOps1_2
  after_reads_at

theorem w5_v103 (n : Fin 1024) :
    W5 (F := Ideal) m ρ c main_v103 (ix2 0 n)
      = W4 (F := Ideal) m ρ c main_arg13 (ix3 0 0 n) := by
  unfold W5 hostOps1_2
  after_reads_at

/-! ## Before the last call -/

theorem w8_v112 (r k : Fin 512) :
    W8 (F := Ideal) m ρ c main_v112 (ix2 r k)
      = W7 (F := Ideal) m ρ c main_arg1 (ix3 ⟨r.val / 4, by omega⟩ ⟨r.val % 4, by omega⟩ ⟨k.val, by omega⟩) := by
  unfold W8 hostOps3
  after_reads_at

theorem w8_v113 (r k : Fin 512) :
    W8 (F := Ideal) m ρ c main_v113 (ix2 r k)
      = W7 (F := Ideal) m ρ c main_arg1 (ix3 ⟨r.val / 4, by omega⟩ ⟨r.val % 4, by omega⟩ ⟨512 + (slotRow k).val, by omega⟩) := by
  unfold W8 hostOps3
  after_reads_at

theorem w8_v114 (i : Fin 2) (n : Fin 1024) :
    W8 (F := Ideal) m ρ c main_v114 (ix2 i n)
      = W7 (F := Ideal) m ρ c main_v100 (ix2 ⟨1 + i.val, by omega⟩ n) := by
  unfold W8 hostOps3
  after_reads_at

theorem w8_v115 (i : Fin 2) (n : Fin 1024) :
    W8 (F := Ideal) m ρ c main_v115 (ix2 i n)
      = W7 (F := Ideal) m ρ c main_v101 (ix2 ⟨1 + i.val, by omega⟩ n) := by
  unfold W8 hostOps3
  after_reads_at

/-! ## The results -/

theorem w10_v126 (b : Fin 128) (t : Fin 4) (n : Fin 1024) :
    W10 (F := Ideal) m ρ c main_v126 (ix3 b t n)
      = W9 (F := Ideal) m ρ c main_v116 (ix2 ⟨b.val * 4 + t.val, by omega⟩ n) := by
  unfold W10 hostOps4
  after_reads_at

theorem w10_v127 (b : Fin 128) (t : Fin 4) (s : Fin 2) (h : Fin 8) (d : Fin 64) :
    W10 (F := Ideal) m ρ c main_v127 (ix6 0 b t s h d)
      = W9 (F := Ideal) m ρ c main_v105_3 (ix2 ⟨b.val * 4 + t.val, by omega⟩ ⟨s.val * 512 + h.val * 64 + d.val, by omega⟩) := by
  unfold W10 hostOps4
  after_reads_at

theorem w10_v128 (b : Fin 128) (t : Fin 4) (s : Fin 4) (h : Fin 2) (d : Fin 64) :
    W10 (F := Ideal) m ρ c main_v128 (ix6 0 b t s h d)
      = W9 (F := Ideal) m ρ c main_v105_4 (ix2 ⟨b.val * 4 + t.val, by omega⟩ ⟨s.val * 128 + h.val * 64 + d.val, by omega⟩) := by
  unfold W10 hostOps4
  after_reads_at

/-- The window: the old rows moved up by four, and the four new ones. -/
theorem w10_v129_old (b : Fin 128) (t : Fin 512) (ht : t.val < 508) (s : Fin 2) (h : Fin 2) (d : Fin 64) :
    W10 (F := Ideal) m ρ c main_v129 (ix6 0 b t s h d)
      = W9 (F := Ideal) m ρ c main_v3 (ix4 0 b ⟨s.val * 128 + h.val * 64 + d.val, by omega⟩ ⟨4 + t.val, by omega⟩) := by
  unfold W10 hostOps4
  after_reads_at
  rw [dif_pos (by omega)]
  after_reads_at

theorem w10_v129_new (b : Fin 128) (t : Fin 512) (ht : 508 ≤ t.val) (s : Fin 2) (h : Fin 2) (d : Fin 64) :
    W10 (F := Ideal) m ρ c main_v129 (ix6 0 b t s h d)
      = W9 (F := Ideal) m ρ c main_v105_5 (ix2 ⟨b.val * 4 + (t.val - 508), by omega⟩ ⟨s.val * 128 + h.val * 64 + d.val, by omega⟩) := by
  unfold W10 hostOps4
  after_reads_at
  rw [dif_neg (by omega)]
  after_reads_at

end Cert.Proof.FS
-- ==== Proof.FS.Run.lean ====
/-
  The samples' path's run over the extended reals: every execution ends with the results at what the fold of the host
  stretches and the four calls leaves in them, and with the arguments unchanged.
-/
module

public import proofs.«01_k».proof.Proof.Gen.Kernel3Ideal.Frame
public import Idealize.ShloMosaic.Lib.Pipeline.ValueKit

@[expose] public section

set_option maxRecDepth 16384

noncomputable section

namespace Cert.Proof.FS

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The samples' path terminates, its results at the last boundary's contents. -/
theorem run : θ_run defs (onTc (τ := τ) (main (F := Ideal))) ⟨m, fun _ => 0, ρ⟩ (fun r => ∀ c : Dev nD,
      r.2.mem ((c.tc : Thread nD τ).loc main_v126) = W10 (F := Ideal) m ρ c main_v126
      ∧ r.2.mem ((c.tc : Thread nD τ).loc main_v127) = W10 (F := Ideal) m ρ c main_v127
      ∧ r.2.mem ((c.tc : Thread nD τ).loc main_v128) = W10 (F := Ideal) m ρ c main_v128
      ∧ r.2.mem ((c.tc : Thread nD τ).loc main_v129) = W10 (F := Ideal) m ρ c main_v129
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v126 (by decide)),
       h c _ (mem_uc main_v127 (by decide)),
       h c _ (mem_uc main_v128 (by decide)),
       h c _ (mem_uc main_v129 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.Proof.FS
-- ==== Proof.FS.Ref.lean ====
/-
  The samples' reference over the extended reals, a row at a time.
-/
module

public import proofs.«01_k».proof.Proof.Gen.Reference3Ideal.Run
public import proofs.«01_k».proof.Proof.FF.Spec

@[expose] public section

set_option maxRecDepth 16384

noncomputable section

namespace Cert.Proof.FS.Ref

open Cert.Proof.FF Cert.Reference3Ideal Cert.Reference3Ideal.Gen Cert.Reference3Ideal.Value
open Idealize.ShloMosaic Idealize.ShloMosaic.TcCoe Idealize.ShloMosaic.Tactic Idealize.ShloMosaic.StableHlo

variable (V : Valuation τ sig (Elt Ideal))

/-- Argument `r`'s contents. -/
abbrev at' (r : Ref sig .tc) : (Proc.devRef .tc r : DevRef τ sig).ty.Contents (Elt Ideal) := V (Proc.devRef .tc r)

/-- A token's row of an array. -/
abbrev tok (x : FVec Ideal S128x4x1024 .f32) (b : Fin 128) (t : Fin 4) : Fin 1024 → EReal := fun k => x (ix3 b t k)

/-- Modulation vector `i` of sample `b`. -/
abbrev md (b : Fin 128) (i : Fin 9) : Fin 1024 → EReal := fun k => res_main_v7 (F := Ideal) V (ix4 b 0 i k)

theorem v7_apply (b : Fin 128) (i : Fin 9) (n : Fin 1024) :
    res_main_v7 (F := Ideal) V (ix4 b 0 i n)
      = ada (fun k => at' V main_arg3 (ix2 b k)) (fun k => at' V main_arg4 (ix3 0 k ⟨i.val * 1024 + n.val, by omega⟩))
          (at' V main_arg5 (ix2 0 ⟨i.val * 1024 + n.val, by omega⟩)) := by
  pointwise [res_main_v7]
  rfl

theorem v26_apply (b : Fin 128) (t : Fin 4) (j : Fin 5632) :
    res_main_v26 (F := Ideal) V (ix3 b t j)
      = rowDot (modul (tok (at' V main_arg0) b t) (md V b 1) (md V b 0)) (fun k => at' V main_arg6 (ix3 0 k j)) := by
  pointwise [res_main_v26]
  rfl

theorem v34_apply (b : Fin 128) (t : Fin 4) (n : Fin 1024) :
    res_main_v34 (F := Ideal) V (ix3 b t n)
      = cAlpha * at' V main_arg0 (ix3 b t n) + cHalf * md V b 2 n *
          ffn (modul (tok (at' V main_arg0) b t) (md V b 1) (md V b 0)) (fun k j => at' V main_arg6 (ix3 0 k j))
            (fun j n => at' V main_arg7 (ix3 0 j n)) n := by
  pointwise [res_main_v34, res_main_v27]
  simp only [v26_apply]
  rfl

theorem v62_apply (b : Fin 128) (t : Fin 4) (n : Fin 1024) :
    res_main_v62 (F := Ideal) V (ix3 b t n)
      = lnorm (tok (res_main_v34 (F := Ideal) V) b t) (fun k => at' V main_arg12 (ix3 0 0 k)) (fun k => at' V main_arg13 (ix3 0 0 k)) n := by
  pointwise [res_main_v62, res_main_v44, res_main_v42]
  rfl

theorem v74_apply (b : Fin 128) (t : Fin 4) (j : Fin 2840) :
    res_main_v74 (F := Ideal) V (ix3 b t j)
      = rowDot (modul (tok (res_main_v62 V) b t) (md V b 4) (md V b 3)) (fun k => at' V main_arg8 (ix3 0 k j)) := by
  pointwise [res_main_v74]
  rfl

theorem v89_apply (b : Fin 128) (t : Fin 4) (n : Fin 1024) :
    res_main_v89 (F := Ideal) V (ix3 b t n)
      = cAlpha * res_main_v62 V (ix3 b t n) + md V b 5 n *
          rowDot (tok (at' V main_arg1) b t) (fun k => at' V main_arg9 (ix3 0 k n)) := by
  pointwise [res_main_v89]
  rfl

theorem v117_apply (b : Fin 128) (t : Fin 4) (n : Fin 1024) :
    res_main_v117 (F := Ideal) V (ix3 b t n)
      = lnorm (tok (res_main_v89 (F := Ideal) V) b t) (fun k => at' V main_arg12 (ix3 0 1 k)) (fun k => at' V main_arg13 (ix3 0 1 k)) n := by
  pointwise [res_main_v117, res_main_v99, res_main_v97]
  rfl

theorem v136_apply (b : Fin 128) (t : Fin 4) (j : Fin 5632) :
    res_main_v136 (F := Ideal) V (ix3 b t j)
      = rowDot (modul (tok (res_main_v117 V) b t) (md V b 7) (md V b 6)) (fun k => at' V main_arg10 (ix3 0 k j)) := by
  pointwise [res_main_v136]
  rfl

theorem v144_apply (b : Fin 128) (t : Fin 4) (n : Fin 1024) :
    res_main_v144 (F := Ideal) V (ix3 b t n)
      = cAlpha * res_main_v117 V (ix3 b t n) + cHalf * md V b 8 n *
          ffn (modul (tok (res_main_v117 V) b t) (md V b 7) (md V b 6)) (fun k j => at' V main_arg10 (ix3 0 k j))
            (fun j n => at' V main_arg11 (ix3 0 j n)) n := by
  pointwise [res_main_v144, res_main_v137]
  simp only [v136_apply]
  rfl

/-- The layer's output. -/
def outY : FVec Ideal S128x4x1024 .f32 :=
  addf (mulf (mulf (subf (res_main_v144 V) (broadcastInDim S128x4x1024 ![0, 1, 2] bcast_S128x4x1_S128x4x1024_0_1_2 (res_main_v152 V))) (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf (res_main_v154 V) (res_main_v154 V)) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x3727C5AC#32)))))) (broadcastInDim S128x4x1024 ![0, 1, 2] bcast_S1x1x1024_S128x4x1024_0_1_2 (broadcastInDim S1x1x1024 ![2] bcast_S1024_S1x1x1024_2 (shapeCast _ (extractStridedSlice S1x1x1024 ![0, 2, 0] (V (Proc.devRef .tc main_arg12)) slices_S1x3x1024_S1x1x1024_0_2_0) shapeCasts_S1x1x1024_S1024)))) (broadcastInDim S128x4x1024 ![0, 1, 2] bcast_S1x1x1024_S128x4x1024_0_1_2 (broadcastInDim S1x1x1024 ![2] bcast_S1024_S1x1x1024_2 (shapeCast _ (extractStridedSlice S1x1x1024 ![0, 2, 0] (V (Proc.devRef .tc main_arg13)) slices_S1x3x1024_S1x1x1024_0_2_0) shapeCasts_S1x1x1024_S1024)))

/-- The stick-breaking cache's rows. -/
def outSb : FVec Ideal S1x128x4x2x8x64 .f32 :=
  broadcastInDim S1x128x4x2x8x64 ![1, 2, 3, 4, 5] bcast_S128x4x2x8x64_S1x128x4x2x8x64_1_2_3_4_5 (shapeCast _ (extractStridedSlice S128x4x1024 ![0, 0, 512] (res_main_v74 V) slices_S128x4x2840_S128x4x1024_0_0_512) shapeCasts_S128x4x1024_S128x4x2x8x64)

/-- The compressed and selected pairs' rows. -/
def outNsa : FVec Ideal S1x128x4x4x2x64 .f32 :=
  broadcastInDim S1x128x4x4x2x64 ![1, 2, 3, 4, 5] bcast_S128x4x4x2x64_S1x128x4x4x2x64_1_2_3_4_5 (shapeCast _ (extractStridedSlice S128x4x512 ![0, 0, 2048] (res_main_v74 V) slices_S128x4x2840_S128x4x512_0_0_2048) shapeCasts_S128x4x512_S128x4x4x2x64)

/-- The window: the old rows moved up by four, and the four new ones. -/
def outWin : FVec Ideal S1x128x512x2x2x64 .f32 :=
  broadcastInDim S1x128x512x2x2x64 ![1, 2, 3, 4, 5] bcast_S128x512x2x2x64_S1x128x512x2x2x64_1_2_3_4_5 (extractStridedSlice S128x512x2x2x64 ![0, 4, 0, 0, 0] (concatenate S128x516x2x2x64 1 [⟨S128x512x2x2x64, (shapeCast _ (V (Proc.devRef .tc main_arg14)) shapeCasts_S1x128x512x2x2x64_S128x512x2x2x64)⟩, ⟨S128x4x2x2x64, (shapeCast _ (extractStridedSlice S128x4x256 ![0, 0, 2560] (res_main_v74 V) slices_S128x4x2840_S128x4x256_0_0_2560) shapeCasts_S128x4x256_S128x4x2x2x64)⟩] concatenates_S128x512x2x2x64_S128x4x2x2x64_S128x516x2x2x64_d1) slices_S128x516x2x2x64_S128x512x2x2x64_0_4_0_0_0)

theorem outY_apply (b : Fin 128) (t : Fin 4) (n : Fin 1024) :
    outY V (ix3 b t n)
      = lnorm (tok (res_main_v144 (F := Ideal) V) b t) (fun k => at' V main_arg12 (ix3 0 2 k)) (fun k => at' V main_arg13 (ix3 0 2 k)) n := by
  pointwise [outY, res_main_v154, res_main_v152]
  rfl

theorem outSb_apply (b : Fin 128) (t : Fin 4) (s : Fin 2) (h : Fin 8) (d : Fin 64) :
    outSb V (ix6 0 b t s h d) = res_main_v74 V (ix3 b t ⟨512 + (s.val * 512 + h.val * 64 + d.val), by omega⟩) := by
  pointwise [outSb]

theorem outNsa_apply (b : Fin 128) (t : Fin 4) (s : Fin 4) (h : Fin 2) (d : Fin 64) :
    outNsa V (ix6 0 b t s h d) = res_main_v74 V (ix3 b t ⟨2048 + (s.val * 128 + h.val * 64 + d.val), by omega⟩) := by
  pointwise [outNsa]

theorem outWin_old (b : Fin 128) (t : Fin 512) (ht : t.val < 508) (s : Fin 2) (h : Fin 2) (d : Fin 64) :
    outWin V (ix6 0 b t s h d) = at' V main_arg14 (ix6 0 b ⟨4 + t.val, by omega⟩ s h d) := by
  pointwise [outWin]
  rw [dif_pos (by omega)]

theorem outWin_new (b : Fin 128) (t : Fin 512) (ht : 508 ≤ t.val) (s : Fin 2) (h : Fin 2) (d : Fin 64) :
    outWin V (ix6 0 b t s h d)
      = res_main_v74 V (ix3 b ⟨t.val - 508, by omega⟩ ⟨2560 + (s.val * 128 + h.val * 64 + d.val), by omega⟩) := by
  pointwise [outWin]
  rw [dif_neg (by omega)]
  exact congrArg (fun z => res_main_v74 V (ix3 b z _)) (Fin.ext (show 4 + t.val - 512 = t.val - 508 by omega))

/-! ## The results as the specification's -/

/-- The reference's arguments. -/
def args : Args 128 4 where
  x := at' V main_arg0
  o := at' V main_arg1
  c := at' V main_arg3
  wAda := at' V main_arg4
  bAda := at' V main_arg5
  up1 := at' V main_arg6
  dn1 := at' V main_arg7
  wIn := at' V main_arg8
  wO := at' V main_arg9
  up2 := at' V main_arg10
  dn2 := at' V main_arg11
  g := at' V main_arg12
  b := at' V main_arg13

theorem md_eq (b : Fin 128) : md V b = (args V).mods b := funext fun i => funext fun n => v7_apply V b i n

theorem x1_eq (b : Fin 128) (t : Fin 4) : tok (res_main_v62 (F := Ideal) V) b t = (args V).x1 (md V b) b t :=
  funext fun n => (v62_apply V b t n).trans
    (congrArg (fun y => lnorm y ((args V).gain 0) ((args V).bias 0) n) (funext fun k => v34_apply V b t k))

theorem h_eq (b : Fin 128) (t : Fin 4) (j : Fin 2840) :
    res_main_v74 (F := Ideal) V (ix3 b t j) = (args V).h ((args V).mods b) b t j := by
  rw [← md_eq]
  exact (v74_apply V b t j).trans
    (congrArg (fun y => rowDot (modul y (md V b 4) (md V b 3)) fun k => at' V main_arg8 (ix3 0 k j)) (x1_eq V b t))

theorem x2_eq (b : Fin 128) (t : Fin 4) : tok (res_main_v117 (F := Ideal) V) b t = (args V).x2 (md V b) b t :=
  funext fun n => (v117_apply V b t n).trans
    ((congrArg (fun y => lnorm y ((args V).gain 1) ((args V).bias 1) n) (funext fun k => v89_apply V b t k)).trans
      (congrArg (fun y => postMix y (fun n => rowDot (tok (at' V main_arg1) b t) fun k => at' V main_arg9 (ix3 0 k n)) (md V b 5)
        ((args V).gain 1) ((args V).bias 1) n) (x1_eq V b t)))

theorem y_eq (b : Fin 128) (t : Fin 4) (n : Fin 1024) : outY V (ix3 b t n) = (args V).y ((args V).mods b) b t n := by
  rw [← md_eq]
  exact (outY_apply V b t n).trans
    ((congrArg (fun y => lnorm y ((args V).gain 2) ((args V).bias 2) n) (funext fun k => v144_apply V b t k)).trans
      (congrArg (fun y => ffLayer y (md V b 7) (md V b 6) (md V b 8) (fun k j => at' V main_arg10 (ix3 0 k j))
        (fun j n => at' V main_arg11 (ix3 0 j n)) ((args V).gain 2) ((args V).bias 2) n) (x2_eq V b t)))

end Cert.Proof.FS.Ref
-- ==== Proof.FS.Value.lean ====
/-
  The samples' path against its reference: at finite conditioning vectors and modulation weights the four calls leave the
  reference's results, entry by entry.
-/
module

public import proofs.«01_k».proof.Proof.FS.Arrays
public import proofs.«01_k».proof.Proof.FS.Host
public import proofs.«01_k».proof.Proof.FS.Run
public import proofs.«01_k».proof.Proof.FS.Ref
public import proofs.«01_k».proof.Proof.SBV.Value
public import proofs.«01_k».proof.Defs
public import Idealize.ShloMosaic.Lib.ReduceAll

@[expose] public section

set_option maxRecDepth 16384

noncomputable section

namespace Cert.Proof.FS

open Cert.Proof.FF Cert.Kernel3Ideal Cert.Kernel3Ideal.Gen
open Idealize.ShloMosaic Idealize.ShloMosaic.TcCoe Idealize.ShloMosaic.Tactic Idealize.SL.Sem

/-! ## Finite arguments are real -/

instance : Subsingleton Cert.Pre_finite3.S_.Idx := ⟨fun _ _ => funext fun a => a.elim0⟩

section Entry

variable (m : (ℓ : Loc nD τ sig) → Buf (Elt Ideal) ℓ) (ρ : Dev nD → PrngReg) (c : Dev nD)

/-- The kernel's arguments. -/
def kArgs : Args 128 4 where
  x := argOf m c main_arg0
  o := argOf m c main_arg1
  c := argOf m c main_arg3
  wAda := argOf m c main_arg4
  bAda := argOf m c main_arg5
  up1 := argOf m c main_arg6
  dn1 := argOf m c main_arg7
  wIn := argOf m c main_arg8
  wO := argOf m c main_arg9
  up2 := argOf m c main_arg10
  dn2 := argOf m c main_arg11
  g := argOf m c main_arg12
  b := argOf m c main_arg13

/-- A flat row's sample and position. -/
abbrev bOf (r : Fin 512) : Fin 128 := ⟨r.val / 4, by omega⟩
abbrev tOf (r : Fin 512) : Fin 4 := ⟨r.val % 4, by omega⟩

/-- The modulation vectors of row `r` as the first call leaves them. -/
def kMods (r : Fin 512) (i : Fin 9) : Fin 1024 → EReal := fun k => W5 (F := Ideal) m ρ c main_v13 (ix4 i 0 r k)

theorem kMods_eq (hc : ∀ i, ∃ y : ℝ, (argOf m c main_arg3 : FVec Ideal S128x1024 .f32) i = (y : EReal))
    (hw : ∀ i, ∃ y : ℝ, (argOf m c main_arg4 : FVec Ideal S1x1024x9216 .f32) i = (y : EReal)) (r : Fin 512) :
    kMods m ρ c r = (kArgs m c).mods (bOf r) := by
  funext i n
  refine (congrFun (W5_of m ρ c main_v13 (by decide)) _).trans ((congrFun (W4_of m ρ c main_v13 (by decide)) _).trans
    ((w3_v13 m ρ c i r n).trans ((congrFun ((W2_arr m ρ c 3).trans (arr0 (V1 m ρ) c)) _).trans ?_)))
  refine Eq.trans (b := adaRaw (fun k => argOf m c main_arg3 (ix2 (bOf r) k))
    (fun k => argOf m c main_arg4 (ix3 0 k ⟨i.val * 1024 + n.val, by omega⟩))
    (argOf m c main_arg5 (ix2 0 ⟨i.val * 1024 + n.val, by omega⟩))) ?_ (adaRaw_eq _ (fun k => hc _) fun k => hw _)
  refine ada_congr (funext fun k => (w1_v1 m ρ c ⟨8 + r.val / 4, by omega⟩ k).trans ((dif_neg ?_).trans ?_))
    (funext fun k => w1_v4 m ρ c k _) (w1_v6 m ρ c _)
  · show ¬ 8 + r.val / 4 < 8
    omega
  · exact congrArg (fun z => argOf m c main_arg3 (ix2 z k)) (Fin.ext (show 8 + r.val / 4 - 8 = r.val / 4 by omega))

/-! ## The second call -/

theorem w5_v0 (r : Fin 512) (k : Fin 1024) :
    W5 (F := Ideal) m ρ c main_v0 (ix2 r k) = argOf m c main_arg0 (ix3 (bOf r) (tOf r) k) :=
  (congrFun ((W5_of m ρ c main_v0 (by decide)).trans ((W4_of m ρ c main_v0 (by decide)).trans
    ((W3_of m ρ c main_v0 (by decide)).trans (W2_of m ρ c main_v0 (by decide))))) _).trans (w1_v0 m ρ c r k)

/-- The first feed-forward layer's weights at the second call. -/
theorem w5_v15 (k : Fin 1024) (j : Fin 5632) : W5 (F := Ideal) m ρ c main_v15 (ix2 k j) = argOf m c main_arg6 (ix3 0 k j) :=
  (congrFun ((W5_of m ρ c main_v15 (by decide)).trans (W4_of m ρ c main_v15 (by decide))) _).trans
    ((w3_v15 m ρ c k j).trans (congrFun (W2_args m ρ c main_arg6 (by decide)) _))

theorem w5_v17 (j : Fin 2816) (n : Fin 1024) : W5 (F := Ideal) m ρ c main_v17 (ix2 j n) = argOf m c main_arg7 (ix3 0 j n) :=
  (congrFun ((W5_of m ρ c main_v17 (by decide)).trans (W4_of m ρ c main_v17 (by decide))) _).trans
    ((w3_v17 m ρ c j n).trans (congrFun (W2_args m ρ c main_arg7 (by decide)) _))

theorem x1_row (r : Fin 512) (n : Fin 1024) :
    W6 (F := Ideal) m ρ c main_v104 (ix2 r n) = (kArgs m c).x1 (kMods m ρ c r) (bOf r) (tOf r) n :=
  (congrFun ((W6_arr m ρ c 6).trans (arr1 (V5 m ρ) c)) (ix2 r n)).trans
    (ffLayer_congr (funext fun k => w5_v0 m ρ c r k) rfl rfl rfl (funext fun k => funext fun j => w5_v15 m ρ c k j)
      (funext fun j => funext fun n => w5_v17 m ρ c j n)
      (funext fun k => (w5_v102 m ρ c k).trans (congrFun (W4_args m ρ c main_arg12 (by decide)) _))
      (funext fun k => (w5_v103 m ρ c k).trans (congrFun (W4_args m ρ c main_arg13 (by decide)) _)) n)

/-! ## The third call -/

theorem w6_v13 : W6 (F := Ideal) m ρ c main_v13 = W5 (F := Ideal) m ρ c main_v13 := W6_of m ρ c main_v13 (by decide)

theorem w6_v91 : W6 (F := Ideal) m ρ c main_v91 = W5 (F := Ideal) m ρ c main_v91 := W6_of m ρ c main_v91 (by decide)

/-- The projection at a token, from a column of its weights. -/
theorem h_row (r : Fin 512) (f : Fin 3968) (j : Fin 2840)
    (hj : ∀ k, W5 (F := Ideal) m ρ c main_v91 (ix2 k f) = W2 (F := Ideal) m ρ c main_arg8 (ix3 0 k j)) :
    rowDot (modul (row (V6 (F := Ideal) m ρ c main_v104) r) (mrow (V6 (F := Ideal) m ρ c main_v13) 4 r)
        (mrow (V6 (F := Ideal) m ρ c main_v13) 3 r))
      (fun k => V6 (F := Ideal) m ρ c main_v91 (ix2 k f)) = (kArgs m c).h (kMods m ρ c r) (bOf r) (tOf r) j :=
  rowDot_congr (funext fun n => congr_modul (funext fun k => x1_row m ρ c r k) (funext fun k => congrFun (w6_v13 m ρ c) _)
    (funext fun k => congrFun (w6_v13 m ρ c) _) n)
    (funext fun k => (congrFun (w6_v91 m ρ c) _).trans ((hj k).trans (congrFun (W2_args m ρ c main_arg8 (by decide)) _)))

theorem sb_row (r : Fin 512) (f : Fin 1024) :
    W9 (F := Ideal) m ρ c main_v105_3 (ix2 r f) = (kArgs m c).h (kMods m ρ c r) (bOf r) (tOf r) ⟨512 + f.val, by omega⟩ :=
  (congrFun ((W9_of m ρ c main_v105_3 (by decide)).trans ((W8_of m ρ c main_v105_3 (by decide)).trans
    ((W7_arr m ρ c 6).trans (arr2_6 (V6 m ρ) c)))) (ix2 r f)).trans
    (h_row m ρ c r ⟨2176 + f.val, by omega⟩ _ fun k => w5_v91_sb m ρ c k f)

theorem nsa_row (r : Fin 512) (f : Fin 512) :
    W9 (F := Ideal) m ρ c main_v105_4 (ix2 r f) = (kArgs m c).h (kMods m ρ c r) (bOf r) (tOf r) ⟨2048 + f.val, by omega⟩ :=
  (congrFun ((W9_of m ρ c main_v105_4 (by decide)).trans ((W8_of m ρ c main_v105_4 (by decide)).trans
    ((W7_arr m ρ c 7).trans (arr2_7 (V6 m ρ) c)))) (ix2 r f)).trans
    (h_row m ρ c r ⟨3200 + f.val, by omega⟩ _ fun k => w5_v91_nsa m ρ c k f)

theorem win_row (r : Fin 512) (f : Fin 256) :
    W9 (F := Ideal) m ρ c main_v105_5 (ix2 r f) = (kArgs m c).h (kMods m ρ c r) (bOf r) (tOf r) ⟨2560 + f.val, by omega⟩ :=
  (congrFun ((W9_of m ρ c main_v105_5 (by decide)).trans ((W8_of m ρ c main_v105_5 (by decide)).trans
    ((W7_arr m ρ c 8).trans (arr2_8 (V6 m ρ) c)))) (ix2 r f)).trans
    (h_row m ρ c r ⟨3712 + f.val, by omega⟩ _ fun k => w5_v91_win m ρ c k f)

/-- The window's old rows at the end, as launched. -/
theorem old_row (b : Fin 128) (f : Fin 256) (t : Fin 512) :
    W9 (F := Ideal) m ρ c main_v3 (ix4 0 b f t)
      = argOf m c main_arg14 (ix6 0 b t ⟨f.val / 128, by omega⟩ ⟨f.val / 64 % 2, by omega⟩ ⟨f.val % 64, by omega⟩) :=
  (congrFun ((W9_of m ρ c main_v3 (by decide)).trans ((W8_of m ρ c main_v3 (by decide)).trans
    ((W7_of m ρ c main_v3 (by decide)).trans ((W6_of m ρ c main_v3 (by decide)).trans ((W5_of m ρ c main_v3 (by decide)).trans
      ((W4_of m ρ c main_v3 (by decide)).trans ((W3_of m ρ c main_v3 (by decide)).trans
        (W2_of m ρ c main_v3 (by decide))))))))) _).trans (w1_v3 m ρ c b f t)

/-! ## The last call -/

/-- A buffer that neither the second and third call nor the stretch after them writes. -/
theorem w8_of_w5 (r : Ref sig .tc) (h6 : ∀ w : Fin cfg1.W, Pipeline.arrRef spec1 w = r → (cfg1.win w).isOut = false)
    (h7 : ∀ w : Fin cfg2.W, Pipeline.arrRef spec2 w = r → (cfg2.win w).isOut = false) (h8 : r ∉ hostOps3_W) :
    W8 (F := Ideal) m ρ c (Proc.devRef .tc r) = W5 (F := Ideal) m ρ c (Proc.devRef .tc r) :=
  (W8_of m ρ c r h8).trans ((W7_of m ρ c r h7).trans (W6_of m ρ c r h6))

theorem w8_v104 (r : Fin 512) (n : Fin 1024) :
    W8 (F := Ideal) m ρ c main_v104 (ix2 r n) = (kArgs m c).x1 (kMods m ρ c r) (bOf r) (tOf r) n :=
  (congrFun ((W8_of m ρ c main_v104 (by decide)).trans (W7_of m ρ c main_v104 (by decide))) _).trans (x1_row m ρ c r n)

theorem w8_v13 : W8 (F := Ideal) m ρ c main_v13 = W5 (F := Ideal) m ρ c main_v13 :=
  w8_of_w5 m ρ c main_v13 (by decide) (by decide) (by decide)

theorem w8_v19 (k : Fin 1024) (j : Fin 5632) : W8 (F := Ideal) m ρ c main_v19 (ix2 k j) = argOf m c main_arg10 (ix3 0 k j) :=
  (congrFun ((w8_of_w5 m ρ c main_v19 (by decide) (by decide) (by decide)).trans
    ((W5_of m ρ c main_v19 (by decide)).trans (W4_of m ρ c main_v19 (by decide)))) _).trans
    ((w3_v19 m ρ c k j).trans (congrFun (W2_args m ρ c main_arg10 (by decide)) _))

theorem w8_v21 (j : Fin 2816) (n : Fin 1024) : W8 (F := Ideal) m ρ c main_v21 (ix2 j n) = argOf m c main_arg11 (ix3 0 j n) :=
  (congrFun ((w8_of_w5 m ρ c main_v21 (by decide) (by decide) (by decide)).trans
    ((W5_of m ρ c main_v21 (by decide)).trans (W4_of m ρ c main_v21 (by decide)))) _).trans
    ((w3_v21 m ρ c j n).trans (congrFun (W2_args m ρ c main_arg11 (by decide)) _))

/-- The norms' weights and offsets at the last call: rows one and two. -/
theorem w8_gain (i : Fin 2) (n : Fin 1024) :
    W8 (F := Ideal) m ρ c main_v114 (ix2 i n) = argOf m c main_arg12 (ix3 0 ⟨1 + i.val, by omega⟩ n) :=
  (w8_v114 m ρ c i n).trans ((congrFun ((W7_of m ρ c main_v100 (by decide)).trans (W6_of m ρ c main_v100 (by decide))) _).trans
    ((w5_v100 m ρ c _ n).trans (congrFun (W4_args m ρ c main_arg12 (by decide)) _)))

theorem w8_bias (i : Fin 2) (n : Fin 1024) :
    W8 (F := Ideal) m ρ c main_v115 (ix2 i n) = argOf m c main_arg13 (ix3 0 ⟨1 + i.val, by omega⟩ n) :=
  (w8_v115 m ρ c i n).trans ((congrFun ((W7_of m ρ c main_v101 (by decide)).trans (W6_of m ρ c main_v101 (by decide))) _).trans
    ((w5_v101 m ρ c _ n).trans (congrFun (W4_args m ρ c main_arg13 (by decide)) _)))

/-- The output projection's product. -/
theorem halves_row (r : Fin 512) (n : Fin 1024) :
    halvesArr (V8 (F := Ideal) m ρ c main_v112) (V8 (F := Ideal) m ρ c main_v113) (V8 (F := Ideal) m ρ c main_v94)
        (V8 (F := Ideal) m ρ c main_v99) r n
      = rowDot (fun k => (kArgs m c).o (ix3 (bOf r) (tOf r) k)) fun k => (kArgs m c).wO (ix3 0 k n) := by
  refine Eq.trans ?_ (rowDot_halves (fun k => (kArgs m c).o (ix3 (bOf r) (tOf r) k)) fun k => (kArgs m c).wO (ix3 0 k n))
  refine congrArg₂ (· + ·) (rowDot_congr (funext fun k => ?_) (funext fun k => ?_)) (rowDot_congr (funext fun k => ?_) (funext fun k => ?_))
  · exact (w8_v112 m ρ c r k).trans (congrFun (W7_args m ρ c main_arg1 (by decide)) _)
  · exact (congrFun (w8_of_w5 m ρ c main_v94 (by decide) (by decide) (by decide)) _).trans
      ((w5_v94 m ρ c k n).trans (congrFun (W4_args m ρ c main_arg9 (by decide)) _))
  · exact (w8_v113 m ρ c r k).trans (congrFun (W7_args m ρ c main_arg1 (by decide)) _)
  · exact (congrFun (w8_of_w5 m ρ c main_v99 (by decide) (by decide) (by decide)) _).trans
      ((w5_v99 m ρ c k n).trans (congrFun (W4_args m ρ c main_arg9 (by decide)) _))

theorem y_row (r : Fin 512) (n : Fin 1024) :
    W9 (F := Ideal) m ρ c main_v116 (ix2 r n) = (kArgs m c).y (kMods m ρ c r) (bOf r) (tOf r) n :=
  have hm : ∀ i, mrow (V8 (F := Ideal) m ρ c main_v13) i r = kMods m ρ c r i := fun i => funext fun k => congrFun (w8_v13 m ρ c) _
  (congrFun ((W9_arr m ρ c 10).trans (arr3 (V8 m ρ) c)) (ix2 r n)).trans
    (ffLayer_congr (postMix_congr (funext fun k => w8_v104 m ρ c r k) (funext fun n => halves_row m ρ c r n) (hm 5)
        (funext fun k => w8_gain m ρ c 0 k) (funext fun k => w8_bias m ρ c 0 k))
      (hm 7) (hm 6) (hm 8) (funext fun k => funext fun j => w8_v19 m ρ c k j) (funext fun j => funext fun n => w8_v21 m ρ c j n)
      (funext fun k => w8_gain m ρ c 1 k) (funext fun k => w8_bias m ρ c 1 k) n)

end Entry

/-! ## The claim -/

theorem finite_real [Cert.Pre_finite3.Facts] (m : (ℓ : Loc nD τ sig) → Buf (Elt Ideal) ℓ)
    (hpre : Cert.Pre_Kernel3Ideal_finite3 m) (c : Dev nD) :
    (∀ i, ∃ y : ℝ, (argOf m c main_arg3 : FVec Ideal S128x1024 .f32) i = (y : EReal))
      ∧ ∀ i, ∃ y : ℝ, (argOf m c main_arg4 : FVec Ideal S1x1024x9216 .f32) i = (y : EReal) := by
  have hb : ∀ a b : BitVec 1, IntOp.andi a b = 1#1 → a = 1#1 ∧ b = 1#1 := by decide
  have h0 := congrFun (hpre c) ix0
  obtain ⟨h1, h2⟩ := hb _ _ h0
  exact ⟨fun i => SBV.real_of_olt _ (Host.reduce_andi_all _ _ _ _ _ h1 i),
    fun i => SBV.real_of_olt _ (Host.reduce_andi_all _ _ _ _ _ h2 i)⟩

/-- The kernel's results are the reference's at finite conditioning vectors and modulation weights. -/
theorem algebraic [Cert.Pre_finite3.Facts] : Cert.algebraic_Kernel3Ideal_Reference3Ideal_pre_finite3 := by
  intro m g m' g' hpre heq
  refine ⟨fun c => Ref.outY (StableHlo.launchContents m' c), fun c => Ref.outSb (StableHlo.launchContents m' c),
    fun c => Ref.outNsa (StableHlo.launchContents m' c), fun c => Ref.outWin (StableHlo.launchContents m' c), ?_, ?_⟩
  · refine (θ_run defs _ _).mono (fun r h c => ?_) (run m g)
    obtain ⟨hy, hs, hn, hw, hargs⟩ := h c
    obtain ⟨fc, fw⟩ := finite_real m hpre c
    obtain ⟨e0, e1, e2, e3, e4, e5, e6, e7, e8, e9, e10, e11, e12, e13, e14⟩ := heq c
    have hA : Ref.args (StableHlo.launchContents m' c) = kArgs m c := by
      unfold Ref.args kArgs
      exact congr (congr (congr (congr (congr (congr (congr (congr (congr (congr (congr (congr (congrArg (Args.mk (B := 128) (T := 4)) e0) e1) e3) e4)
        e5) e6) e7) e8) e9) e10) e11) e12) e13
    have hM := kMods_eq m g c fc fw
    have hb : ∀ (b : Fin 128) (t : Fin 4), bOf ⟨b.val * 4 + t.val, by omega⟩ = b := fun b t =>
      Fin.ext (by show (b.val * 4 + t.val) / 4 = b.val; omega)
    have ht : ∀ (b : Fin 128) (t : Fin 4), tOf ⟨b.val * 4 + t.val, by omega⟩ = t := fun b t =>
      Fin.ext (by show (b.val * 4 + t.val) % 4 = t.val; omega)
    refine ⟨hy.trans (funext fun i => ?_), hs.trans (funext fun i => ?_), hn.trans (funext fun i => ?_),
      hw.trans (funext fun i => ?_), hargs⟩
    · obtain ⟨b, t, n, rfl⟩ : ∃ b t n, i = ix3 b t n := ⟨_, _, _, eq_ix3 i⟩
      have h1 := y_row m g c ⟨b.val * 4 + t.val, by omega⟩ n
      rw [hM, hb, ht] at h1
      have h2 := Ref.y_eq (StableHlo.launchContents m' c) b t n
      rw [hA] at h2
      exact (w10_v126 m g c b t n).trans (h1.trans h2.symm)
    · obtain ⟨z, b, t, s, h, d, rfl⟩ : ∃ z b t s h d, i = ix6 z b t s h d := ⟨_, _, _, _, _, _, eq_ix6 i⟩
      obtain rfl : z = 0 := Subsingleton.elim _ _
      have h1 := sb_row m g c ⟨b.val * 4 + t.val, by omega⟩ ⟨s.val * 512 + h.val * 64 + d.val, by omega⟩
      rw [hM, hb, ht] at h1
      have h2 := Ref.h_eq (StableHlo.launchContents m' c) b t ⟨512 + (s.val * 512 + h.val * 64 + d.val), by omega⟩
      rw [hA] at h2
      exact (w10_v127 m g c b t s h d).trans (h1.trans (h2.symm.trans (Ref.outSb_apply _ b t s h d).symm))
    · obtain ⟨z, b, t, s, h, d, rfl⟩ : ∃ z b t s h d, i = ix6 z b t s h d := ⟨_, _, _, _, _, _, eq_ix6 i⟩
      obtain rfl : z = 0 := Subsingleton.elim _ _
      have h1 := nsa_row m g c ⟨b.val * 4 + t.val, by omega⟩ ⟨s.val * 128 + h.val * 64 + d.val, by omega⟩
      rw [hM, hb, ht] at h1
      have h2 := Ref.h_eq (StableHlo.launchContents m' c) b t ⟨2048 + (s.val * 128 + h.val * 64 + d.val), by omega⟩
      rw [hA] at h2
      exact (w10_v128 m g c b t s h d).trans (h1.trans (h2.symm.trans (Ref.outNsa_apply _ b t s h d).symm))
    · obtain ⟨z, b, t, s, h, d, rfl⟩ : ∃ z b t s h d, i = ix6 z b t s h d := ⟨_, _, _, _, _, _, eq_ix6 i⟩
      obtain rfl : z = 0 := Subsingleton.elim _ _
      by_cases hlt : t.val < 508
      · refine (w10_v129_old m g c b t hlt s h d).trans ((old_row m g c b _ _).trans (Eq.trans ?_
          (Ref.outWin_old _ b t hlt s h d).symm))
        refine (congrArg (argOf m c main_arg14) (funext fun a => Fin.ext ?_)).trans (congrFun e14 _).symm
        match a with
        | 0 => rfl
        | 1 => rfl
        | 2 => rfl
        | 3 => show (s.val * 128 + h.val * 64 + d.val) / 128 = s.val; omega
        | 4 => show (s.val * 128 + h.val * 64 + d.val) / 64 % 2 = h.val; omega
        | 5 => show (s.val * 128 + h.val * 64 + d.val) % 64 = d.val; omega
      · have hge : 508 ≤ t.val := Nat.le_of_not_lt hlt
        have h1 := win_row m g c ⟨b.val * 4 + (t.val - 508), by omega⟩ ⟨s.val * 128 + h.val * 64 + d.val, by omega⟩
        rw [hM, hb b ⟨t.val - 508, by omega⟩, ht b ⟨t.val - 508, by omega⟩] at h1
        have h2 := Ref.h_eq (StableHlo.launchContents m' c) b ⟨t.val - 508, by omega⟩
          ⟨2560 + (s.val * 128 + h.val * 64 + d.val), by omega⟩
        rw [hA] at h2
        exact (w10_v129_new m g c b t hge s h d).trans (h1.trans (h2.symm.trans (Ref.outWin_new _ b t hge s h d).symm))
  · exact (θ_run Cert.Reference3Ideal.defs _ _).mono (fun r h c => h c)
      (Cert.Reference3Ideal.Value.run (F := Ideal) m' g')

end Cert.Proof.FS

end
-- ==== Proof.lean ====
/-
  The proof of `Cert.Claim`: for the stick-breaking prompt attention, for the prompts' path around the attention and for
  the samples', the frames of the kernel, of its ideal reading and of the reference, the rewrites and the value claims.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite2
public import proofs.«01_k».proof.Proof.Gen.Pre_finite3
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.SB.Run
public import proofs.«01_k».proof.Proof.SBK.Run
public import proofs.«01_k».proof.Proof.SBV.Value
public import proofs.«01_k».proof.Proof.FF.Value
public import proofs.«01_k».proof.Proof.FS.Value
public import Idealize.ShloMosaic.Adequacy
public import Idealize.ShloMosaic.Init

@[expose] public section

noncomputable section

-- The claims also say that every semaphore counter ends at zero; the frames show that too.

namespace Cert.Proof

open Idealize.ShloMosaic Idealize.SL.Sem Cert.Kernel

/-- The kernel's frame, at the machine's bits. -/
theorem frame_kernel : Cert.quiescent_Kernel := fun m ρ _ => Cert.Proof.SBK.frame (F := Bits) m ρ

/-- The ideal kernel's frame. -/
theorem frame_ideal : Cert.quiescent_KernelIdeal := fun m ρ _ => Cert.Proof.SB.frame (F := Ideal) m ρ

/-- The reference's frame: its run leaves the arguments, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one rewrite: the exit threshold, named. -/
theorem preserves : Cert.preserves_Kernel_KernelIdeal :=
  IdealRules.named_const.statement Cert.KernelIdeal.κ "sb_exit" .f32 0xC2B00000#32 ⊥ rfl

/-- The prompt path's frame, at the machine's bits. -/
theorem frame_kernel2 : Cert.quiescent_Kernel2 := fun m ρ _ => Cert.Kernel2.Gen.frame (F := Bits) m ρ

/-- The ideal prompt path's frame. -/
theorem frame_ideal2 : Cert.quiescent_Kernel2Ideal := fun m ρ _ => Cert.Kernel2Ideal.Gen.frame (F := Ideal) m ρ

/-- The prompt path's reference's frame. -/
theorem frame_reference2 : Cert.quiescent_Reference2Ideal := fun m ρ _ =>
  (θ_run Cert.Reference2Ideal.defs _ _).mono
    (fun r h => ⟨fun c => (h c).2.2.2.2.2.2.2, Idealize.ShloMosaic.sem_eq_zero_of_no_sems (by decide) r.2⟩)
    (Cert.Reference2Ideal.Value.run (F := Ideal) m ρ)

/-- The samples' path's frame, at the machine's bits. -/
theorem frame_kernel3 : Cert.quiescent_Kernel3 := fun m ρ _ => Cert.Kernel3.Gen.frame (F := Bits) m ρ

/-- The ideal samples' path's frame. -/
theorem frame_ideal3 : Cert.quiescent_Kernel3Ideal := fun m ρ _ => Cert.Kernel3Ideal.Gen.frame (F := Ideal) m ρ

/-- The samples' path's reference's frame. -/
theorem frame_reference3 : Cert.quiescent_Reference3Ideal := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite.Gen.facts, Cert.Pre_finite2.Gen.facts, Cert.Pre_finite3.Gen.facts,
  frame_kernel, frame_ideal, fun m ρ _ => frame_ideal m ρ trivial, frame_reference, fun m ρ _ => frame_reference m ρ trivial,
  frame_kernel2, frame_ideal2, fun m ρ _ => frame_ideal2 m ρ trivial, frame_reference2, fun m ρ _ => frame_reference2 m ρ trivial,
  frame_kernel3, frame_ideal3, fun m ρ _ => frame_ideal3 m ρ trivial, frame_reference3, fun m ρ _ => frame_reference3 m ρ trivial,
  preserves, SBV.algebraic, trivial, FF.algebraic, trivial, FS.algebraic⟩

end Cert.Proof

end
